-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x4096x128 : Shape := ⟨3, ![8, 4096, 128]⟩
abbrev S8x1024x32 : Shape := ⟨3, ![8, 1024, 32]⟩
abbrev S_ : Shape := ⟨0, ![]⟩

class Facts : Prop where
  bcast_S_S8x1024x32 : S_.BroadcastsInDim S8x1024x32 (![] : Fin 0 → Fin S8x1024x32.rank)
  reducesTo_S8x1024x32_S_d0_1_2 : S8x1024x32.ReducesTo [0, 1, 2] S_
  h_S_ : 0 < S_.numel

variable [Facts]

def fn {F : FTy → Type} [FloatOps F] (main_arg0 : FVec F S8x4096x128 .f32) (main_arg1 : IVec S8x1024x32 32) (main_arg2 : IVec S8x1024x32 32) : IVec S_ 1 :=
  let main_c : IVec S_ 32 := constantI S_ 32 0#32
  let main_v0 : IVec S8x1024x32 32 := broadcastInDim S8x1024x32 ![] bcast_S_S8x1024x32 main_c
  let main_v1 : IVec S8x1024x32 1 := cmpi .sge main_arg1 main_v0
  let main_c_0 : IVec S_ 32 := constantI S_ 32 4096#32
  let main_v2 : IVec S8x1024x32 32 := broadcastInDim S8x1024x32 ![] bcast_S_S8x1024x32 main_c_0
  let main_v3 : IVec S8x1024x32 1 := cmpi .slt main_arg1 main_v2
  let main_v4 : IVec S8x1024x32 1 := andi main_v1 main_v3
  let main_c_1 : IVec S_ 1 := constantI S_ 1 1#1
  let main_v5 : IVec S_ 1 := (fun x v => Host.reduce IntOp.andi x v reducesTo_S8x1024x32_S_d0_1_2 h_S_) main_v4 main_c_1
  main_v5
-- ==== Kernel.lean ====
abbrev S8x4096x128 : Shape := ⟨3, ![8, 4096, 128]⟩
abbrev S8x1024x32 : Shape := ⟨3, ![8, 1024, 32]⟩
abbrev S32768x128 : Shape := ⟨2, ![32768, 128]⟩
abbrev S8 : Shape := ⟨1, ![8]⟩
abbrev S_ : Shape := ⟨0, ![]⟩
abbrev S8x1x1 : Shape := ⟨3, ![8, 1, 1]⟩
abbrev S262144 : Shape := ⟨1, ![262144]⟩
abbrev S8192x128 : Shape := ⟨2, ![8192, 128]⟩
abbrev S4096 : Shape := ⟨1, ![4096]⟩
abbrev S128x128 : Shape := ⟨2, ![128, 128]⟩
abbrev S512x128 : Shape := ⟨2, ![512, 128]⟩
abbrev S16 : Shape := ⟨1, ![16]⟩
abbrev S128 : Shape := ⟨1, ![128]⟩
abbrev S1x16 : Shape := ⟨2, ![1, 16]⟩
abbrev S1 : Shape := ⟨1, ![1]⟩
abbrev S8x1024x128 : Shape := ⟨3, ![8, 1024, 128]⟩

abbrev nBuf : Table → Nat
  | .hbm => 15
  | .shared => 1
  | .local .scVector .vmem => 5
  | _ => 0

abbrev bufTy : (tb : Table) → Fin (nBuf tb) → BufTy
  | .hbm, ⟨0, _⟩ => ⟨S8x4096x128, .f32⟩
  | .hbm, ⟨1, _⟩ => ⟨S8x1024x32, .i32⟩
  | .hbm, ⟨2, _⟩ => ⟨S8x1024x32, .i32⟩
  | .hbm, ⟨3, _⟩ => ⟨S32768x128, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S8x1x1, .i32⟩
  | .hbm, ⟨9, _⟩ => ⟨S8x1024x32, .i32⟩
  | .hbm, ⟨10, _⟩ => ⟨S8x1024x32, .i32⟩
  | .hbm, ⟨11, _⟩ => ⟨S262144, .i32⟩
  | .hbm, ⟨12, _⟩ => ⟨S262144, .i32⟩
  | .hbm, ⟨13, _⟩ => ⟨S8192x128, .f32⟩
  | .hbm, ⟨14, _⟩ => ⟨S8x1024x128, .f32⟩
  | .shared, ⟨0, _⟩ => ⟨S8192x128, .f32⟩
  | .local .scVector .vmem, ⟨0, _⟩ => ⟨S4096, .i32⟩
  | .local .scVector .vmem, ⟨1, _⟩ => ⟨S4096, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | _, _ => ⟨S8x4096x128, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 5 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v0_scv : Ref sig .scVector := ⟨.hbm, 3, rfl⟩
abbrev main_v7_scv : Ref sig .scVector := ⟨.hbm, 11, rfl⟩
abbrev main_v8_scv : Ref sig .scVector := ⟨.hbm, 12, rfl⟩
abbrev main_v9_scv : Ref sig .scVector := ⟨.hbm, 13, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev cc0_scratch3 : Ref sig .scVector := ⟨.vmem, 2, rfl⟩
abbrev cc0_scratch4 : Ref sig .scVector := ⟨.vmem, 3, rfl⟩
abbrev cc0_scratch5 : Ref sig .scVector := ⟨.vmem, 4, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c512_i32_1 : BitVec 32 := 512#32
  let v9 : BitVec 32 := Scalar.muli arg1 c512_i32_1
  let c0_i32_37_r0 : BitVec 32 := 0#32
  ![v9.toNat, 0]
def k0_off2 (i : grid0.Coords) (c0_i32_0 : BitVec 32) : Fin 2 → Nat :=
  let arg0 : BitVec 32 := BitVec.ofNat 32 (i 0).val
  let c2_i32 : BitVec 32 := 2#32
  let v4 : BitVec 32 := Scalar.muli arg0 c2_i32
  let v5 : BitVec 32 := Scalar.addi v4 c0_i32_0
  let c8192_i32 : BitVec 32 := 8192#32
  let v6 : BitVec 32 := Scalar.muli v5 c8192_i32
  let arg1 : BitVec 32 := BitVec.ofNat 32 (i 1).val
  let c512_i32 : BitVec 32 := 512#32
  let v7 : BitVec 32 := Scalar.muli arg1 c512_i32
  let v8 : BitVec 32 := Scalar.addi v6 v7
  let c0_i32_38_r0 : BitVec 32 := 0#32
  ![v8.toNat, 0]
def k0_off3 (i : grid0.Coords) (c0_i32 : BitVec 32) : Fin 1 → Nat :=
  let arg0 : BitVec 32 := BitVec.ofNat 32 (i 0).val
  let c4096_i32 : BitVec 32 := 4096#32
  let v0 : BitVec 32 := Scalar.muli arg0 c4096_i32
  let v1 : BitVec 32 := Scalar.addi v0 c0_i32
  let arg1 : BitVec 32 := BitVec.ofNat 32 (i 1).val
  let c128_i32 : BitVec 32 := 128#32
  let v2 : BitVec 32 := Scalar.muli arg1 c128_i32
  let v3 : BitVec 32 := Scalar.addi v1 v2
  let c32_i32 : BitVec 32 := 32#32
  let v10 : BitVec 32 := Scalar.muli v3 c32_i32
  ![v10.toNat]
@[reducible] def k0_t1_loop : Scf.Loop 32 :=
  let c0_i32_4 : BitVec 32 := 0#32
  let c256_i32 : BitVec 32 := 256#32
  let v12 : BitVec 32 := Scalar.addi c0_i32_4 c256_i32
  let c1_i32 : BitVec 32 := 1#32
  ⟨c0_i32_4, v12, c1_i32⟩
def k0_off4 (k0_t1 : Fin k0_t1_loop.trips) : Fin 1 → Nat :=
  let c0_i32_4 : BitVec 32 := 0#32
  let c1_i32 : BitVec 32 := 1#32
  let arg14 : BitVec 32 := Scf.iv c0_i32_4 c1_i32 k0_t1
  let c16_i32_37 : BitVec 32 := 16#32
  let v32 : BitVec 32 := Scalar.muli arg14 c16_i32_37
  let v33 : Index := Scalar.indexCast v32
  ![v33.toNat]
@[reducible] def k0_t2_loop : Scf.Loop 32 :=
  let c0_i32_10 : BitVec 32 := 0#32
  let c16_i32 : BitVec 32 := 16#32
  let v15 : BitVec 32 := Scalar.addi c0_i32_10 c16_i32
  let c1_i32_11 : BitVec 32 := 1#32
  ⟨c0_i32_10, v15, c1_i32_11⟩
def k0_off5 (k0_t2 : Fin k0_t2_loop.trips) : Fin 1 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c1_i32_38 : BitVec 32 := 1#32
  let v33 : BitVec 32 := Scalar.addi v32 c1_i32_38
  let c128_i32_39 : BitVec 32 := 128#32
  let v34 : BitVec 32 := Scalar.muli v33 c128_i32_39
  ![v34.toNat]
def k0_off6 (k0_t2 : Fin k0_t2_loop.trips) : Fin 1 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c128_i32_42 : BitVec 32 := 128#32
  let v37 : BitVec 32 := Scalar.muli v32 c128_i32_42
  ![v37.toNat]
@[reducible] def k0_t3_loop : Scf.Loop 32 :=
  let c0_i32_46 : BitVec 32 := 0#32
  let c4_i32 : BitVec 32 := 4#32
  let v40 : BitVec 32 := Scalar.addi c0_i32_46 c4_i32
  let c1_i32_47 : BitVec 32 := 1#32
  ⟨c0_i32_46, v40, c1_i32_47⟩
def k0_off7 (k0_t2 : Fin k0_t2_loop.trips) (k0_t3 : Fin k0_t3_loop.trips) : Fin 1 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c128_i32_60 : BitVec 32 := 128#32
  let v50 : BitVec 32 := Scalar.muli v32 c128_i32_60
  let c0_i32_46 : BitVec 32 := 0#32
  let c1_i32_47 : BitVec 32 := 1#32
  let arg15 : BitVec 32 := Scf.iv c0_i32_46 c1_i32_47 k0_t3
  let c32_i32_61 : BitVec 32 := 32#32
  let v51 : BitVec 32 := Scalar.muli arg15 c32_i32_61
  let v52 : BitVec 32 := Scalar.addi v50 v51
  let v54 : Index := Scalar.indexCast v52
  ![v54.toNat]
def k0_off8 (k0_t2 : Fin k0_t2_loop.trips) (k0_t3 : Fin k0_t3_loop.trips) : Fin 1 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c128_i32_60 : BitVec 32 := 128#32
  let v50 : BitVec 32 := Scalar.muli v32 c128_i32_60
  let c0_i32_46 : BitVec 32 := 0#32
  let c1_i32_47 : BitVec 32 := 1#32
  let arg15 : BitVec 32 := Scf.iv c0_i32_46 c1_i32_47 k0_t3
  let c32_i32_61 : BitVec 32 := 32#32
  let v51 : BitVec 32 := Scalar.muli arg15 c32_i32_61
  let v52 : BitVec 32 := Scalar.addi v50 v51
  let c16_i32_63 : BitVec 32 := 16#32
  let v57 : BitVec 32 := Scalar.addi v52 c16_i32_63
  let v58 : Index := Scalar.indexCast v57
  ![v58.toNat]
def k0_off9 (k0_t3 : Fin k0_t3_loop.trips) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v71 : Index := Scalar.indexCast v53
  let c0_69 : Index := 0#32
  ![v71.toNat, 0]
def k0_off10 (k0_t3 : Fin k0_t3_loop.trips) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v78 : Index := Scalar.indexCast v53
  let c16 : Index := 16#32
  ![v78.toNat, 16]
def k0_off11 (k0_t3 : Fin k0_t3_loop.trips) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v85 : Index := Scalar.indexCast v53
  let c32 : Index := 32#32
  ![v85.toNat, 32]
def k0_off12 (k0_t3 : Fin k0_t3_loop.trips) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v92 : Index := Scalar.indexCast v53
  let c48 : Index := 48#32
  ![v92.toNat, 48]
def k0_off13 (k0_t3 : Fin k0_t3_loop.trips) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v99 : Index := Scalar.indexCast v53
  let c64 : Index := 64#32
  ![v99.toNat, 64]
def k0_off14 (k0_t3 : Fin k0_t3_loop.trips) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v106 : Index := Scalar.indexCast v53
  let c80 : Index := 80#32
  ![v106.toNat, 80]
def k0_off15 (k0_t3 : Fin k0_t3_loop.trips) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v113 : Index := Scalar.indexCast v53
  let c96 : Index := 96#32
  ![v113.toNat, 96]
def k0_off16 (k0_t3 : Fin k0_t3_loop.trips) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v120 : Index := Scalar.indexCast v53
  let c112 : Index := 112#32
  ![v120.toNat, 112]
def k0_off17 (k0_t3 : Fin k0_t3_loop.trips) (c1_i32_70 : BitVec 32) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v129 : BitVec 32 := Scalar.addi v53 c1_i32_70
  let v130 : Index := Scalar.indexCast v129
  let c0_71 : Index := 0#32
  ![v130.toNat, 0]
def k0_off18 (k0_t3 : Fin k0_t3_loop.trips) (c1_i32_72 : BitVec 32) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v136 : BitVec 32 := Scalar.addi v53 c1_i32_72
  let v137 : Index := Scalar.indexCast v136
  let c16_73 : Index := 16#32
  ![v137.toNat, 16]
def k0_off19 (k0_t3 : Fin k0_t3_loop.trips) (c1_i32_74 : BitVec 32) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v143 : BitVec 32 := Scalar.addi v53 c1_i32_74
  let v144 : Index := Scalar.indexCast v143
  let c32_75 : Index := 32#32
  ![v144.toNat, 32]
def k0_off20 (k0_t3 : Fin k0_t3_loop.trips) (c1_i32_76 : BitVec 32) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v150 : BitVec 32 := Scalar.addi v53 c1_i32_76
  let v151 : Index := Scalar.indexCast v150
  let c48_77 : Index := 48#32
  ![v151.toNat, 48]
def k0_off21 (k0_t3 : Fin k0_t3_loop.trips) (c1_i32_78 : BitVec 32) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v157 : BitVec 32 := Scalar.addi v53 c1_i32_78
  let v158 : Index := Scalar.indexCast v157
  let c64_79 : Index := 64#32
  ![v158.toNat, 64]
def k0_off22 (k0_t3 : Fin k0_t3_loop.trips) (c1_i32_80 : BitVec 32) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v164 : BitVec 32 := Scalar.addi v53 c1_i32_80
  let v165 : Index := Scalar.indexCast v164
  let c80_81 : Index := 80#32
  ![v165.toNat, 80]
def k0_off23 (k0_t3 : Fin k0_t3_loop.trips) (c1_i32_82 : BitVec 32) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v171 : BitVec 32 := Scalar.addi v53 c1_i32_82
  let v172 : Index := Scalar.indexCast v171
  let c96_83 : Index := 96#32
  ![v172.toNat, 96]
def k0_off24 (k0_t3 : Fin k0_t3_loop.trips) (c1_i32_84 : BitVec 32) : Fin 2 → Nat :=
  let c0_i32_46 : BitVec 32 := 0#32
  let c1_i32_47 : BitVec 32 := 1#32
  let arg15 : BitVec 32 := Scf.iv c0_i32_46 c1_i32_47 k0_t3
  let c32_i32_62 : BitVec 32 := 32#32
  let v53 : BitVec 32 := Scalar.muli arg15 c32_i32_62
  let v178 : BitVec 32 := Scalar.addi v53 c1_i32_84
  let v179 : Index := Scalar.indexCast v178
  let c112_85 : Index := 112#32
  ![v179.toNat, 112]
def k0_off25 (k0_t2 : Fin k0_t2_loop.trips) (k0_t3 : Fin k0_t3_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c4_i32_540 : BitVec 32 := 4#32
  let v1925 : BitVec 32 := Scalar.muli v32 c4_i32_540
  let c0_i32_46 : BitVec 32 := 0#32
  let c1_i32_47 : BitVec 32 := 1#32
  let arg15 : BitVec 32 := Scf.iv c0_i32_46 c1_i32_47 k0_t3
  let v1926 : BitVec 32 := Scalar.addi v1925 arg15
  let v1927 : Index := Scalar.indexCast v1926
  let c0_541 : Index := 0#32
  ![v1927.toNat, 0]
def k0_off26 (k0_t2 : Fin k0_t2_loop.trips) (k0_t3 : Fin k0_t3_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c4_i32_542 : BitVec 32 := 4#32
  let v1931 : BitVec 32 := Scalar.muli v32 c4_i32_542
  let c0_i32_46 : BitVec 32 := 0#32
  let c1_i32_47 : BitVec 32 := 1#32
  let arg15 : BitVec 32 := Scf.iv c0_i32_46 c1_i32_47 k0_t3
  let v1932 : BitVec 32 := Scalar.addi v1931 arg15
  let v1933 : Index := Scalar.indexCast v1932
  let c16_543 : Index := 16#32
  ![v1933.toNat, 16]
def k0_off27 (k0_t2 : Fin k0_t2_loop.trips) (k0_t3 : Fin k0_t3_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c4_i32_544 : BitVec 32 := 4#32
  let v1937 : BitVec 32 := Scalar.muli v32 c4_i32_544
  let c0_i32_46 : BitVec 32 := 0#32
  let c1_i32_47 : BitVec 32 := 1#32
  let arg15 : BitVec 32 := Scf.iv c0_i32_46 c1_i32_47 k0_t3
  let v1938 : BitVec 32 := Scalar.addi v1937 arg15
  let v1939 : Index := Scalar.indexCast v1938
  let c32_545 : Index := 32#32
  ![v1939.toNat, 32]
def k0_off28 (k0_t2 : Fin k0_t2_loop.trips) (k0_t3 : Fin k0_t3_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c4_i32_546 : BitVec 32 := 4#32
  let v1943 : BitVec 32 := Scalar.muli v32 c4_i32_546
  let c0_i32_46 : BitVec 32 := 0#32
  let c1_i32_47 : BitVec 32 := 1#32
  let arg15 : BitVec 32 := Scf.iv c0_i32_46 c1_i32_47 k0_t3
  let v1944 : BitVec 32 := Scalar.addi v1943 arg15
  let v1945 : Index := Scalar.indexCast v1944
  let c48_547 : Index := 48#32
  ![v1945.toNat, 48]
def k0_off29 (k0_t2 : Fin k0_t2_loop.trips) (k0_t3 : Fin k0_t3_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c4_i32_548 : BitVec 32 := 4#32
  let v1949 : BitVec 32 := Scalar.muli v32 c4_i32_548
  let c0_i32_46 : BitVec 32 := 0#32
  let c1_i32_47 : BitVec 32 := 1#32
  let arg15 : BitVec 32 := Scf.iv c0_i32_46 c1_i32_47 k0_t3
  let v1950 : BitVec 32 := Scalar.addi v1949 arg15
  let v1951 : Index := Scalar.indexCast v1950
  let c64_549 : Index := 64#32
  ![v1951.toNat, 64]
def k0_off30 (k0_t2 : Fin k0_t2_loop.trips) (k0_t3 : Fin k0_t3_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c4_i32_550 : BitVec 32 := 4#32
  let v1955 : BitVec 32 := Scalar.muli v32 c4_i32_550
  let c0_i32_46 : BitVec 32 := 0#32
  let c1_i32_47 : BitVec 32 := 1#32
  let arg15 : BitVec 32 := Scf.iv c0_i32_46 c1_i32_47 k0_t3
  let v1956 : BitVec 32 := Scalar.addi v1955 arg15
  let v1957 : Index := Scalar.indexCast v1956
  let c80_551 : Index := 80#32
  ![v1957.toNat, 80]
def k0_off31 (k0_t2 : Fin k0_t2_loop.trips) (k0_t3 : Fin k0_t3_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c4_i32_552 : BitVec 32 := 4#32
  let v1961 : BitVec 32 := Scalar.muli v32 c4_i32_552
  let c0_i32_46 : BitVec 32 := 0#32
  let c1_i32_47 : BitVec 32 := 1#32
  let arg15 : BitVec 32 := Scf.iv c0_i32_46 c1_i32_47 k0_t3
  let v1962 : BitVec 32 := Scalar.addi v1961 arg15
  let v1963 : Index := Scalar.indexCast v1962
  let c96_553 : Index := 96#32
  ![v1963.toNat, 96]
def k0_off32 (k0_t2 : Fin k0_t2_loop.trips) (k0_t3 : Fin k0_t3_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c4_i32_554 : BitVec 32 := 4#32
  let v1967 : BitVec 32 := Scalar.muli v32 c4_i32_554
  let c0_i32_46 : BitVec 32 := 0#32
  let c1_i32_47 : BitVec 32 := 1#32
  let arg15 : BitVec 32 := Scf.iv c0_i32_46 c1_i32_47 k0_t3
  let v1968 : BitVec 32 := Scalar.addi v1967 arg15
  let v1969 : Index := Scalar.indexCast v1968
  let c112_555 : Index := 112#32
  ![v1969.toNat, 112]
def k0_cond1 (k0_t2 : Fin k0_t2_loop.trips) : BitVec 1 :=
  let c0_i32_10 : BitVec 32 := 0#32
  let c1_i32_11 : BitVec 32 := 1#32
  let arg14 : BitVec 32 := Scf.iv c0_i32_10 c1_i32_11 k0_t2
  let c15_i32 : BitVec 32 := 15#32
  let v41 : BitVec 1 := Scalar.cmpi .slt arg14 c15_i32
  let v42 : BitVec 32 := Scalar.extui v41
  let c0_i32_49 : BitVec 32 := 0#32
  let v43 : BitVec 1 := Scalar.cmpi .ne v42 c0_i32_49
  v43

def k0_off33 (k0_t2 : Fin k0_t2_loop.trips) : Fin 1 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c2_i32_60 : BitVec 32 := 2#32
  let v50 : BitVec 32 := Scalar.addi v32 c2_i32_60
  let c128_i32_61 : BitVec 32 := 128#32
  let v51 : BitVec 32 := Scalar.muli v50 c128_i32_61
  ![v51.toNat]
@[reducible] def k0_t4_loop : Scf.Loop 32 :=
  let c0_i32_56 : BitVec 32 := 0#32
  let c4_i32_57 : BitVec 32 := 4#32
  let v49 : BitVec 32 := Scalar.addi c0_i32_56 c4_i32_57
  let c1_i32_58 : BitVec 32 := 1#32
  ⟨c0_i32_56, v49, c1_i32_58⟩
def k0_off34 (k0_t2 : Fin k0_t2_loop.trips) (k0_t4 : Fin k0_t4_loop.trips) : Fin 1 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c1_i32_54 : BitVec 32 := 1#32
  let v48 : BitVec 32 := Scalar.addi v32 c1_i32_54
  let c128_i32_60 : BitVec 32 := 128#32
  let v50 : BitVec 32 := Scalar.muli v48 c128_i32_60
  let c0_i32_56 : BitVec 32 := 0#32
  let c1_i32_58 : BitVec 32 := 1#32
  let arg15 : BitVec 32 := Scf.iv c0_i32_56 c1_i32_58 k0_t4
  let c32_i32_61 : BitVec 32 := 32#32
  let v51 : BitVec 32 := Scalar.muli arg15 c32_i32_61
  let v52 : BitVec 32 := Scalar.addi v50 v51
  let v54 : Index := Scalar.indexCast v52
  ![v54.toNat]
def k0_off35 (k0_t2 : Fin k0_t2_loop.trips) (k0_t4 : Fin k0_t4_loop.trips) : Fin 1 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c1_i32_54 : BitVec 32 := 1#32
  let v48 : BitVec 32 := Scalar.addi v32 c1_i32_54
  let c128_i32_60 : BitVec 32 := 128#32
  let v50 : BitVec 32 := Scalar.muli v48 c128_i32_60
  let c0_i32_56 : BitVec 32 := 0#32
  let c1_i32_58 : BitVec 32 := 1#32
  let arg15 : BitVec 32 := Scf.iv c0_i32_56 c1_i32_58 k0_t4
  let c32_i32_61 : BitVec 32 := 32#32
  let v51 : BitVec 32 := Scalar.muli arg15 c32_i32_61
  let v52 : BitVec 32 := Scalar.addi v50 v51
  let c16_i32_63 : BitVec 32 := 16#32
  let v57 : BitVec 32 := Scalar.addi v52 c16_i32_63
  let v58 : Index := Scalar.indexCast v57
  ![v58.toNat]
def k0_off36 (k0_t4 : Fin k0_t4_loop.trips) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v71 : Index := Scalar.indexCast v53
  let c0_69 : Index := 0#32
  ![v71.toNat, 0]
def k0_off37 (k0_t4 : Fin k0_t4_loop.trips) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v78 : Index := Scalar.indexCast v53
  let c16 : Index := 16#32
  ![v78.toNat, 16]
def k0_off38 (k0_t4 : Fin k0_t4_loop.trips) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v85 : Index := Scalar.indexCast v53
  let c32 : Index := 32#32
  ![v85.toNat, 32]
def k0_off39 (k0_t4 : Fin k0_t4_loop.trips) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v92 : Index := Scalar.indexCast v53
  let c48 : Index := 48#32
  ![v92.toNat, 48]
def k0_off40 (k0_t4 : Fin k0_t4_loop.trips) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v99 : Index := Scalar.indexCast v53
  let c64 : Index := 64#32
  ![v99.toNat, 64]
def k0_off41 (k0_t4 : Fin k0_t4_loop.trips) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v106 : Index := Scalar.indexCast v53
  let c80 : Index := 80#32
  ![v106.toNat, 80]
def k0_off42 (k0_t4 : Fin k0_t4_loop.trips) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v113 : Index := Scalar.indexCast v53
  let c96 : Index := 96#32
  ![v113.toNat, 96]
def k0_off43 (k0_t4 : Fin k0_t4_loop.trips) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v120 : Index := Scalar.indexCast v53
  let c112 : Index := 112#32
  ![v120.toNat, 112]
def k0_off44 (k0_t4 : Fin k0_t4_loop.trips) (c1_i32_70 : BitVec 32) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v129 : BitVec 32 := Scalar.addi v53 c1_i32_70
  let v130 : Index := Scalar.indexCast v129
  let c0_71 : Index := 0#32
  ![v130.toNat, 0]
def k0_off45 (k0_t4 : Fin k0_t4_loop.trips) (c1_i32_72 : BitVec 32) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v136 : BitVec 32 := Scalar.addi v53 c1_i32_72
  let v137 : Index := Scalar.indexCast v136
  let c16_73 : Index := 16#32
  ![v137.toNat, 16]
def k0_off46 (k0_t4 : Fin k0_t4_loop.trips) (c1_i32_74 : BitVec 32) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v143 : BitVec 32 := Scalar.addi v53 c1_i32_74
  let v144 : Index := Scalar.indexCast v143
  let c32_75 : Index := 32#32
  ![v144.toNat, 32]
def k0_off47 (k0_t4 : Fin k0_t4_loop.trips) (c1_i32_76 : BitVec 32) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v150 : BitVec 32 := Scalar.addi v53 c1_i32_76
  let v151 : Index := Scalar.indexCast v150
  let c48_77 : Index := 48#32
  ![v151.toNat, 48]
def k0_off48 (k0_t4 : Fin k0_t4_loop.trips) (c1_i32_78 : BitVec 32) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v157 : BitVec 32 := Scalar.addi v53 c1_i32_78
  let v158 : Index := Scalar.indexCast v157
  let c64_79 : Index := 64#32
  ![v158.toNat, 64]
def k0_off49 (k0_t4 : Fin k0_t4_loop.trips) (c1_i32_80 : BitVec 32) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v164 : BitVec 32 := Scalar.addi v53 c1_i32_80
  let v165 : Index := Scalar.indexCast v164
  let c80_81 : Index := 80#32
  ![v165.toNat, 80]
def k0_off50 (k0_t4 : Fin k0_t4_loop.trips) (c1_i32_82 : BitVec 32) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v171 : BitVec 32 := Scalar.addi v53 c1_i32_82
  let v172 : Index := Scalar.indexCast v171
  let c96_83 : Index := 96#32
  ![v172.toNat, 96]
def k0_off51 (k0_t4 : Fin k0_t4_loop.trips) (c1_i32_84 : BitVec 32) : Fin 2 → Nat :=
  let c0_i32_56 : BitVec 32 := 0#32
  let c1_i32_58 : BitVec 32 := 1#32
  let arg15 : BitVec 32 := Scf.iv c0_i32_56 c1_i32_58 k0_t4
  let c32_i32_62 : BitVec 32 := 32#32
  let v53 : BitVec 32 := Scalar.muli arg15 c32_i32_62
  let v178 : BitVec 32 := Scalar.addi v53 c1_i32_84
  let v179 : Index := Scalar.indexCast v178
  let c112_85 : Index := 112#32
  ![v179.toNat, 112]
def k0_off52 (k0_t2 : Fin k0_t2_loop.trips) (k0_t4 : Fin k0_t4_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c1_i32_54 : BitVec 32 := 1#32
  let v48 : BitVec 32 := Scalar.addi v32 c1_i32_54
  let c4_i32_540 : BitVec 32 := 4#32
  let v1925 : BitVec 32 := Scalar.muli v48 c4_i32_540
  let c0_i32_56 : BitVec 32 := 0#32
  let c1_i32_58 : BitVec 32 := 1#32
  let arg15 : BitVec 32 := Scf.iv c0_i32_56 c1_i32_58 k0_t4
  let v1926 : BitVec 32 := Scalar.addi v1925 arg15
  let v1927 : Index := Scalar.indexCast v1926
  let c0_541 : Index := 0#32
  ![v1927.toNat, 0]
def k0_off53 (k0_t2 : Fin k0_t2_loop.trips) (k0_t4 : Fin k0_t4_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c1_i32_54 : BitVec 32 := 1#32
  let v48 : BitVec 32 := Scalar.addi v32 c1_i32_54
  let c4_i32_542 : BitVec 32 := 4#32
  let v1931 : BitVec 32 := Scalar.muli v48 c4_i32_542
  let c0_i32_56 : BitVec 32 := 0#32
  let c1_i32_58 : BitVec 32 := 1#32
  let arg15 : BitVec 32 := Scf.iv c0_i32_56 c1_i32_58 k0_t4
  let v1932 : BitVec 32 := Scalar.addi v1931 arg15
  let v1933 : Index := Scalar.indexCast v1932
  let c16_543 : Index := 16#32
  ![v1933.toNat, 16]
def k0_off54 (k0_t2 : Fin k0_t2_loop.trips) (k0_t4 : Fin k0_t4_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c1_i32_54 : BitVec 32 := 1#32
  let v48 : BitVec 32 := Scalar.addi v32 c1_i32_54
  let c4_i32_544 : BitVec 32 := 4#32
  let v1937 : BitVec 32 := Scalar.muli v48 c4_i32_544
  let c0_i32_56 : BitVec 32 := 0#32
  let c1_i32_58 : BitVec 32 := 1#32
  let arg15 : BitVec 32 := Scf.iv c0_i32_56 c1_i32_58 k0_t4
  let v1938 : BitVec 32 := Scalar.addi v1937 arg15
  let v1939 : Index := Scalar.indexCast v1938
  let c32_545 : Index := 32#32
  ![v1939.toNat, 32]
def k0_off55 (k0_t2 : Fin k0_t2_loop.trips) (k0_t4 : Fin k0_t4_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c1_i32_54 : BitVec 32 := 1#32
  let v48 : BitVec 32 := Scalar.addi v32 c1_i32_54
  let c4_i32_546 : BitVec 32 := 4#32
  let v1943 : BitVec 32 := Scalar.muli v48 c4_i32_546
  let c0_i32_56 : BitVec 32 := 0#32
  let c1_i32_58 : BitVec 32 := 1#32
  let arg15 : BitVec 32 := Scf.iv c0_i32_56 c1_i32_58 k0_t4
  let v1944 : BitVec 32 := Scalar.addi v1943 arg15
  let v1945 : Index := Scalar.indexCast v1944
  let c48_547 : Index := 48#32
  ![v1945.toNat, 48]
def k0_off56 (k0_t2 : Fin k0_t2_loop.trips) (k0_t4 : Fin k0_t4_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c1_i32_54 : BitVec 32 := 1#32
  let v48 : BitVec 32 := Scalar.addi v32 c1_i32_54
  let c4_i32_548 : BitVec 32 := 4#32
  let v1949 : BitVec 32 := Scalar.muli v48 c4_i32_548
  let c0_i32_56 : BitVec 32 := 0#32
  let c1_i32_58 : BitVec 32 := 1#32
  let arg15 : BitVec 32 := Scf.iv c0_i32_56 c1_i32_58 k0_t4
  let v1950 : BitVec 32 := Scalar.addi v1949 arg15
  let v1951 : Index := Scalar.indexCast v1950
  let c64_549 : Index := 64#32
  ![v1951.toNat, 64]
def k0_off57 (k0_t2 : Fin k0_t2_loop.trips) (k0_t4 : Fin k0_t4_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c1_i32_54 : BitVec 32 := 1#32
  let v48 : BitVec 32 := Scalar.addi v32 c1_i32_54
  let c4_i32_550 : BitVec 32 := 4#32
  let v1955 : BitVec 32 := Scalar.muli v48 c4_i32_550
  let c0_i32_56 : BitVec 32 := 0#32
  let c1_i32_58 : BitVec 32 := 1#32
  let arg15 : BitVec 32 := Scf.iv c0_i32_56 c1_i32_58 k0_t4
  let v1956 : BitVec 32 := Scalar.addi v1955 arg15
  let v1957 : Index := Scalar.indexCast v1956
  let c80_551 : Index := 80#32
  ![v1957.toNat, 80]
def k0_off58 (k0_t2 : Fin k0_t2_loop.trips) (k0_t4 : Fin k0_t4_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c1_i32_54 : BitVec 32 := 1#32
  let v48 : BitVec 32 := Scalar.addi v32 c1_i32_54
  let c4_i32_552 : BitVec 32 := 4#32
  let v1961 : BitVec 32 := Scalar.muli v48 c4_i32_552
  let c0_i32_56 : BitVec 32 := 0#32
  let c1_i32_58 : BitVec 32 := 1#32
  let arg15 : BitVec 32 := Scf.iv c0_i32_56 c1_i32_58 k0_t4
  let v1962 : BitVec 32 := Scalar.addi v1961 arg15
  let v1963 : Index := Scalar.indexCast v1962
  let c96_553 : Index := 96#32
  ![v1963.toNat, 96]
def k0_off59 (k0_t2 : Fin k0_t2_loop.trips) (k0_t4 : Fin k0_t4_loop.trips) : Fin 2 → Nat :=
  let c2_i32_37 : BitVec 32 := 2#32
  let c0_i32_10 : BitVec 32 := 0#32
  let c1_i32_11 : BitVec 32 := 1#32
  let arg14 : BitVec 32 := Scf.iv c0_i32_10 c1_i32_11 k0_t2
  let v32 : BitVec 32 := Scalar.muli c2_i32_37 arg14
  let c1_i32_54 : BitVec 32 := 1#32
  let v48 : BitVec 32 := Scalar.addi v32 c1_i32_54
  let c4_i32_554 : BitVec 32 := 4#32
  let v1967 : BitVec 32 := Scalar.muli v48 c4_i32_554
  let c0_i32_56 : BitVec 32 := 0#32
  let c1_i32_58 : BitVec 32 := 1#32
  let arg15 : BitVec 32 := Scf.iv c0_i32_56 c1_i32_58 k0_t4
  let v1968 : BitVec 32 := Scalar.addi v1967 arg15
  let v1969 : Index := Scalar.indexCast v1968
  let c112_555 : Index := 112#32
  ![v1969.toNat, 112]
def k0_off60 (i : grid0.Coords) (c0_i32 : BitVec 32) : Fin 2 → Nat :=
  let arg0 : BitVec 32 := BitVec.ofNat 32 (i 0).val
  let c4096_i32 : BitVec 32 := 4096#32
  let v0 : BitVec 32 := Scalar.muli arg0 c4096_i32
  let v1 : BitVec 32 := Scalar.addi v0 c0_i32
  let arg1 : BitVec 32 := BitVec.ofNat 32 (i 1).val
  let c128_i32 : BitVec 32 := 128#32
  let v2 : BitVec 32 := Scalar.muli arg1 c128_i32
  let v3 : BitVec 32 := Scalar.addi v1 v2
  let c0_i32_37_r3 : BitVec 32 := 0#32
  ![v3.toNat, 0]
@[reducible] def k0_t5_loop : Scf.Loop 32 :=
  let c0_i32_24 : BitVec 32 := 0#32
  let c256_i32_25 : BitVec 32 := 256#32
  let v28 : BitVec 32 := Scalar.addi c0_i32_24 c256_i32_25
  let c1_i32_26 : BitVec 32 := 1#32
  ⟨c0_i32_24, v28, c1_i32_26⟩
def k0_off61 (k0_t5 : Fin k0_t5_loop.trips) : Fin 1 → Nat :=
  let c0_i32_24 : BitVec 32 := 0#32
  let c1_i32_26 : BitVec 32 := 1#32
  let arg14 : BitVec 32 := Scf.iv c0_i32_24 c1_i32_26 k0_t5
  let c16_i32_37 : BitVec 32 := 16#32
  let v32 : BitVec 32 := Scalar.muli arg14 c16_i32_37
  let v33 : Index := Scalar.indexCast v32
  ![v33.toNat]
@[reducible] def k0_t6_loop : Scf.Loop 32 :=
  let c0_i32_33 : BitVec 32 := 0#32
  let c16_i32_34 : BitVec 32 := 16#32
  let v31 : BitVec 32 := Scalar.addi c0_i32_33 c16_i32_34
  let c1_i32_35 : BitVec 32 := 1#32
  ⟨c0_i32_33, v31, c1_i32_35⟩
def k0_off62 (k0_t6 : Fin k0_t6_loop.trips) : Fin 1 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c1_i32_38 : BitVec 32 := 1#32
  let v33 : BitVec 32 := Scalar.addi v32 c1_i32_38
  let c128_i32_39 : BitVec 32 := 128#32
  let v34 : BitVec 32 := Scalar.muli v33 c128_i32_39
  ![v34.toNat]
def k0_off63 (k0_t6 : Fin k0_t6_loop.trips) : Fin 1 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c128_i32_42 : BitVec 32 := 128#32
  let v37 : BitVec 32 := Scalar.muli v32 c128_i32_42
  ![v37.toNat]
@[reducible] def k0_t7_loop : Scf.Loop 32 :=
  let c0_i32_46 : BitVec 32 := 0#32
  let c4_i32 : BitVec 32 := 4#32
  let v40 : BitVec 32 := Scalar.addi c0_i32_46 c4_i32
  let c1_i32_47 : BitVec 32 := 1#32
  ⟨c0_i32_46, v40, c1_i32_47⟩
def k0_off64 (k0_t6 : Fin k0_t6_loop.trips) (k0_t7 : Fin k0_t7_loop.trips) : Fin 1 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c128_i32_60 : BitVec 32 := 128#32
  let v50 : BitVec 32 := Scalar.muli v32 c128_i32_60
  let c0_i32_46 : BitVec 32 := 0#32
  let c1_i32_47 : BitVec 32 := 1#32
  let arg15 : BitVec 32 := Scf.iv c0_i32_46 c1_i32_47 k0_t7
  let c32_i32_61 : BitVec 32 := 32#32
  let v51 : BitVec 32 := Scalar.muli arg15 c32_i32_61
  let v52 : BitVec 32 := Scalar.addi v50 v51
  let v54 : Index := Scalar.indexCast v52
  ![v54.toNat]
def k0_off65 (k0_t6 : Fin k0_t6_loop.trips) (k0_t7 : Fin k0_t7_loop.trips) : Fin 1 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c128_i32_60 : BitVec 32 := 128#32
  let v50 : BitVec 32 := Scalar.muli v32 c128_i32_60
  let c0_i32_46 : BitVec 32 := 0#32
  let c1_i32_47 : BitVec 32 := 1#32
  let arg15 : BitVec 32 := Scf.iv c0_i32_46 c1_i32_47 k0_t7
  let c32_i32_61 : BitVec 32 := 32#32
  let v51 : BitVec 32 := Scalar.muli arg15 c32_i32_61
  let v52 : BitVec 32 := Scalar.addi v50 v51
  let c16_i32_63 : BitVec 32 := 16#32
  let v57 : BitVec 32 := Scalar.addi v52 c16_i32_63
  let v58 : Index := Scalar.indexCast v57
  ![v58.toNat]
def k0_off66 (k0_t7 : Fin k0_t7_loop.trips) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v71 : Index := Scalar.indexCast v53
  let c0_69 : Index := 0#32
  ![v71.toNat, 0]
def k0_off67 (k0_t7 : Fin k0_t7_loop.trips) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v78 : Index := Scalar.indexCast v53
  let c16 : Index := 16#32
  ![v78.toNat, 16]
def k0_off68 (k0_t7 : Fin k0_t7_loop.trips) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v85 : Index := Scalar.indexCast v53
  let c32 : Index := 32#32
  ![v85.toNat, 32]
def k0_off69 (k0_t7 : Fin k0_t7_loop.trips) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v92 : Index := Scalar.indexCast v53
  let c48 : Index := 48#32
  ![v92.toNat, 48]
def k0_off70 (k0_t7 : Fin k0_t7_loop.trips) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v99 : Index := Scalar.indexCast v53
  let c64 : Index := 64#32
  ![v99.toNat, 64]
def k0_off71 (k0_t7 : Fin k0_t7_loop.trips) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v106 : Index := Scalar.indexCast v53
  let c80 : Index := 80#32
  ![v106.toNat, 80]
def k0_off72 (k0_t7 : Fin k0_t7_loop.trips) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v113 : Index := Scalar.indexCast v53
  let c96 : Index := 96#32
  ![v113.toNat, 96]
def k0_off73 (k0_t7 : Fin k0_t7_loop.trips) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v120 : Index := Scalar.indexCast v53
  let c112 : Index := 112#32
  ![v120.toNat, 112]
def k0_off74 (k0_t7 : Fin k0_t7_loop.trips) (c1_i32_70 : BitVec 32) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v129 : BitVec 32 := Scalar.addi v53 c1_i32_70
  let v130 : Index := Scalar.indexCast v129
  let c0_71 : Index := 0#32
  ![v130.toNat, 0]
def k0_off75 (k0_t7 : Fin k0_t7_loop.trips) (c1_i32_72 : BitVec 32) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v136 : BitVec 32 := Scalar.addi v53 c1_i32_72
  let v137 : Index := Scalar.indexCast v136
  let c16_73 : Index := 16#32
  ![v137.toNat, 16]
def k0_off76 (k0_t7 : Fin k0_t7_loop.trips) (c1_i32_74 : BitVec 32) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v143 : BitVec 32 := Scalar.addi v53 c1_i32_74
  let v144 : Index := Scalar.indexCast v143
  let c32_75 : Index := 32#32
  ![v144.toNat, 32]
def k0_off77 (k0_t7 : Fin k0_t7_loop.trips) (c1_i32_76 : BitVec 32) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v150 : BitVec 32 := Scalar.addi v53 c1_i32_76
  let v151 : Index := Scalar.indexCast v150
  let c48_77 : Index := 48#32
  ![v151.toNat, 48]
def k0_off78 (k0_t7 : Fin k0_t7_loop.trips) (c1_i32_78 : BitVec 32) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v157 : BitVec 32 := Scalar.addi v53 c1_i32_78
  let v158 : Index := Scalar.indexCast v157
  let c64_79 : Index := 64#32
  ![v158.toNat, 64]
def k0_off79 (k0_t7 : Fin k0_t7_loop.trips) (c1_i32_80 : BitVec 32) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v164 : BitVec 32 := Scalar.addi v53 c1_i32_80
  let v165 : Index := Scalar.indexCast v164
  let c80_81 : Index := 80#32
  ![v165.toNat, 80]
def k0_off80 (k0_t7 : Fin k0_t7_loop.trips) (c1_i32_82 : BitVec 32) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v171 : BitVec 32 := Scalar.addi v53 c1_i32_82
  let v172 : Index := Scalar.indexCast v171
  let c96_83 : Index := 96#32
  ![v172.toNat, 96]
def k0_off81 (k0_t7 : Fin k0_t7_loop.trips) (c1_i32_84 : BitVec 32) : Fin 2 → Nat :=
  let c0_i32_46 : BitVec 32 := 0#32
  let c1_i32_47 : BitVec 32 := 1#32
  let arg15 : BitVec 32 := Scf.iv c0_i32_46 c1_i32_47 k0_t7
  let c32_i32_62 : BitVec 32 := 32#32
  let v53 : BitVec 32 := Scalar.muli arg15 c32_i32_62
  let v178 : BitVec 32 := Scalar.addi v53 c1_i32_84
  let v179 : Index := Scalar.indexCast v178
  let c112_85 : Index := 112#32
  ![v179.toNat, 112]
def k0_off82 (k0_t6 : Fin k0_t6_loop.trips) (k0_t7 : Fin k0_t7_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c4_i32_540 : BitVec 32 := 4#32
  let v1925 : BitVec 32 := Scalar.muli v32 c4_i32_540
  let c0_i32_46 : BitVec 32 := 0#32
  let c1_i32_47 : BitVec 32 := 1#32
  let arg15 : BitVec 32 := Scf.iv c0_i32_46 c1_i32_47 k0_t7
  let v1926 : BitVec 32 := Scalar.addi v1925 arg15
  let v1927 : Index := Scalar.indexCast v1926
  let c0_541 : Index := 0#32
  ![v1927.toNat, 0]
def k0_off83 (k0_t6 : Fin k0_t6_loop.trips) (k0_t7 : Fin k0_t7_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c4_i32_542 : BitVec 32 := 4#32
  let v1931 : BitVec 32 := Scalar.muli v32 c4_i32_542
  let c0_i32_46 : BitVec 32 := 0#32
  let c1_i32_47 : BitVec 32 := 1#32
  let arg15 : BitVec 32 := Scf.iv c0_i32_46 c1_i32_47 k0_t7
  let v1932 : BitVec 32 := Scalar.addi v1931 arg15
  let v1933 : Index := Scalar.indexCast v1932
  let c16_543 : Index := 16#32
  ![v1933.toNat, 16]
def k0_off84 (k0_t6 : Fin k0_t6_loop.trips) (k0_t7 : Fin k0_t7_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c4_i32_544 : BitVec 32 := 4#32
  let v1937 : BitVec 32 := Scalar.muli v32 c4_i32_544
  let c0_i32_46 : BitVec 32 := 0#32
  let c1_i32_47 : BitVec 32 := 1#32
  let arg15 : BitVec 32 := Scf.iv c0_i32_46 c1_i32_47 k0_t7
  let v1938 : BitVec 32 := Scalar.addi v1937 arg15
  let v1939 : Index := Scalar.indexCast v1938
  let c32_545 : Index := 32#32
  ![v1939.toNat, 32]
def k0_off85 (k0_t6 : Fin k0_t6_loop.trips) (k0_t7 : Fin k0_t7_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c4_i32_546 : BitVec 32 := 4#32
  let v1943 : BitVec 32 := Scalar.muli v32 c4_i32_546
  let c0_i32_46 : BitVec 32 := 0#32
  let c1_i32_47 : BitVec 32 := 1#32
  let arg15 : BitVec 32 := Scf.iv c0_i32_46 c1_i32_47 k0_t7
  let v1944 : BitVec 32 := Scalar.addi v1943 arg15
  let v1945 : Index := Scalar.indexCast v1944
  let c48_547 : Index := 48#32
  ![v1945.toNat, 48]
def k0_off86 (k0_t6 : Fin k0_t6_loop.trips) (k0_t7 : Fin k0_t7_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c4_i32_548 : BitVec 32 := 4#32
  let v1949 : BitVec 32 := Scalar.muli v32 c4_i32_548
  let c0_i32_46 : BitVec 32 := 0#32
  let c1_i32_47 : BitVec 32 := 1#32
  let arg15 : BitVec 32 := Scf.iv c0_i32_46 c1_i32_47 k0_t7
  let v1950 : BitVec 32 := Scalar.addi v1949 arg15
  let v1951 : Index := Scalar.indexCast v1950
  let c64_549 : Index := 64#32
  ![v1951.toNat, 64]
def k0_off87 (k0_t6 : Fin k0_t6_loop.trips) (k0_t7 : Fin k0_t7_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c4_i32_550 : BitVec 32 := 4#32
  let v1955 : BitVec 32 := Scalar.muli v32 c4_i32_550
  let c0_i32_46 : BitVec 32 := 0#32
  let c1_i32_47 : BitVec 32 := 1#32
  let arg15 : BitVec 32 := Scf.iv c0_i32_46 c1_i32_47 k0_t7
  let v1956 : BitVec 32 := Scalar.addi v1955 arg15
  let v1957 : Index := Scalar.indexCast v1956
  let c80_551 : Index := 80#32
  ![v1957.toNat, 80]
def k0_off88 (k0_t6 : Fin k0_t6_loop.trips) (k0_t7 : Fin k0_t7_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c4_i32_552 : BitVec 32 := 4#32
  let v1961 : BitVec 32 := Scalar.muli v32 c4_i32_552
  let c0_i32_46 : BitVec 32 := 0#32
  let c1_i32_47 : BitVec 32 := 1#32
  let arg15 : BitVec 32 := Scf.iv c0_i32_46 c1_i32_47 k0_t7
  let v1962 : BitVec 32 := Scalar.addi v1961 arg15
  let v1963 : Index := Scalar.indexCast v1962
  let c96_553 : Index := 96#32
  ![v1963.toNat, 96]
def k0_off89 (k0_t6 : Fin k0_t6_loop.trips) (k0_t7 : Fin k0_t7_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c4_i32_554 : BitVec 32 := 4#32
  let v1967 : BitVec 32 := Scalar.muli v32 c4_i32_554
  let c0_i32_46 : BitVec 32 := 0#32
  let c1_i32_47 : BitVec 32 := 1#32
  let arg15 : BitVec 32 := Scf.iv c0_i32_46 c1_i32_47 k0_t7
  let v1968 : BitVec 32 := Scalar.addi v1967 arg15
  let v1969 : Index := Scalar.indexCast v1968
  let c112_555 : Index := 112#32
  ![v1969.toNat, 112]
def k0_cond2 (k0_t6 : Fin k0_t6_loop.trips) : BitVec 1 :=
  let c0_i32_33 : BitVec 32 := 0#32
  let c1_i32_35 : BitVec 32 := 1#32
  let arg14 : BitVec 32 := Scf.iv c0_i32_33 c1_i32_35 k0_t6
  let c15_i32 : BitVec 32 := 15#32
  let v41 : BitVec 1 := Scalar.cmpi .slt arg14 c15_i32
  let v42 : BitVec 32 := Scalar.extui v41
  let c0_i32_49 : BitVec 32 := 0#32
  let v43 : BitVec 1 := Scalar.cmpi .ne v42 c0_i32_49
  v43

def k0_off90 (k0_t6 : Fin k0_t6_loop.trips) : Fin 1 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c2_i32_60 : BitVec 32 := 2#32
  let v50 : BitVec 32 := Scalar.addi v32 c2_i32_60
  let c128_i32_61 : BitVec 32 := 128#32
  let v51 : BitVec 32 := Scalar.muli v50 c128_i32_61
  ![v51.toNat]
@[reducible] def k0_t8_loop : Scf.Loop 32 :=
  let c0_i32_56 : BitVec 32 := 0#32
  let c4_i32_57 : BitVec 32 := 4#32
  let v49 : BitVec 32 := Scalar.addi c0_i32_56 c4_i32_57
  let c1_i32_58 : BitVec 32 := 1#32
  ⟨c0_i32_56, v49, c1_i32_58⟩
def k0_off91 (k0_t6 : Fin k0_t6_loop.trips) (k0_t8 : Fin k0_t8_loop.trips) : Fin 1 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c1_i32_54 : BitVec 32 := 1#32
  let v48 : BitVec 32 := Scalar.addi v32 c1_i32_54
  let c128_i32_60 : BitVec 32 := 128#32
  let v50 : BitVec 32 := Scalar.muli v48 c128_i32_60
  let c0_i32_56 : BitVec 32 := 0#32
  let c1_i32_58 : BitVec 32 := 1#32
  let arg15 : BitVec 32 := Scf.iv c0_i32_56 c1_i32_58 k0_t8
  let c32_i32_61 : BitVec 32 := 32#32
  let v51 : BitVec 32 := Scalar.muli arg15 c32_i32_61
  let v52 : BitVec 32 := Scalar.addi v50 v51
  let v54 : Index := Scalar.indexCast v52
  ![v54.toNat]
def k0_off92 (k0_t6 : Fin k0_t6_loop.trips) (k0_t8 : Fin k0_t8_loop.trips) : Fin 1 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c1_i32_54 : BitVec 32 := 1#32
  let v48 : BitVec 32 := Scalar.addi v32 c1_i32_54
  let c128_i32_60 : BitVec 32 := 128#32
  let v50 : BitVec 32 := Scalar.muli v48 c128_i32_60
  let c0_i32_56 : BitVec 32 := 0#32
  let c1_i32_58 : BitVec 32 := 1#32
  let arg15 : BitVec 32 := Scf.iv c0_i32_56 c1_i32_58 k0_t8
  let c32_i32_61 : BitVec 32 := 32#32
  let v51 : BitVec 32 := Scalar.muli arg15 c32_i32_61
  let v52 : BitVec 32 := Scalar.addi v50 v51
  let c16_i32_63 : BitVec 32 := 16#32
  let v57 : BitVec 32 := Scalar.addi v52 c16_i32_63
  let v58 : Index := Scalar.indexCast v57
  ![v58.toNat]
def k0_off93 (k0_t8 : Fin k0_t8_loop.trips) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v71 : Index := Scalar.indexCast v53
  let c0_69 : Index := 0#32
  ![v71.toNat, 0]
def k0_off94 (k0_t8 : Fin k0_t8_loop.trips) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v78 : Index := Scalar.indexCast v53
  let c16 : Index := 16#32
  ![v78.toNat, 16]
def k0_off95 (k0_t8 : Fin k0_t8_loop.trips) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v85 : Index := Scalar.indexCast v53
  let c32 : Index := 32#32
  ![v85.toNat, 32]
def k0_off96 (k0_t8 : Fin k0_t8_loop.trips) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v92 : Index := Scalar.indexCast v53
  let c48 : Index := 48#32
  ![v92.toNat, 48]
def k0_off97 (k0_t8 : Fin k0_t8_loop.trips) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v99 : Index := Scalar.indexCast v53
  let c64 : Index := 64#32
  ![v99.toNat, 64]
def k0_off98 (k0_t8 : Fin k0_t8_loop.trips) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v106 : Index := Scalar.indexCast v53
  let c80 : Index := 80#32
  ![v106.toNat, 80]
def k0_off99 (k0_t8 : Fin k0_t8_loop.trips) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v113 : Index := Scalar.indexCast v53
  let c96 : Index := 96#32
  ![v113.toNat, 96]
def k0_off100 (k0_t8 : Fin k0_t8_loop.trips) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v120 : Index := Scalar.indexCast v53
  let c112 : Index := 112#32
  ![v120.toNat, 112]
def k0_off101 (k0_t8 : Fin k0_t8_loop.trips) (c1_i32_70 : BitVec 32) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v129 : BitVec 32 := Scalar.addi v53 c1_i32_70
  let v130 : Index := Scalar.indexCast v129
  let c0_71 : Index := 0#32
  ![v130.toNat, 0]
def k0_off102 (k0_t8 : Fin k0_t8_loop.trips) (c1_i32_72 : BitVec 32) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v136 : BitVec 32 := Scalar.addi v53 c1_i32_72
  let v137 : Index := Scalar.indexCast v136
  let c16_73 : Index := 16#32
  ![v137.toNat, 16]
def k0_off103 (k0_t8 : Fin k0_t8_loop.trips) (c1_i32_74 : BitVec 32) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v143 : BitVec 32 := Scalar.addi v53 c1_i32_74
  let v144 : Index := Scalar.indexCast v143
  let c32_75 : Index := 32#32
  ![v144.toNat, 32]
def k0_off104 (k0_t8 : Fin k0_t8_loop.trips) (c1_i32_76 : BitVec 32) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v150 : BitVec 32 := Scalar.addi v53 c1_i32_76
  let v151 : Index := Scalar.indexCast v150
  let c48_77 : Index := 48#32
  ![v151.toNat, 48]
def k0_off105 (k0_t8 : Fin k0_t8_loop.trips) (c1_i32_78 : BitVec 32) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v157 : BitVec 32 := Scalar.addi v53 c1_i32_78
  let v158 : Index := Scalar.indexCast v157
  let c64_79 : Index := 64#32
  ![v158.toNat, 64]
def k0_off106 (k0_t8 : Fin k0_t8_loop.trips) (c1_i32_80 : BitVec 32) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v164 : BitVec 32 := Scalar.addi v53 c1_i32_80
  let v165 : Index := Scalar.indexCast v164
  let c80_81 : Index := 80#32
  ![v165.toNat, 80]
def k0_off107 (k0_t8 : Fin k0_t8_loop.trips) (c1_i32_82 : BitVec 32) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v171 : BitVec 32 := Scalar.addi v53 c1_i32_82
  let v172 : Index := Scalar.indexCast v171
  let c96_83 : Index := 96#32
  ![v172.toNat, 96]
def k0_off108 (k0_t8 : Fin k0_t8_loop.trips) (c1_i32_84 : BitVec 32) : Fin 2 → Nat :=
  let c0_i32_56 : BitVec 32 := 0#32
  let c1_i32_58 : BitVec 32 := 1#32
  let arg15 : BitVec 32 := Scf.iv c0_i32_56 c1_i32_58 k0_t8
  let c32_i32_62 : BitVec 32 := 32#32
  let v53 : BitVec 32 := Scalar.muli arg15 c32_i32_62
  let v178 : BitVec 32 := Scalar.addi v53 c1_i32_84
  let v179 : Index := Scalar.indexCast v178
  let c112_85 : Index := 112#32
  ![v179.toNat, 112]
def k0_off109 (k0_t6 : Fin k0_t6_loop.trips) (k0_t8 : Fin k0_t8_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c1_i32_54 : BitVec 32 := 1#32
  let v48 : BitVec 32 := Scalar.addi v32 c1_i32_54
  let c4_i32_540 : BitVec 32 := 4#32
  let v1925 : BitVec 32 := Scalar.muli v48 c4_i32_540
  let c0_i32_56 : BitVec 32 := 0#32
  let c1_i32_58 : BitVec 32 := 1#32
  let arg15 : BitVec 32 := Scf.iv c0_i32_56 c1_i32_58 k0_t8
  let v1926 : BitVec 32 := Scalar.addi v1925 arg15
  let v1927 : Index := Scalar.indexCast v1926
  let c0_541 : Index := 0#32
  ![v1927.toNat, 0]
def k0_off110 (k0_t6 : Fin k0_t6_loop.trips) (k0_t8 : Fin k0_t8_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c1_i32_54 : BitVec 32 := 1#32
  let v48 : BitVec 32 := Scalar.addi v32 c1_i32_54
  let c4_i32_542 : BitVec 32 := 4#32
  let v1931 : BitVec 32 := Scalar.muli v48 c4_i32_542
  let c0_i32_56 : BitVec 32 := 0#32
  let c1_i32_58 : BitVec 32 := 1#32
  let arg15 : BitVec 32 := Scf.iv c0_i32_56 c1_i32_58 k0_t8
  let v1932 : BitVec 32 := Scalar.addi v1931 arg15
  let v1933 : Index := Scalar.indexCast v1932
  let c16_543 : Index := 16#32
  ![v1933.toNat, 16]
def k0_off111 (k0_t6 : Fin k0_t6_loop.trips) (k0_t8 : Fin k0_t8_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c1_i32_54 : BitVec 32 := 1#32
  let v48 : BitVec 32 := Scalar.addi v32 c1_i32_54
  let c4_i32_544 : BitVec 32 := 4#32
  let v1937 : BitVec 32 := Scalar.muli v48 c4_i32_544
  let c0_i32_56 : BitVec 32 := 0#32
  let c1_i32_58 : BitVec 32 := 1#32
  let arg15 : BitVec 32 := Scf.iv c0_i32_56 c1_i32_58 k0_t8
  let v1938 : BitVec 32 := Scalar.addi v1937 arg15
  let v1939 : Index := Scalar.indexCast v1938
  let c32_545 : Index := 32#32
  ![v1939.toNat, 32]
def k0_off112 (k0_t6 : Fin k0_t6_loop.trips) (k0_t8 : Fin k0_t8_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c1_i32_54 : BitVec 32 := 1#32
  let v48 : BitVec 32 := Scalar.addi v32 c1_i32_54
  let c4_i32_546 : BitVec 32 := 4#32
  let v1943 : BitVec 32 := Scalar.muli v48 c4_i32_546
  let c0_i32_56 : BitVec 32 := 0#32
  let c1_i32_58 : BitVec 32 := 1#32
  let arg15 : BitVec 32 := Scf.iv c0_i32_56 c1_i32_58 k0_t8
  let v1944 : BitVec 32 := Scalar.addi v1943 arg15
  let v1945 : Index := Scalar.indexCast v1944
  let c48_547 : Index := 48#32
  ![v1945.toNat, 48]
def k0_off113 (k0_t6 : Fin k0_t6_loop.trips) (k0_t8 : Fin k0_t8_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c1_i32_54 : BitVec 32 := 1#32
  let v48 : BitVec 32 := Scalar.addi v32 c1_i32_54
  let c4_i32_548 : BitVec 32 := 4#32
  let v1949 : BitVec 32 := Scalar.muli v48 c4_i32_548
  let c0_i32_56 : BitVec 32 := 0#32
  let c1_i32_58 : BitVec 32 := 1#32
  let arg15 : BitVec 32 := Scf.iv c0_i32_56 c1_i32_58 k0_t8
  let v1950 : BitVec 32 := Scalar.addi v1949 arg15
  let v1951 : Index := Scalar.indexCast v1950
  let c64_549 : Index := 64#32
  ![v1951.toNat, 64]
def k0_off114 (k0_t6 : Fin k0_t6_loop.trips) (k0_t8 : Fin k0_t8_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c1_i32_54 : BitVec 32 := 1#32
  let v48 : BitVec 32 := Scalar.addi v32 c1_i32_54
  let c4_i32_550 : BitVec 32 := 4#32
  let v1955 : BitVec 32 := Scalar.muli v48 c4_i32_550
  let c0_i32_56 : BitVec 32 := 0#32
  let c1_i32_58 : BitVec 32 := 1#32
  let arg15 : BitVec 32 := Scf.iv c0_i32_56 c1_i32_58 k0_t8
  let v1956 : BitVec 32 := Scalar.addi v1955 arg15
  let v1957 : Index := Scalar.indexCast v1956
  let c80_551 : Index := 80#32
  ![v1957.toNat, 80]
def k0_off115 (k0_t6 : Fin k0_t6_loop.trips) (k0_t8 : Fin k0_t8_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c1_i32_54 : BitVec 32 := 1#32
  let v48 : BitVec 32 := Scalar.addi v32 c1_i32_54
  let c4_i32_552 : BitVec 32 := 4#32
  let v1961 : BitVec 32 := Scalar.muli v48 c4_i32_552
  let c0_i32_56 : BitVec 32 := 0#32
  let c1_i32_58 : BitVec 32 := 1#32
  let arg15 : BitVec 32 := Scf.iv c0_i32_56 c1_i32_58 k0_t8
  let v1962 : BitVec 32 := Scalar.addi v1961 arg15
  let v1963 : Index := Scalar.indexCast v1962
  let c96_553 : Index := 96#32
  ![v1963.toNat, 96]
def k0_off116 (k0_t6 : Fin k0_t6_loop.trips) (k0_t8 : Fin k0_t8_loop.trips) : Fin 2 → Nat :=
  let c2_i32_37 : BitVec 32 := 2#32
  let c0_i32_33 : BitVec 32 := 0#32
  let c1_i32_35 : BitVec 32 := 1#32
  let arg14 : BitVec 32 := Scf.iv c0_i32_33 c1_i32_35 k0_t6
  let v32 : BitVec 32 := Scalar.muli c2_i32_37 arg14
  let c1_i32_54 : BitVec 32 := 1#32
  let v48 : BitVec 32 := Scalar.addi v32 c1_i32_54
  let c4_i32_554 : BitVec 32 := 4#32
  let v1967 : BitVec 32 := Scalar.muli v48 c4_i32_554
  let c0_i32_56 : BitVec 32 := 0#32
  let c1_i32_58 : BitVec 32 := 1#32
  let arg15 : BitVec 32 := Scf.iv c0_i32_56 c1_i32_58 k0_t8
  let v1968 : BitVec 32 := Scalar.addi v1967 arg15
  let v1969 : Index := Scalar.indexCast v1968
  let c112_555 : Index := 112#32
  ![v1969.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x4096x128 : Shape := ⟨3, ![8, 4096, 128]⟩
abbrev S8x1024x32 : Shape := ⟨3, ![8, 1024, 32]⟩
abbrev S8 : Shape := ⟨1, ![8]⟩
abbrev S8x1x1 : Shape := ⟨3, ![8, 1, 1]⟩
abbrev S_ : Shape := ⟨0, ![]⟩
abbrev S8x1024x32x1 : Shape := ⟨4, ![8, 1024, 32, 1]⟩
abbrev S8x1024x32x2 : Shape := ⟨4, ![8, 1024, 32, 2]⟩
abbrev S8x1024x32x128 : Shape := ⟨4, ![8, 1024, 32, 128]⟩
abbrev S8x1024x128 : Shape := ⟨3, ![8, 1024, 128]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x1024x32, .i32⟩
  | .hbm, ⟨2, _⟩ => ⟨S8x1024x32, .i32⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S8x1x1, .i32⟩
  | .hbm, ⟨7, _⟩ => ⟨S8x1x1, .i1⟩
  | .hbm, ⟨8, _⟩ => ⟨S_, .i32⟩
  | .hbm, ⟨9, _⟩ => ⟨S8x1x1, .i32⟩
  | .hbm, ⟨10, _⟩ => ⟨S8x1x1, .i32⟩
  | .hbm, ⟨11, _⟩ => ⟨S8x1x1, .i32⟩
  | .hbm, ⟨12, _⟩ => ⟨S_, .i32⟩
  | .hbm, ⟨13, _⟩ => ⟨S8x1024x32, .i32⟩
  | .hbm, ⟨14, _⟩ => ⟨S8x1024x32, .i1⟩
  | .hbm, ⟨15, _⟩ => ⟨S_, .i32⟩
  | .hbm, ⟨16, _⟩ => ⟨S8x1024x32, .i32⟩
  | .hbm, ⟨17, _⟩ => ⟨S8x1024x32, .i32⟩
  | .hbm, ⟨18, _⟩ => ⟨S8x1024x32, .i32⟩
  | .hbm, ⟨19, _⟩ => ⟨S8x1024x32, .i32⟩
  | .hbm, ⟨20, _⟩ => ⟨S8x1024x32x1, .i32⟩
  | .hbm, ⟨21, _⟩ => ⟨S8x1024x32x1, .i32⟩
  | .hbm, ⟨22, _⟩ => ⟨S8x1024x32x2, .i32⟩
  | .hbm, ⟨23, _⟩ => ⟨S8x1024x32x128, .f32⟩
  | .hbm, ⟨24, _⟩ => ⟨S8x1024x32x1, .i32⟩
  | .hbm, ⟨25, _⟩ => ⟨S_, .i32⟩
  | .hbm, ⟨26, _⟩ => ⟨S8x1024x32x1, .i32⟩
  | .hbm, ⟨27, _⟩ => ⟨S8x1024x32x1, .i1⟩
  | .hbm, ⟨28, _⟩ => ⟨S8x1024x32x1, .f32⟩
  | .hbm, ⟨29, _⟩ => ⟨S_, .f32⟩
  | .hbm, ⟨30, _⟩ => ⟨S8x1024x32x1, .f32⟩
  | .hbm, ⟨31, _⟩ => ⟨S8x1024x32x1, .f32⟩
  | .hbm, ⟨32, _⟩ => ⟨S8x1024x32x128, .f32⟩
  | .hbm, ⟨33, _⟩ => ⟨S8x1024x32x128, .f32⟩
  | .hbm, ⟨34, _⟩ => ⟨S_, .f32⟩
  | .hbm, ⟨35, _⟩ => ⟨S8x1024x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.Body.lean ====
/-
  The task of one tile, folded.

  The printed task is long because the loop over the 32 members of one entity and over the 8 groups of
  16 lanes is written out. Here the same task is written with the member loop as a recursion, once
  for the four places it stands in.
-/
module

public import proofs.«01_k».proof.Proof.Gen.KernelIdeal

@[expose] public section

noncomputable section

namespace Cert.Body

open Cert.KernelIdeal
open Cert.KernelIdeal.Facts₀ Cert.KernelIdeal.Facts
open Idealize.ShloMosaic Idealize.SL.Sem

variable {F : FTy → Type} [FloatOps F] [Facts]
variable {c : Fin τ.nSC} {s : Fin τ.nSub}

variable (F) in
/-- A program of one tile. -/
abbrev TP (c : Fin τ.nSC) (s : Fin τ.nSub) (α : Type) := Prog (TpuEff nD τ sig (Elt F) Λ₀ (.scVector c s)) α

/-- One thing for each of the eight groups of 16 lanes of a row. -/
structure Octet (X : Type) where
  /-- The first group's. -/
  x0 : X
  /-- The second group's. -/
  x1 : X
  /-- The third group's. -/
  x2 : X
  /-- The fourth group's. -/
  x3 : X
  /-- The fifth group's. -/
  x4 : X
  /-- The sixth group's. -/
  x5 : X
  /-- The seventh group's. -/
  x6 : X
  /-- The last group's. -/
  x7 : X

/-- Eight runs in a row, one for each group of lanes, their results collected. -/
def each8 {X Y : Type} (f : Fin 8 → Y → TP F c s X) : Octet Y → TP F c s (Octet X)
  | ⟨y0, y1, y2, y3, y4, y5, y6, y7⟩ => do
    let x0 ← f 0 y0
    let x1 ← f 1 y1
    let x2 ← f 2 y2
    let x3 ← f 3 y3
    let x4 ← f 4 y4
    let x5 ← f 5 y5
    let x6 ← f 6 y6
    let x7 ← f 7 y7
    pure ⟨x0, x1, x2, x3, x4, x5, x6, x7⟩

/-- The offsets of eight accesses to a 128 by 128 buffer, each of 16 lanes of one row. -/
structure Offs where
  /-- The offsets, by group. -/
  at_ : Fin 8 → Fin 2 → ℕ
  /-- They lie in the buffer. -/
  inb : ∀ g a, at_ g a + S1x16.size a ≤ S128x128.size a

/-- What a mask of 16 members adds to their rows. -/
def addend (m : Vec F S16 .i32) : FVec F S16 .f32 :=
  select (cmpi .eq (shapeCast S16 m shapeCasts_S16_S16 : IVec S16 32) (broadcast S16 (0#32)))
    (broadcast S16 (Scalar.ofBits .f32 0xF149F2CA#32)) (broadcast S16 (Scalar.ofBits .f32 0x00000000#32))

omit [Facts] in
/-- One member may be cut out of the sixteen. -/
theorem slices_one (k : ℕ) (h : k < 16) : S16.Slices ![k] S1 := ⟨rfl, by intro a; fin_cases a; exact h⟩

/-- The number added to the row of member `k`, of the sixteen in `w`. -/
def pick (w : FVec F S16 .f32) (k : ℕ) (h : k < 16) : F .f32 := extractAt ![0] (extractStridedSlice S1 ![k] w (slices_one k h)) inpos_S1_p0

/-- The number added to the row of member `k`, of 32 members with masks `m0` and `m1`. -/
def bias (m0 m1 : Vec F S16 .i32) (k : Fin 32) : F .f32 :=
  if h : k.val < 16 then pick (addend m0) k.val h else pick (addend m1) (k.val - 16) (by omega)

/-- A loaded group of lanes with the member's number added. -/
def lifted (x : Vec F S1x16 .f32) (b : F .f32) : FVec F S16 .f32 := addf (shapeCast S16 x shapeCasts_S1x16_S16) (broadcast S16 b)

section
variable (rows : Memref sig .scVector .vmem S128x128 .f32) (msk : Memref sig .scVector .vmem S4096 .i32) (out : Memref sig .scVector .vmem S128x128 .f32)

/-- The load of 16 lanes of a row. -/
def loadRow (off : Fin 2 → ℕ) (h : ∀ a, off a + S1x16.size a ≤ S128x128.size a) : TP F c s (Vec F S1x16 .f32) :=
  Prog.lift (.load rows (Rect.unit (s := S128x128) off S1x16.size h).toLoadRect (View.loadsAt_vmem h_S1x16))

/-- The members from `k + 1` on, `n` of them, taken into the running maxima. -/
def sweep (nxt : Fin 31 → Offs) (b : Fin 32 → F .f32) : (n k : ℕ) → k + n ≤ 31 → Octet (FVec F S16 .f32) → TP F c s (Octet (FVec F S16 .f32))
  | 0, _, _, acc => pure acc
  | n + 1, k, h, acc => do
    let acc' ← each8 (fun g a => do
      let x ← loadRow rows ((nxt ⟨k, by omega⟩).at_ g) ((nxt ⟨k, by omega⟩).inb g)
      pure (maximumf a (lifted x (b ⟨k + 1, by omega⟩)))) acc
    sweep nxt b n (k + 1) (by omega) acc'

/-- One entity: the maximum over its 32 members, written to a row of the output. -/
def entity (o0 o1 : Fin 1 → ℕ) (h0 : ∀ a, o0 a + S16.size a ≤ S4096.size a) (h1 : ∀ a, o1 a + S16.size a ≤ S4096.size a)
    (fst : Offs) (nxt : Fin 31 → Offs) (dst : Offs) : TP F c s PUnit := do
  let m0 ← Prog.lift (.load msk (Rect.unit (s := S4096) o0 S16.size h0).toLoadRect (View.loadsAt_vmem h_S16))
  let m1 ← Prog.lift (.load msk (Rect.unit (s := S4096) o1 S16.size h1).toLoadRect (View.loadsAt_vmem h_S16))
  let acc ← each8 (fun g _ => do
    let x ← loadRow rows (fst.at_ g) (fst.inb g)
    pure (lifted x (bias m0 m1 0))) (⟨(), (), (), (), (), (), (), ()⟩ : Octet Unit)
  let acc ← sweep rows nxt (bias m0 m1) 31 0 (by omega) acc
  let _ ← each8 (fun g a => do
    let _ ← loadRow out (dst.at_ g) (dst.inb g)
    Prog.lift (.store out (Rect.unit (s := S128x128) (dst.at_ g) S1x16.size (dst.inb g)) (shapeCast S1x16 a shapeCasts_S16_S1x16)
      Finset.univ (View.stores_vmem_bits_univ h_S1x16 rfl) (.inl rfl))) acc
  pure ⟨⟩
end

/-- The offsets of the first members' rows, in the first half of a trip. -/
def fst0 (t : Fin k0_t3_loop.trips) : Offs := ⟨![k0_off9 t, k0_off10 t, k0_off11 t, k0_off12 t, k0_off13 t, k0_off14 t, k0_off15 t, k0_off16 t],
  fun | 0 => k0_off9_inb t | 1 => k0_off10_inb t | 2 => k0_off11_inb t | 3 => k0_off12_inb t | 4 => k0_off13_inb t | 5 => k0_off14_inb t | 6 => k0_off15_inb t | 7 => k0_off16_inb t⟩

/-- The offsets of the later members' rows. -/
def nxt0 (t : Fin k0_t3_loop.trips) (r : Fin 31) : Offs :=
  ⟨![k0_off17 t (BitVec.ofNat 32 (1 + r.val)), k0_off18 t (BitVec.ofNat 32 (1 + r.val)), k0_off19 t (BitVec.ofNat 32 (1 + r.val)), k0_off20 t (BitVec.ofNat 32 (1 + r.val)),
    k0_off21 t (BitVec.ofNat 32 (1 + r.val)), k0_off22 t (BitVec.ofNat 32 (1 + r.val)), k0_off23 t (BitVec.ofNat 32 (1 + r.val)), k0_off24 t (BitVec.ofNat 32 (1 + r.val))],
  fun | 0 => k0_off17_inb t r | 1 => k0_off18_inb t r | 2 => k0_off19_inb t r | 3 => k0_off20_inb t r | 4 => k0_off21_inb t r | 5 => k0_off22_inb t r | 6 => k0_off23_inb t r | 7 => k0_off24_inb t r⟩

/-- The offsets of the row written, in the first half of a trip. -/
def dst0 (T : Fin k0_t2_loop.trips) (t : Fin k0_t3_loop.trips) : Offs :=
  ⟨![k0_off25 T t, k0_off26 T t, k0_off27 T t, k0_off28 T t, k0_off29 T t, k0_off30 T t, k0_off31 T t, k0_off32 T t],
  fun | 0 => k0_off25_inb T t | 1 => k0_off26_inb T t | 2 => k0_off27_inb T t | 3 => k0_off28_inb T t | 4 => k0_off29_inb T t | 5 => k0_off30_inb T t | 6 => k0_off31_inb T t | 7 => k0_off32_inb T t⟩

/-- The offsets of the row written, in the second half of a trip. -/
def dst1 (T : Fin k0_t2_loop.trips) (t : Fin k0_t4_loop.trips) : Offs :=
  ⟨![k0_off52 T t, k0_off53 T t, k0_off54 T t, k0_off55 T t, k0_off56 T t, k0_off57 T t, k0_off58 T t, k0_off59 T t],
  fun | 0 => k0_off52_inb T t | 1 => k0_off53_inb T t | 2 => k0_off54_inb T t | 3 => k0_off55_inb T t | 4 => k0_off56_inb T t | 5 => k0_off57_inb T t | 6 => k0_off58_inb T t | 7 => k0_off59_inb T t⟩

section
variable (c s) (arg6 : Memref sig .scVector .shared S8192x128 .f32) (arg7 arg8 : Memref sig .scVector .vmem S4096 .i32)
  (arg9 : Memref sig .scVector .vmem S128x128 .f32) (harg9 : arg9.IsWhole) (arg10 : Memref sig .scVector .vmem S128x128 .f32) (harg10 : arg10.IsWhole)
  (arg11 : Memref sig .scVector .vmem S128x128 .f32) (arg12 arg13 : DmaSems sig S_)

/-- The shared buffer, as a gather reads it. -/
abbrev spmAll : Memref sig .scVector .shared S8192x128 .f32 :=
  arg6.slice (Rect.unit (s := S8192x128) ![0, 0] S8192x128.size inb_S8192x128_S8192x128_0_0) (fun _ => rfl)

/-- 128 indices of the index buffer. -/
abbrev idxPart (off : Fin 1 → ℕ) (h : ∀ a, off a + S128.size a ≤ S4096.size a) : Memref sig .scVector .vmem S128 .i32 :=
  arg7.slice (Rect.unit (s := S4096) off S128.size h) (fun _ => rfl)

/-- The gather of 128 rows of the shared buffer. -/
def fetch (dst : Memref sig .scVector .vmem S128x128 .f32) (sem : DmaSems sig S_) (off : Fin 1 → ℕ) (h : ∀ a, off a + S128.size a ≤ S4096.size a) : TP F c s PUnit :=
  SparseCore.enqueueIndirectGather rfl (spmAll arg6) dst gathers_S8192x128_S128x128 (idxPart arg7 off h) rfl sem.sem (View.wordExact_bits rfl) rfl (Or.inr rfl)

/-- The first half's four entities. -/
def half0 (T : Fin k0_t2_loop.trips) : TP F c s PUnit :=
  Scf.Loop.for k0_t3_loop k0_t3_ok ⟨⟩ fun t _ =>
    entity arg9 arg8 arg11 (k0_off7 T t) (k0_off8 T t) (k0_off7_inb T t) (k0_off8_inb T t) (fst0 t) (nxt0 t) (dst0 T t)

/-- The second half's four entities. -/
def half1 (T : Fin k0_t2_loop.trips) : TP F c s PUnit :=
  Scf.Loop.for k0_t4_loop k0_t4_ok ⟨⟩ fun t _ =>
    entity arg10 arg8 arg11 (k0_off34 T t) (k0_off35 T t) (k0_off34_inb T t) (k0_off35_inb T t) (fst0 t) (nxt0 t) (dst1 T t)

/-- One trip of the pipelined loop: eight entities, their rows fetched one half ahead. -/
def trip (T : Fin k0_t2_loop.trips) : TP F c s PUnit := do
  fetch c s arg6 arg7 arg10 arg13 (k0_off5 T) (k0_off5_inb T)
  SparseCore.waitIndirectGather arg12.sem (spmAll arg6) arg9 (View.wordExact_bits rfl) harg9.wordExact
  half0 c s arg8 arg9 arg11 T
  if h : k0_cond1 T = 1#1 then do
    fetch c s arg6 arg7 arg9 arg12 (k0_off33 T) (k0_off33_inb T h)
    pure ⟨⟩
  else do
    pure ⟨⟩
  SparseCore.waitIndirectGather arg13.sem (spmAll arg6) arg10 (View.wordExact_bits rfl) harg10.wordExact
  half1 c s arg8 arg10 arg11 T
  pure ⟨⟩

end

/-! ## The task -/

/-- The coordinates of a tile in the grid. -/
abbrev cc (i : grid0.Coords) : Fin τ.nSC := (i 0).castLE hcore0
@[inherit_doc cc] abbrev ss (i : grid0.Coords) : Fin τ.nSub := (i 1).castLE hsub0

section
variable (i : grid0.Coords) (r : Fin 2) (sem : DmaSems sig S_)

/-- The tile's 512 rows of the table, as a copy reads them in pass `r`. -/
abbrev tblPart (arg2 : Memref sig .scVector .hbm S32768x128 .f32) : Memref sig .scVector .hbm S512x128 .f32 :=
  arg2.slice (Rect.unit (s := S32768x128) (k0_off2 i (BitVec.ofNat 32 r.val)) S512x128.size (k0_off2_inb i r)) (fun _ => rfl)

/-- The tile's 512 rows of the shared buffer. -/
abbrev spmPart (arg6 : Memref sig .scVector .shared S8192x128 .f32) : Memref sig .scVector .shared S512x128 .f32 :=
  arg6.slice (Rect.unit (s := S8192x128) (k0_off1 i) S512x128.size (k0_off1_inb i)) (fun _ => rfl)

/-- The tile's 4096 words of the indices or masks in pass `r`. -/
abbrev wordPart (src : Memref sig .scVector .hbm S262144 .i32) : Memref sig .scVector .hbm S4096 .i32 :=
  src.slice (Rect.unit (s := S262144) (k0_off3 i (BitVec.ofNat 32 (2048 * r.val))) S4096.size (k0_off3_inb i r)) (fun _ => rfl)

/-- The tile's 128 rows of the result in pass `r`. -/
abbrev outPart (arg5 : Memref sig .scVector .hbm S8192x128 .f32) : Memref sig .scVector .hbm S128x128 .f32 :=
  arg5.slice (Rect.unit (s := S8192x128) (k0_off60 i (BitVec.ofNat 32 (2048 * r.val))) S128x128.size (k0_off60_inb i r)) (fun _ => rfl)

/-- The tile's rows of the table copied to the shared buffer. -/
def takeTbl (arg2 : Memref sig .scVector .hbm S32768x128 .f32) (arg6 : Memref sig .scVector .shared S8192x128 .f32) : TP F (cc i) (ss i) PUnit := do
  Prog.lift (.enqueueDma (tblPart i r arg2) (.here (spmPart i arg6)) (.dma sem.sem) (View.wordExact_bits rfl) (View.wordExact_bits rfl) ⟨Or.inl rfl, trivial⟩)
  Prog.lift (.waitDma2 sem.sem (tblPart i r arg2) (spmPart i arg6) (View.wordExact_bits rfl) (View.wordExact_bits rfl))

/-- The tile's indices or masks copied to its own memory. -/
def takeWords (src : Memref sig .scVector .hbm S262144 .i32) (dst : Memref sig .scVector .vmem S4096 .i32) (hdst : dst.IsWhole) : TP F (cc i) (ss i) PUnit := do
  Prog.lift (.enqueueDma (wordPart i r src) (.here dst) (.dma sem.sem) (View.wordExact_bits rfl) hdst.wordExact ⟨Or.inl rfl, trivial⟩)
  Prog.lift (.waitDma2 sem.sem (wordPart i r src) dst (View.wordExact_bits rfl) hdst.wordExact)

/-- The tile's rows of the result copied out. -/
def give (arg5 : Memref sig .scVector .hbm S8192x128 .f32) (arg11 : Memref sig .scVector .vmem S128x128 .f32) (h : arg11.IsWhole) : TP F (cc i) (ss i) PUnit := do
  Prog.lift (.enqueueDma arg11 (.here (outPart i r arg5)) (.dma sem.sem) h.wordExact (View.wordExact_bits rfl) ⟨Or.inl rfl, trivial⟩)
  Prog.lift (.waitDma2 sem.sem arg11 (outPart i r arg5) h.wordExact (View.wordExact_bits rfl))

/-- The first row of the table the tile's SparseCore holds in pass `r`. -/
def rowBase : BitVec 32 := Scalar.muli (Scalar.addi (Scalar.muli (BitVec.ofNat 32 (i 0).val) 2#32) (BitVec.ofNat 32 r.val)) 8192#32
end

section
variable (c s) (arg7 : Memref sig .scVector .vmem S4096 .i32) (base : BitVec 32)

/-- Sixteen indices made relative to the rows held. -/
def shift (t : Fin k0_t1_loop.trips) : TP F c s PUnit := do
  let v ← Prog.lift (.load arg7 (Rect.unit (s := S4096) (k0_off4 t) S16.size (k0_off4_inb t)).toLoadRect (View.loadsAt_vmem h_S16))
  let _ ← Prog.lift (.load arg7 (Rect.unit (s := S4096) (k0_off4 t) S16.size (k0_off4_inb t)).toLoadRect (View.loadsAt_vmem h_S16))
  Prog.lift (.store arg7 (Rect.unit (s := S4096) (k0_off4 t) S16.size (k0_off4_inb t))
    (shapeCast S16 (subi (shapeCast S16 v shapeCasts_S16_S16 : IVec S16 32) (broadcast S16 base)) shapeCasts_S16_S16 : IVec S16 32)
    Finset.univ (View.stores_vmem_bits_univ h_S16 rfl) (.inl rfl))
  pure ⟨⟩

/-- All indices made relative. -/
def localise : TP F c s PUnit := Scf.Loop.for k0_t1_loop k0_t1_ok ⟨⟩ fun t _ => shift c s arg7 base t
end

section
variable (i : grid0.Coords) (arg2 : Memref sig .scVector .hbm S32768x128 .f32) (harg2 : arg2.IsWhole) (arg3 : Memref sig .scVector .hbm S262144 .i32) (harg3 : arg3.IsWhole)
  (arg4 : Memref sig .scVector .hbm S262144 .i32) (harg4 : arg4.IsWhole) (arg5 : Memref sig .scVector .hbm S8192x128 .f32) (harg5 : arg5.IsWhole)
  (arg6 : Memref sig .scVector .shared S8192x128 .f32) (harg6 : arg6.IsWhole) (arg7 : Memref sig .scVector .vmem S4096 .i32) (harg7 : arg7.IsWhole)
  (arg8 : Memref sig .scVector .vmem S4096 .i32) (harg8 : arg8.IsWhole) (arg9 : Memref sig .scVector .vmem S128x128 .f32) (harg9 : arg9.IsWhole)
  (arg10 : Memref sig .scVector .vmem S128x128 .f32) (harg10 : arg10.IsWhole) (arg11 : Memref sig .scVector .vmem S128x128 .f32) (harg11 : arg11.IsWhole)
  (arg12 arg13 v0 v1 v2 v3 v4 v5 v6 v7 : DmaSems sig S_)

/-- The pipelined loop: sixteen trips. -/
def trips : TP F (cc i) (ss i) PUnit := Scf.Loop.for k0_t2_loop k0_t2_ok ⟨⟩ fun T _ => trip (cc i) (ss i) arg6 arg7 arg8 arg9 harg9 arg10 harg10 arg11 arg12 arg13 T

/-- All tiles of the SparseCore meet. -/
abbrev meet : TP F (cc i) (ss i) PUnit := SparseCore.subcoreBarrier sc_bar0 (grid0.bound 1) hsub0

/-- The first fetch and the loop. -/
def work : TP F (cc i) (ss i) PUnit := do
  fetch (cc i) (ss i) arg6 arg7 arg9 arg12 ![0] inb_S4096_S128_0
  trips i arg6 arg7 arg8 arg9 harg9 arg10 harg10 arg11 arg12 arg13

/-- One pass: the rows held are refreshed, the tiles meet, and 128 entities are served. -/
def pass (r : Fin 2) (v0 v1 v2 v3 : DmaSems sig S_) : TP F (cc i) (ss i) PUnit := do
  takeTbl i r v0 arg2 arg6
  takeWords i r v1 arg3 arg7 harg7
  takeWords i r v2 arg4 arg8 harg8
  localise (cc i) (ss i) arg7 (rowBase i r)
  meet i
  work i arg6 arg7 arg8 arg9 harg9 arg10 harg10 arg11 arg12 arg13
  give i r v3 arg5 arg11 harg11

/-- The task: two passes, with a meeting between them. -/
def task : TP F (cc i) (ss i) PUnit := do
  pass i arg2 arg3 arg4 arg5 arg6 arg7 harg7 arg8 harg8 arg9 harg9 arg10 harg10 arg11 harg11 arg12 arg13 0 v0 v1 v2 v3
  meet i
  pass i arg2 arg3 arg4 arg5 arg6 arg7 harg7 arg8 harg8 arg9 harg9 arg10 harg10 arg11 harg11 arg12 arg13 1 v4 v5 v6 v7
end

end Cert.Body
-- ==== Proof.Value.lean ====
/-
  The values the tiles compute, as plain functions of tables, indices and masks.
-/
module

public import proofs.«01_k».proof.Proof.Body

@[expose] public section

noncomputable section

namespace Cert.Value

open Cert.KernelIdeal Cert.Body
open Idealize.ShloMosaic

variable {F : FTy → Type} [FloatOps F]

/-- The place with a given number of a list, the number taken modulo the length. -/
def pt1 {a : ℕ} [NeZero a] (i : ℕ) : (⟨1, ![a]⟩ : Shape).Idx := fun | 0 => Fin.ofNat a i

/-- The place at a given row and column of a matrix, each taken modulo the size. -/
def pt2 {a b : ℕ} [NeZero a] [NeZero b] (i j : ℕ) : (⟨2, ![a, b]⟩ : Shape).Idx := fun | 0 => Fin.ofNat a i | 1 => Fin.ofNat b j

/-- A place of a list is the one with its own number. -/
theorem pt1_self {a : ℕ} [NeZero a] (y : (⟨1, ![a]⟩ : Shape).Idx) {i : ℕ} (h : (y 0).val = i) : y = pt1 i := by
  funext x
  match x with
  | 0 => exact Fin.ext (by subst h; exact (Nat.mod_eq_of_lt (y 0).isLt).symm)

/-- A place of a matrix is the one at its own row and column. -/
theorem pt2_self {a b : ℕ} [NeZero a] [NeZero b] (y : (⟨2, ![a, b]⟩ : Shape).Idx) {i j : ℕ} (h : (y 0).val = i) (h' : (y 1).val = j) : y = pt2 i j := by
  funext x
  match x with
  | 0 => exact Fin.ext (by subst h; exact (Nat.mod_eq_of_lt (y 0).isLt).symm)
  | 1 => exact Fin.ext (by subst h'; exact (Nat.mod_eq_of_lt (y 1).isLt).symm)

/-- The row of a place given within the bounds. -/
theorem pt2_row {a b : ℕ} [NeZero a] [NeZero b] {i j : ℕ} (h : i < a) : ((pt2 i j : (⟨2, ![a, b]⟩ : Shape).Idx) 0).val = i := Nat.mod_eq_of_lt h

/-- The column of a place given within the bounds. -/
theorem pt2_col {a b : ℕ} [NeZero a] [NeZero b] {i j : ℕ} (h : j < b) : ((pt2 i j : (⟨2, ![a, b]⟩ : Shape).Idx) 1).val = j := Nat.mod_eq_of_lt h

/-- The number of a place given within the bounds. -/
theorem pt1_val {a : ℕ} [NeZero a] {i : ℕ} (h : i < a) : ((pt1 i : (⟨1, ![a]⟩ : Shape).Idx) 0).val = i := Nat.mod_eq_of_lt h

variable (F) in
/-- What a mask word adds: a large negative number where it is zero, nothing elsewhere. -/
def weigh (w : BitVec 32) : F .f32 :=
  Scalar.select (IntOp.cmpi .eq w 0#32) (Scalar.ofBits .f32 0xF149F2CA#32) (Scalar.ofBits .f32 0x00000000#32)

/-- The running maximum of a list of numbers: of the first `k + 1`. -/
def top (x : ℕ → F .f32) : ℕ → F .f32
  | 0 => x 0
  | k + 1 => FloatOps.maximumf (top x k) (x (k + 1))

/-- Running maxima of numbers that agree so far agree. -/
theorem top_congr {x y : ℕ → F .f32} : ∀ {k : ℕ}, (∀ i ≤ k, x i = y i) → top x k = top y k
  | 0, h => h 0 le_rfl
  | k + 1, h => by
    unfold top; rw [top_congr fun i hi => h i (by omega), h (k + 1) le_rfl]

/-- Member `k` of an entity whose rows start at `kb` in the buffer and whose masks start at `mb`: one lane of its row, the mask's number added. -/
def member (X : S128x128.Idx → F .f32) (M : S4096.Idx → BitVec 32) (kb mb j k : ℕ) : F .f32 :=
  FloatOps.addf (X (pt2 (kb + k) j)) (weigh F (M (pt1 (mb + k))))

/-- The first `k + 1` members' maximum, over a group of 16 lanes. -/
def lanes (X : S128x128.Idx → F .f32) (M : S4096.Idx → BitVec 32) (kb mb k : ℕ) (g : Fin 8) : FVec F S16 .f32 :=
  fun x => top (member X M kb mb (16 * g.val + (x 0).val)) k

/-- What 128 entities come to: of each, the maximum over its 32 members of the row its index names, in a table of 8192 rows. -/
def served (T : S8192x128.Idx → F .f32) (ix mk : S4096.Idx → BitVec 32) : S128x128.Idx → F .f32 := fun y =>
  top (fun k => FloatOps.addf (T (pt2 (ix (pt1 (32 * (y 0).val + k))).toNat (y 1).val)) (weigh F (mk (pt1 (32 * (y 0).val + k))))) 31

/-- The rows a gather brings: of the 128 indices from `o` on. -/
def gathered (T : S8192x128.Idx → F .f32) (ix : S4096.Idx → BitVec 32) (o : ℕ) : S128x128.Idx → F .f32 := fun y =>
  T (pt2 (ix (pt1 (o + (y 0).val))).toNat (y 1).val)

/-- All entities' results: of each, the maximum over its members of the row its index names in the whole table. -/
def result (T : S32768x128.Idx → F .f32) (ix mk : S262144.Idx → BitVec 32) : S8192x128.Idx → F .f32 := fun y =>
  top (fun k => FloatOps.addf (T (pt2 (ix (pt1 (32 * (y 0).val + k))).toNat (y 1).val)) (weigh F (mk (pt1 (32 * (y 0).val + k))))) 31

/-- The members of an entity, read off gathered rows, are those the served value is made of. -/
theorem member_gathered (T : S8192x128.Idx → F .f32) (ix mk : S4096.Idx → BitVec 32) {o kb e k j : ℕ} (hk : kb + k < 128) (hj : j < 128) (h : o + kb = 32 * e) :
    member (gathered T ix o) mk kb (32 * e) j k
      = FloatOps.addf (T (pt2 (ix (pt1 (32 * e + k))).toNat j)) (weigh F (mk (pt1 (32 * e + k)))) := by
  unfold member gathered
  rw [pt2_row (a := 128) hk, pt2_col (b := 128) hj, ← Nat.add_assoc, h]

/-- The maximum over an entity's members, read off gathered rows. -/
theorem top_gathered (T : S8192x128.Idx → F .f32) (ix mk : S4096.Idx → BitVec 32) {o kb : ℕ} (y : S128x128.Idx) (hk : kb + 32 ≤ 128) (h : o + kb = 32 * (y 0).val) :
    top (member (gathered T ix o) mk kb (32 * (y 0).val) (y 1).val) 31 = served T ix mk y :=
  top_congr fun _ hi => member_gathered T ix mk (by omega) (y 1).isLt h

/-- The output buffer is right in its first `n` rows. -/
def Done (G : S128x128.Idx → F .f32) (n : ℕ) (A : S128x128.Idx → F .f32) : Prop := ∀ y : S128x128.Idx, (y 0).val < n → A y = G y

end Cert.Value
-- ==== Proof.Entity.lean ====
/-
  The run of one entity: its loads, the running maxima, the stores.
-/
module

public import proofs.«01_k».proof.Proof.Value
public import Idealize.ShloMosaic.Lib.SparseCore.Ops
public import Idealize.ShloMosaic.Lib.Memref
public import Idealize.ShloMosaic.Lib.Tactic
public import Idealize.ShloMosaic.Lib.Pointwise.Reshape

@[expose] public section

noncomputable section

namespace Cert.Entity

open Cert.KernelIdeal Cert.Body Cert.Value
open Cert.KernelIdeal.Facts₀ Cert.KernelIdeal.Facts
open Idealize.ShloMosaic Idealize.ShloMosaic.SparseCore
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Facts]
variable {Ix : Type} [DecidableEq Ix] {Name : Type} [DecidableEq Name] {U : Type} [URA U] {Lvl : Type} [Preorder Lvl]
variable {defs : Defs nD τ sig (Elt F) Λ₀} (𝒱 : Variants) (bd : Option 𝒱.V)
variable (d : Dev nD) (c : Fin τ.nSC) (s : Fin τ.nSub) {α : Type} {Q : α → sProp (MT nD τ sig Ix (Elt F) Name U Lvl)}

local notation "𝕄" => MT nD τ sig Ix (Elt F) Name U Lvl
local notation "run" => wp frame (wpE defs 𝒱 (V d c s) bd) Set.univ

/-! ## Loads and stores of owned buffers -/

/-- A load of a rectangle of an owned buffer. -/
theorem load_owned {cs : CoreSpace} {sh : Shape} {e : EltTy} {m : Memref sig .scVector cs sh e} {r : Rect sh} {hl : m.view.LoadsAt r.toLoadRect}
    {q : PosShare TreeShare} {X : sh.Idx → Elt F e} {k : (r.shape.Idx → Elt F e) → TP F c s α} :
    (owns (V d c s) m q X : sProp 𝕄) ⊢ iprop((owns (V d c s) m q X -∗ run (k fun j => X (r.emb j)) Q) -∗ run (Prog.op (.load m r.toLoadRect hl) k) Q) := by
  unfold owns
  iintro ⟨%f, %hf, H⟩ Hk
  subst hf
  iapply (wp_load 𝒱 (V d c s) bd Set.univ (S := m.view.set) (by rw [← View.setOn_univ]; exact Finset.map_subset_map.mpr (Finset.subset_univ _))) $$ H
  iintro H
  iapply Hk
  iexists f
  isplitr; · ipureintro; rfl
  iexact H

/-- A store to a rectangle of an owned buffer. -/
theorem store_owned {cs : CoreSpace} {sh : Shape} {e : EltTy} {m : Memref sig .scVector cs sh e} {r : Rect sh} {w : r.shape.Idx → Elt F e}
    {hx : (m.access r).Stores Finset.univ} {hm : Finset.univ = Finset.univ ∨ ∀ a, r.stride a = 1} {X : sh.Idx → Elt F e} {k : PUnit → TP F c s α} :
    (owns (V d c s) m fullShare X : sProp 𝕄)
      ⊢ iprop((owns (V d c s) m fullShare (r.overlay X w) -∗ run (k ⟨⟩) Q) -∗ run (Prog.op (.store m r w Finset.univ hx hm) k) Q) := by
  unfold owns
  iintro ⟨%f, %hf, H⟩ Hk
  subst hf
  iapply (wp_store 𝒱 (V d c s) bd Set.univ (m := m) (r := r) (w := w) (Mk := Finset.univ) (f := f) (S := m.view.set) (by rw [View.setOn_univ]; exact m.view.set_slice_subset r)) $$ H
  iintro H
  iapply Hk
  iexists _
  isplitr
  · ipureintro
    show m.view.read (Elt F) ((m.view.slice r).write (Elt F) f w Finset.univ) = _
    funext y
    by_cases hy : y ∈ r.set
    · obtain ⟨i, rfl⟩ := r.exists_idx_of_mem hy
      show m.view.read (Elt F) _ (r.emb i) = r.overlay _ w (r.emb i)
      rw [Rect.overlay_emb, View.read_slice_write_emb r f w (Finset.mem_univ i)]
    · rw [Rect.overlay_of_not_mem _ _ _ hy, View.read_slice_write_of_not_mem r f w _ (by rwa [r.map_emb_univ])]
  iexact H

/-! ## Eight in a row -/

/-- Eight things, one for each group. -/
def oct {X : Type} (v : Fin 8 → X) : Octet X := ⟨v 0, v 1, v 2, v 3, v 4, v 5, v 6, v 7⟩

/-- Eight runs in a row, each taking the holdings one step on. -/
theorem each8_run {X Y : Type} (f : Fin 8 → Y → TP F c s X) (y : Fin 8 → Y) (v : Fin 8 → X) (P : ℕ → sProp 𝕄) {kk : Octet X → TP F c s α}
    (h : ∀ (g : Fin 8) (k : X → TP F c s α), P g.val ⊢ iprop((P (g.val + 1) -∗ run (k (v g)) Q) -∗ run (f g (y g) >>= k) Q)) :
    P 0 ⊢ iprop((P 8 -∗ run (kk (oct v)) Q) -∗ run (each8 f (oct y) >>= kk) Q) := by
  have step : ∀ (g : Fin 8) (n : ℕ) (_ : g.val = n) (k : X → TP F c s α), iprop(P n ∗ (P (n + 1) -∗ run (k (v g)) Q)) ⊢ run (f g (y g) >>= k) Q := by
    intro g n e k
    subst e
    iintro ⟨H, Hk⟩
    iapply (h g k) $$ H Hk
  unfold oct each8
  simp only [Prog.bind_assoc]
  iintro H Hk
  iapply (step 0 0 rfl); isplitl [H]; · iexact H
  iintro H; iapply (step 1 1 rfl); isplitl [H]; · iexact H
  iintro H; iapply (step 2 2 rfl); isplitl [H]; · iexact H
  iintro H; iapply (step 3 3 rfl); isplitl [H]; · iexact H
  iintro H; iapply (step 4 4 rfl); isplitl [H]; · iexact H
  iintro H; iapply (step 5 5 rfl); isplitl [H]; · iexact H
  iintro H; iapply (step 6 6 rfl); isplitl [H]; · iexact H
  iintro H; iapply (step 7 7 rfl); isplitl [H]; · iexact H
  iexact Hk

/-! ## The pieces' values -/

/-- Eight accesses of one row, 16 lanes each. -/
def _root_.Cert.Body.Offs.Row (o : Offs) (R : ℕ) : Prop := ∀ g : Fin 8, o.at_ g = ![R, 16 * g.val]

/-- Sixteen lanes of a row, loaded and cast to a vector. -/
theorem row_lanes (X : S128x128.Idx → F .f32) {off : Fin 2 → ℕ} (h : ∀ a, off a + S1x16.size a ≤ S128x128.size a) {R : ℕ} {g : Fin 8} (ho : off = ![R, 16 * g.val]) (x : S16.Idx) :
    shapeCast S16 (fun j => X ((Rect.unit (s := S128x128) off S1x16.size h).emb j) : Vec F S1x16 .f32) shapeCasts_S1x16_S16 x = X (pt2 R (16 * g.val + (x 0).val)) := by
  subst ho
  unfold shapeCast
  have hx : Shape.reshapeEquiv shapeCasts_S1x16_S16 x = (pt2 0 (x 0).val : S1x16.Idx) :=
    Shape.reshapeEquiv_eq_of_vals _ _ _ _ _ (Shape.rowMajor_val_two _) (Shape.rowMajor_val_one _) (by
      rw [pt2_row (a := 1) (b := 16) (by omega), pt2_col (a := 1) (b := 16) (x 0).isLt]; simp)
  rw [hx]
  refine congrArg X (pt2_self _ ?_ ?_)
  · show R + 1 * _ = _
    rw [pt2_row (a := 1) (b := 16) (by omega)]; rfl
  · show 16 * g.val + 1 * _ = _
    rw [pt2_col (a := 1) (b := 16) (x 0).isLt]; omega

/-- A lane of a mask vector's addend, the vector loaded from the masks. -/
theorem pick_word (M : S4096.Idx → BitVec 32) {off : Fin 1 → ℕ} (h : ∀ a, off a + S16.size a ≤ S4096.size a) {o : ℕ} (ho : off = ![o]) (k : ℕ) (hk : k < 16) :
    pick (addend (F := F) (fun j => M ((Rect.unit (s := S4096) off S16.size h).emb j))) k hk = weigh F (M (pt1 (o + k))) := by
  subst ho
  unfold pick addend weigh extractAt extractStridedSlice select cmpi shapeCast broadcast
  simp only [Shape.reshapeEquiv_self]
  rw [pt1_self (i := o + k) ((Rect.unit (s := S4096) ![o] S16.size h).emb _) (by
    show o + 1 * _ = o + k
    simp)]

/-- The numbers added, of an entity whose masks start at `mb`. -/
theorem bias_word (M : S4096.Idx → BitVec 32) {o0 o1 : Fin 1 → ℕ} (h0 : ∀ a, o0 a + S16.size a ≤ S4096.size a) (h1 : ∀ a, o1 a + S16.size a ≤ S4096.size a)
    {mb : ℕ} (e0 : o0 = ![mb]) (e1 : o1 = ![mb + 16]) (k : Fin 32) :
    bias (F := F) (fun j => M ((Rect.unit (s := S4096) o0 S16.size h0).emb j)) (fun j => M ((Rect.unit (s := S4096) o1 S16.size h1).emb j)) k = weigh F (M (pt1 (mb + k.val))) := by
  unfold bias
  split
  · next h => exact pick_word M h0 e0 k.val h
  · next h =>
    rw [pick_word M h1 e1, show mb + 16 + (k.val - 16) = mb + k.val by omega]

/-- A loaded group of lanes, the number of member `k` added. -/
theorem lifted_member (X : S128x128.Idx → F .f32) (M : S4096.Idx → BitVec 32) {off : Fin 2 → ℕ} (h : ∀ a, off a + S1x16.size a ≤ S128x128.size a) {kb mb k : ℕ} {g : Fin 8}
    (ho : off = ![kb + k, 16 * g.val]) {b : F .f32} (hb : b = weigh F (M (pt1 (mb + k)))) :
    lifted (F := F) (fun j => X ((Rect.unit (s := S128x128) off S1x16.size h).emb j)) b = fun x => member X M kb mb (16 * g.val + (x 0).val) k := by
  subst hb
  funext x
  unfold lifted addf broadcast member
  rw [row_lanes X h ho x]

/-- The output with one group of lanes of row `R` overwritten. -/
theorem overlay_row (A G : S128x128.Idx → F .f32) {off : Fin 2 → ℕ} (h : ∀ a, off a + S1x16.size a ≤ S128x128.size a) {R : ℕ} {g : Fin 8} (ho : off = ![R, 16 * g.val]) (hR : R < 128)
    (a : FVec F S16 .f32) (ha : ∀ x : S16.Idx, a x = G (pt2 R (16 * g.val + (x 0).val))) :
    (Rect.unit (s := S128x128) off S1x16.size h).overlay (fun y => if (y 0).val = R ∧ (y 1).val < 16 * g.val then G y else A y) (shapeCast S1x16 a shapeCasts_S16_S1x16)
      = fun y => if (y 0).val = R ∧ (y 1).val < 16 * (g.val + 1) then G y else A y := by
  subst ho
  funext y
  by_cases hy : y ∈ (Rect.unit (s := S128x128) ![R, 16 * g.val] S1x16.size h).set
  · have hy' := Rect.mem_set_unit.mp hy
    have h0 := hy' 0
    have h1 := hy' 1
    simp at h0 h1
    obtain ⟨i, rfl⟩ := (Rect.unit (s := S128x128) ![R, 16 * g.val] S1x16.size h).exists_idx_of_mem hy
    show Rect.overlay _ _ _ ((Rect.unit (s := S128x128) ![R, 16 * g.val] S1x16.size h).emb i) = _
    rw [Rect.overlay_emb]
    have hi : Shape.reshapeEquiv shapeCasts_S16_S1x16 i = (pt1 (i 1).val : S16.Idx) :=
      Shape.reshapeEquiv_eq_of_vals _ _ _ _ _ (Shape.rowMajor_val_one _) (Shape.rowMajor_val_two _) (by
        rw [pt1_val (a := 16) (i 1).isLt]
        have : (i 0).val < 1 := (i 0).isLt
        simp; omega)
    have e0 : (((Rect.unit (s := S128x128) ![R, 16 * g.val] S1x16.size h).emb i) 0).val = R := by
      have : (i 0).val < 1 := (i 0).isLt
      show R + 1 * (i 0).val = R; omega
    have e1 : (((Rect.unit (s := S128x128) ![R, 16 * g.val] S1x16.size h).emb i) 1).val = 16 * g.val + (i 1).val := by
      show 16 * g.val + 1 * (i 1).val = _; omega
    have hl : (i 1).val < 16 := (i 1).isLt
    unfold shapeCast
    rw [hi, ha, pt1_val (a := 16) (i 1).isLt]
    have hin : (((Rect.unit (s := S128x128) ![R, 16 * g.val] S1x16.size h).emb i) 0).val = R ∧ (((Rect.unit (s := S128x128) ![R, 16 * g.val] S1x16.size h).emb i) 1).val < 16 * (g.val + 1) :=
      ⟨e0, by rw [e1]; omega⟩
    exact (congrArg G (pt2_self _ e0 e1).symm).trans (if_pos hin).symm
  · rw [Rect.overlay_of_not_mem _ _ _ hy]
    have hy' : ¬((y 0).val = R ∧ 16 * g.val ≤ (y 1).val ∧ (y 1).val < 16 * g.val + 16) := by
      intro ⟨a0, a1, a2⟩
      refine hy (Rect.mem_set_unit.mpr fun a => ?_)
      match a with
      | 0 => exact ⟨a0.ge, by show _ < R + 1; omega⟩
      | 1 => exact ⟨a1, a2⟩
    by_cases hr : (y 0).val = R ∧ (y 1).val < 16 * g.val
    · rw [if_pos hr, if_pos ⟨hr.1, by omega⟩]
    · rw [if_neg hr, if_neg]
      rintro ⟨a, b⟩
      exact hr ⟨a, by by_contra hh; exact hy' ⟨a, by omega, by omega⟩⟩

/-! ## The run -/

section
variable {rows : Memref sig .scVector .vmem S128x128 .f32} {msk : Memref sig .scVector .vmem S4096 .i32} {out : Memref sig .scVector .vmem S128x128 .f32}
variable {q : PosShare TreeShare} {X : S128x128.Idx → F .f32} {M : S4096.Idx → BitVec 32}

/-- A load of 16 lanes of a row, and what is made of them. -/
theorem loadRow_run {m : Memref sig .scVector .vmem S128x128 .f32} {Y : Type} {off : Fin 2 → ℕ} {h : ∀ a, off a + S1x16.size a ≤ S128x128.size a} {φ : Vec F S1x16 .f32 → Y} {k : Y → TP F c s α} :
    (owns (V d c s) m q X : sProp 𝕄) ⊢ iprop((owns (V d c s) m q X -∗ run (k (φ fun j => X ((Rect.unit (s := S128x128) off S1x16.size h).emb j))) Q)
      -∗ run ((do let x ← loadRow m off h; pure (φ x)) >>= k) Q) :=
  load_owned 𝒱 bd d c s (m := m) (r := Rect.unit (s := S128x128) off S1x16.size h) (hl := View.loadsAt_vmem h_S1x16) (k := fun x => k (φ x))

/-- A store of 16 lanes of a row, after a load of them that is dropped. -/
theorem storeRow_run {m : Memref sig .scVector .vmem S128x128 .f32} {off : Fin 2 → ℕ} {h : ∀ a, off a + S1x16.size a ≤ S128x128.size a} {w : Vec F S1x16 .f32}
    {hx : (m.access (Rect.unit (s := S128x128) off S1x16.size h)).Stores Finset.univ} {hm : Finset.univ = Finset.univ ∨ ∀ a, (Rect.unit (s := S128x128) off S1x16.size h).stride a = 1}
    {k : PUnit → TP F c s α} :
    (owns (V d c s) m fullShare X : sProp 𝕄) ⊢ iprop((owns (V d c s) m fullShare ((Rect.unit (s := S128x128) off S1x16.size h).overlay X w) -∗ run (k ⟨⟩) Q)
      -∗ run ((do let _ ← loadRow m off h; Prog.lift (.store m (Rect.unit (s := S128x128) off S1x16.size h) w Finset.univ hx hm)) >>= k) Q) := by
  change _ ⊢ iprop(_ -∗ run (Prog.op (.load m (Rect.unit (s := S128x128) off S1x16.size h).toLoadRect _) fun _ => Prog.op (.store m _ w Finset.univ hx hm) fun x => k x) Q)
  iintro H Hk
  iapply (load_owned 𝒱 bd d c s) $$ H
  iintro H
  iapply (store_owned 𝒱 bd d c s) $$ H Hk

/-- The members from `k + 1` on, taken into the running maxima. -/
theorem sweep_run {kb mb : ℕ} (nxt : Fin 31 → Offs) (b : Fin 32 → F .f32) (hn : ∀ r, (nxt r).Row (kb + (r.val + 1))) (hb : ∀ k : Fin 32, b k = weigh F (M (pt1 (mb + k.val)))) :
    ∀ (n k : ℕ) (h : k + n ≤ 31) {kk : Octet (FVec F S16 .f32) → TP F c s α},
      (owns (V d c s) rows q X : sProp 𝕄) ⊢ iprop((owns (V d c s) rows q X -∗ run (kk (oct (lanes X M kb mb (k + n)))) Q)
        -∗ run (sweep rows nxt b n k h (oct (lanes X M kb mb k)) >>= kk) Q)
  | 0, k, h, kk => by
    change _ ⊢ iprop(_ -∗ run (kk (oct (lanes X M kb mb k))) Q)
    iintro H Hk
    iapply Hk $$ H
  | n + 1, k, h, kk => by
    rw [sweep, Prog.bind_assoc]
    iintro H Hk
    iapply (each8_run 𝒱 bd d c s _ (lanes X M kb mb k) (lanes X M kb mb (k + 1)) (fun _ => owns (V d c s) rows q X) (fun g k' => by
      have e := lifted_member X M ((nxt ⟨k, by omega⟩).inb g) (hn ⟨k, by omega⟩ g) (hb ⟨k + 1, by omega⟩)
      have := loadRow_run (defs := defs) 𝒱 bd d c s (q := q) (X := X) (m := rows) (h := (nxt ⟨k, by omega⟩).inb g)
        (φ := fun x => maximumf (lanes X M kb mb k g) (lifted x (b ⟨k + 1, by omega⟩))) (k := k') (Q := Q)
      rw [e] at this
      exact this)) $$ H
    iintro H
    iapply (sweep_run nxt b hn hb n (k + 1) _) $$ H
    rw [show k + 1 + n = k + (n + 1) by omega]
    iexact Hk

set_option maxRecDepth 8192 in
/-- One entity: the row `R` of the output is overwritten by the maximum over the 32 members. -/
theorem entity_run {o0 o1 : Fin 1 → ℕ} (h0 : ∀ a, o0 a + S16.size a ≤ S4096.size a) (h1 : ∀ a, o1 a + S16.size a ≤ S4096.size a)
    {fst : Offs} {nxt : Fin 31 → Offs} {dst : Offs} {kb mb R : ℕ} (e0 : o0 = ![mb]) (e1 : o1 = ![mb + 16]) (ef : fst.Row kb) (en : ∀ r, (nxt r).Row (kb + (r.val + 1)))
    (ed : dst.Row R) (hR : R < 128) {qm : PosShare TreeShare} {A G : S128x128.Idx → F .f32} (hG : ∀ y : S128x128.Idx, (y 0).val = R → top (member X M kb mb (y 1).val) 31 = G y)
    {kk : PUnit → TP F c s α} :
    iprop(owns (V d c s) rows q X ∗ owns (V d c s) msk qm M ∗ owns (V d c s) out fullShare A : sProp 𝕄)
      ⊢ iprop((iprop(owns (V d c s) rows q X ∗ owns (V d c s) msk qm M ∗ owns (V d c s) out fullShare (fun y => if (y 0).val = R then G y else A y)) -∗ run (kk ⟨⟩) Q)
        -∗ run (entity rows msk out o0 o1 h0 h1 fst nxt dst >>= kk) Q) := by
  have hb := bias_word (F := F) M h0 h1 e0 e1
  have hw : ∀ g : Fin 8, lanes X M kb mb 31 g = fun x => G (pt2 R (16 * g.val + (x 0).val)) := fun g => funext fun x => by
    have hx : (x 0).val < 16 := (x 0).isLt
    have hg := g.isLt
    rw [← hG _ (pt2_row (a := 128) (b := 128) hR), pt2_col (a := 128) (b := 128) (by omega)]; rfl
  have hA : A = fun y => if (y 0).val = R ∧ (y 1).val < 16 * 0 then G y else A y := funext fun y => (if_neg (by omega)).symm
  have hZ : (fun y : S128x128.Idx => if (y 0).val = R ∧ (y 1).val < 16 * 8 then G y else A y) = fun y => if (y 0).val = R then G y else A y := funext fun y => by
    have : (y 1).val < 128 := (y 1).isLt
    by_cases hr : (y 0).val = R
    · rw [if_pos ⟨hr, by omega⟩, if_pos hr]
    · rw [if_neg (fun h => hr h.1), if_neg hr]
  have rest : ∀ b : Fin 32 → F .f32, (∀ k : Fin 32, b k = weigh F (M (pt1 (mb + k.val)))) →
      iprop(owns (V d c s) rows q X ∗ owns (V d c s) msk qm M ∗ owns (V d c s) out fullShare A : sProp 𝕄)
        ⊢ iprop((iprop(owns (V d c s) rows q X ∗ owns (V d c s) msk qm M ∗ owns (V d c s) out fullShare (fun y => if (y 0).val = R then G y else A y)) -∗ run (kk ⟨⟩) Q)
          -∗ run (each8 (fun g _ => do let x ← loadRow rows (fst.at_ g) (fst.inb g); pure (lifted x (b 0))) (oct fun _ => ()) >>= fun acc =>
            sweep rows nxt b 31 0 (by omega) acc >>= fun acc =>
            each8 (fun g a => do
              let _ ← loadRow out (dst.at_ g) (dst.inb g)
              Prog.lift (.store out (Rect.unit (s := S128x128) (dst.at_ g) S1x16.size (dst.inb g)) (shapeCast S1x16 a shapeCasts_S16_S1x16)
                Finset.univ (View.stores_vmem_bits_univ h_S1x16 rfl) (.inl rfl))) acc >>= fun _ => kk ⟨⟩) Q) := by
    intro b hb
    iintro ⟨Hr, Hm, Ho⟩ Hk
    iapply (each8_run 𝒱 bd d c s _ (fun _ => ()) (lanes X M kb mb 0) (fun _ => owns (V d c s) rows q X) (fun g k' => by
      have e := lifted_member (k := 0) X M (fst.inb g) (ef g) (hb 0)
      have := loadRow_run (defs := defs) 𝒱 bd d c s (q := q) (X := X) (m := rows) (h := fst.inb g) (φ := fun x => lifted x (b 0)) (k := k') (Q := Q)
      rw [e] at this
      exact this)) $$ Hr
    iintro Hr
    iapply (sweep_run 𝒱 bd d c s nxt b en hb 31 0 _) $$ Hr
    iintro Hr
    ihave Ho := (Entails.of_eq (congrArg (owns (V d c s) out fullShare) hA)) $$ Ho
    iapply (each8_run 𝒱 bd d c s _ (lanes X M kb mb 31) (fun _ => ⟨⟩)
      (fun n => owns (V d c s) out fullShare (fun y => if (y 0).val = R ∧ (y 1).val < 16 * n then G y else A y)) (fun g k' => by
        have e := overlay_row A G (dst.inb g) (ed g) hR (lanes X M kb mb 31 g) (fun x => congrFun (hw g) x)
        have := storeRow_run (defs := defs) 𝒱 bd d c s (m := out) (X := fun y => if (y 0).val = R ∧ (y 1).val < 16 * g.val then G y else A y) (h := dst.inb g)
          (w := shapeCast S1x16 (lanes X M kb mb 31 g) shapeCasts_S16_S1x16) (hx := View.stores_vmem_bits_univ h_S1x16 rfl) (hm := .inl rfl) (k := k') (Q := Q)
        rw [e] at this
        exact this)) $$ Ho
    iintro Ho
    ihave Ho := (Entails.of_eq (congrArg (owns (V d c s) out fullShare) hZ)) $$ Ho
    iapply Hk
    isplitl [Hr]; · iexact Hr
    isplitl [Hm]; · iexact Hm
    iexact Ho
  have hp : entity rows msk out o0 o1 h0 h1 fst nxt dst >>= kk
      = Prog.op (.load msk (Rect.unit (s := S4096) o0 S16.size h0).toLoadRect (View.loadsAt_vmem h_S16)) fun m0 =>
        Prog.op (.load msk (Rect.unit (s := S4096) o1 S16.size h1).toLoadRect (View.loadsAt_vmem h_S16)) fun m1 =>
          each8 (fun g _ => do let x ← loadRow rows (fst.at_ g) (fst.inb g); pure (lifted x (bias m0 m1 0))) (oct fun _ => ()) >>= fun acc =>
            sweep rows nxt (bias m0 m1) 31 0 (by omega) acc >>= fun acc =>
            each8 (fun g a => do
              let _ ← loadRow out (dst.at_ g) (dst.inb g)
              Prog.lift (.store out (Rect.unit (s := S128x128) (dst.at_ g) S1x16.size (dst.inb g)) (shapeCast S1x16 a shapeCasts_S16_S1x16)
                Finset.univ (View.stores_vmem_bits_univ h_S1x16 rfl) (.inl rfl))) acc >>= fun _ => kk ⟨⟩ := by
    unfold entity
    simp only [Prog.bind_assoc, pure_bind]
    rfl
  rw [hp]
  iintro ⟨Hr, Hm, Ho⟩ Hk
  iapply (load_owned 𝒱 bd d c s) $$ Hm
  iintro Hm
  iapply (load_owned 𝒱 bd d c s) $$ Hm
  iintro Hm
  iapply (rest (bias (F := F) (fun j => M ((Rect.unit (s := S4096) o0 S16.size h0).emb j)) (fun j => M ((Rect.unit (s := S4096) o1 S16.size h1).emb j))) hb) $$ [Hr Hm Ho] Hk
  isplitl [Hr]; · iexact Hr
  isplitl [Hm]; · iexact Hm
  iexact Ho
end

end Cert.Entity
-- ==== Proof.Half.lean ====
/-
  The loops over a tile's own memory: four entities from the rows of one gather, and the indices made relative.
-/
module

public import proofs.«01_k».proof.Proof.Entity

@[expose] public section

noncomputable section

namespace Cert.Half

open Cert.KernelIdeal Cert.Body Cert.Value Cert.Entity
open Cert.KernelIdeal.Facts₀ Cert.KernelIdeal.Facts
open Idealize.ShloMosaic Idealize.ShloMosaic.SparseCore
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Facts]
variable {Ix : Type} [DecidableEq Ix] {Name : Type} [DecidableEq Name] {U : Type} [URA U] {Lvl : Type} [Preorder Lvl]
variable {defs : Defs nD τ sig (Elt F) Λ₀} (𝒱 : Variants) (bd : Option 𝒱.V)
variable (d : Dev nD) (c : Fin τ.nSC) (s : Fin τ.nSub)

local notation "𝕄" => MT nD τ sig Ix (Elt F) Name U Lvl
local notation "run" => wp frame (wpE defs 𝒱 (V d c s) bd) Set.univ

/-! ## The offsets -/

/-- A loop over four entities makes four trips. -/
theorem trips3 : k0_t3_loop.trips = 4 := by decide
@[inherit_doc trips3] theorem trips4 : k0_t4_loop.trips = 4 := by decide
/-- The pipelined loop makes sixteen trips. -/
theorem trips2 : k0_t2_loop.trips = 16 := by decide
/-- The loop over the indices makes 256 trips. -/
theorem trips1 : k0_t1_loop.trips = 256 := by decide

/-- The first members' rows. -/
theorem fst0_row (t : Fin k0_t3_loop.trips) : (fst0 t).Row (32 * t.val) := fun g => by
  fin_cases g
  · exact Gen.k0_off9_eq t
  · exact Gen.k0_off10_eq t
  · exact Gen.k0_off11_eq t
  · exact Gen.k0_off12_eq t
  · exact Gen.k0_off13_eq t
  · exact Gen.k0_off14_eq t
  · exact Gen.k0_off15_eq t
  · exact Gen.k0_off16_eq t

/-- The later members' rows. -/
theorem nxt0_row (t : Fin k0_t3_loop.trips) (r : Fin 31) : (nxt0 t r).Row (32 * t.val + (r.val + 1)) := fun g => by
  fin_cases g
  · exact Gen.k0_off17_eq t r
  · exact Gen.k0_off18_eq t r
  · exact Gen.k0_off19_eq t r
  · exact Gen.k0_off20_eq t r
  · exact Gen.k0_off21_eq t r
  · exact Gen.k0_off22_eq t r
  · exact Gen.k0_off23_eq t r
  · exact Gen.k0_off24_eq t r

/-- The row written in the first half of a trip. -/
theorem dst0_row (T : Fin k0_t2_loop.trips) (t : Fin k0_t3_loop.trips) : (dst0 T t).Row (8 * T.val + t.val) := fun g => by
  fin_cases g
  · exact Gen.k0_off25_eq T t
  · exact Gen.k0_off26_eq T t
  · exact Gen.k0_off27_eq T t
  · exact Gen.k0_off28_eq T t
  · exact Gen.k0_off29_eq T t
  · exact Gen.k0_off30_eq T t
  · exact Gen.k0_off31_eq T t
  · exact Gen.k0_off32_eq T t

/-- The row written in the second half of a trip. -/
theorem dst1_row (T : Fin k0_t2_loop.trips) (t : Fin k0_t4_loop.trips) : (dst1 T t).Row (8 * T.val + t.val + 4) := fun g => by
  fin_cases g
  · exact Gen.k0_off52_eq T t
  · exact Gen.k0_off53_eq T t
  · exact Gen.k0_off54_eq T t
  · exact Gen.k0_off55_eq T t
  · exact Gen.k0_off56_eq T t
  · exact Gen.k0_off57_eq T t
  · exact Gen.k0_off58_eq T t
  · exact Gen.k0_off59_eq T t

/-- Offsets of rank one, the number spelt otherwise. -/
theorem one_eq {off : Fin 1 → ℕ} {a b : ℕ} (h : off = ![a]) (e : a = b) : off = ![b] := e ▸ h

/-! ## A loop -/

/-- A loop by what holds before each trip. -/
theorem loop_run {α : Type} {Q : α → sProp (MT nD τ sig Ix (Elt F) Name U Lvl)} (l : Scf.Loop 32) (ok : l.OK) (body : Fin l.trips → PUnit → TP F c s PUnit) {n : ℕ} (hn : l.trips = n)
    (I : ℕ → sProp 𝕄) (h : ∀ t : Fin l.trips, I t.val ⊢ run (body t ⟨⟩) fun _ => I (t.val + 1)) {kk : PUnit → TP F c s α} :
    I 0 ⊢ iprop((I n -∗ run (kk ⟨⟩) Q) -∗ run (Scf.Loop.for l ok ⟨⟩ body >>= kk) Q) := by
  subst hn
  iintro H Hk
  iapply (Scf.wp_for_bind frame (wpE defs 𝒱 (V d c s) bd) Set.univ l.lb l.ub l.st ok ⟨⟩ body (fun n _ => I n) (fun t _ => h t)) $$ H
  iintro %a H
  iapply Hk
  iexact H

/-! ## Four entities -/

section
variable {rows : Memref sig .scVector .vmem S128x128 .f32} {msk : Memref sig .scVector .vmem S4096 .i32} {out : Memref sig .scVector .vmem S128x128 .f32}

/-- The buffers of the loop: gathered rows, masks, and the output, right in its first `n` rows. -/
def holds (rows : Memref sig .scVector .vmem S128x128 .f32) (msk : Memref sig .scVector .vmem S4096 .i32) (out : Memref sig .scVector .vmem S128x128 .f32)
    (X : S128x128.Idx → F .f32) (M : S4096.Idx → BitVec 32) (G : S128x128.Idx → F .f32) (n : ℕ) : sProp 𝕄 :=
  iprop(owns (V d c s) rows fullShare X ∗ owns (V d c s) msk fullShare M ∗ ∃ A, ⌜Done G n A⌝ ∗ owns (V d c s) out fullShare A)

/-- One entity served from gathered rows makes one more row of the output right. -/
theorem entity_step {o0 o1 : Fin 1 → ℕ} (h0 : ∀ a, o0 a + S16.size a ≤ S4096.size a) (h1 : ∀ a, o1 a + S16.size a ≤ S4096.size a)
    {fst : Offs} {nxt : Fin 31 → Offs} {dst : Offs} {T : S8192x128.Idx → F .f32} {ix mk : S4096.Idx → BitVec 32} {o kb R : ℕ} (e0 : o0 = ![32 * R]) (e1 : o1 = ![32 * R + 16])
    (ef : fst.Row kb) (en : ∀ r, (nxt r).Row (kb + (r.val + 1))) (ed : dst.Row R) (hR : R < 128) (hk : kb + 32 ≤ 128) (ho : o + kb = 32 * R) :
    (holds d c s rows msk out (gathered T ix o) mk (served T ix mk) R : sProp 𝕄)
      ⊢ run (entity rows msk out o0 o1 h0 h1 fst nxt dst) fun _ => holds d c s rows msk out (gathered T ix o) mk (served T ix mk) (R + 1) := by
  rw [← Prog.bind_pure (entity rows msk out o0 o1 h0 h1 fst nxt dst)]
  unfold holds
  iintro ⟨Hr, Hm, %A, %hA, Ho⟩
  iapply (entity_run 𝒱 bd d c s h0 h1 e0 e1 ef en ed hR (G := served T ix mk)
    (fun y hy => by subst hy; exact top_gathered T ix mk y hk ho)) $$ [Hr Hm Ho]
  · isplitl [Hr]; · iexact Hr
    isplitl [Hm]; · iexact Hm
    iexact Ho
  iintro ⟨Hr, Hm, Ho⟩
  rw [wp_pure]
  imodintro
  isplitl [Hr]; · iexact Hr
  isplitl [Hm]; · iexact Hm
  iexists _
  isplitr
  swap; · iexact Ho
  ipureintro
  intro y hy
  by_cases hr : (y 0).val = R
  · exact if_pos hr
  · exact (if_neg hr).trans (hA y (by omega))

variable {α : Type} {Q : α → sProp (MT nD τ sig Ix (Elt F) Name U Lvl)}

set_option maxRecDepth 8192 in
/-- The first half of a trip: four more rows of the output are right. -/
theorem half0_run {T : S8192x128.Idx → F .f32} {ix mk : S4096.Idx → BitVec 32} (t2 : Fin k0_t2_loop.trips) {kk : PUnit → TP F c s α} :
    (holds d c s rows msk out (gathered T ix (256 * t2.val)) mk (served T ix mk) (8 * t2.val) : sProp 𝕄)
      ⊢ iprop((holds d c s rows msk out (gathered T ix (256 * t2.val)) mk (served T ix mk) (8 * t2.val + 4) -∗ run (kk ⟨⟩) Q) -∗ run (half0 c s msk rows out t2 >>= kk) Q) := by
  have ht2 : t2.val < 16 := t2.isLt.trans_le trips2.le
  iintro H Hk
  unfold half0
  iapply (loop_run 𝒱 bd d c s k0_t3_loop k0_t3_ok _ trips3 (fun n => holds d c s rows msk out (gathered T ix (256 * t2.val)) mk (served T ix mk) (8 * t2.val + n)) (fun t => by
      have ht : t.val < 4 := t.isLt.trans_le trips3.le
      exact entity_step 𝒱 bd d c s (kb := 32 * t.val) (R := 8 * t2.val + t.val) _ _ (one_eq (Gen.k0_off7_eq t2 t) (by omega)) (one_eq (Gen.k0_off8_eq t2 t) (by omega))
        (fst0_row t) (nxt0_row t) (dst0_row t2 t) (by omega) (by omega) (by omega))) $$ H
  iintro H
  iapply Hk
  iexact H

set_option maxRecDepth 8192 in
/-- The second half of a trip. -/
theorem half1_run {T : S8192x128.Idx → F .f32} {ix mk : S4096.Idx → BitVec 32} (t2 : Fin k0_t2_loop.trips) {kk : PUnit → TP F c s α} :
    (holds d c s rows msk out (gathered T ix (256 * t2.val + 128)) mk (served T ix mk) (8 * t2.val + 4) : sProp 𝕄)
      ⊢ iprop((holds d c s rows msk out (gathered T ix (256 * t2.val + 128)) mk (served T ix mk) (8 * (t2.val + 1)) -∗ run (kk ⟨⟩) Q) -∗ run (half1 c s msk rows out t2 >>= kk) Q) := by
  have ht2 : t2.val < 16 := t2.isLt.trans_le trips2.le
  iintro H Hk
  unfold half1
  iapply (loop_run 𝒱 bd d c s k0_t4_loop k0_t4_ok _ trips4 (fun n => holds d c s rows msk out (gathered T ix (256 * t2.val + 128)) mk (served T ix mk) (8 * t2.val + 4 + n)) (fun t => by
      have ht : t.val < 4 := t.isLt.trans_le trips4.le
      exact entity_step 𝒱 bd d c s (kb := 32 * t.val) (R := 8 * t2.val + 4 + t.val) _ _ (one_eq (Gen.k0_off34_eq t2 t) (by omega)) (one_eq (Gen.k0_off35_eq t2 t) (by omega))
        (fst0_row t) (nxt0_row t) (by rw [show 8 * t2.val + 4 + t.val = 8 * t2.val + t.val + 4 by omega]; exact dst1_row t2 t) (by omega) (by omega) (by omega))) $$ H
  iintro H
  iapply Hk
  rw [show 8 * (t2.val + 1) = 8 * t2.val + 4 + 4 by omega]
  iexact H

end

/-! ## The indices made relative -/

section
variable {ixs : Memref sig .scVector .vmem S4096 .i32} {α : Type} {Q : α → sProp (MT nD τ sig Ix (Elt F) Name U Lvl)}

/-- Sixteen more words made relative. -/
theorem shift_value (W : S4096.Idx → BitVec 32) (base : BitVec 32) {off : Fin 1 → ℕ} (h : ∀ a, off a + S16.size a ≤ S4096.size a) {t : ℕ} (ho : off = ![16 * t])
    (A : S4096.Idx → BitVec 32) (hA : A = fun y => if (y 0).val < 16 * t then W y - base else W y) :
    (Rect.unit (s := S4096) off S16.size h).overlay A
        (shapeCast S16 (subi (shapeCast S16 (fun j => A ((Rect.unit (s := S4096) off S16.size h).emb j)) shapeCasts_S16_S16 : IVec S16 32) (broadcast S16 base)) shapeCasts_S16_S16 : IVec S16 32)
      = fun y => if (y 0).val < 16 * (t + 1) then W y - base else W y := by
  subst ho hA
  funext y
  by_cases hy : y ∈ (Rect.unit (s := S4096) ![16 * t] S16.size h).set
  · obtain ⟨i, rfl⟩ := (Rect.unit (s := S4096) ![16 * t] S16.size h).exists_idx_of_mem hy
    have e0 : (((Rect.unit (s := S4096) ![16 * t] S16.size h).emb i) 0).val = 16 * t + (i 0).val := by
      show 16 * t + 1 * (i 0).val = _; omega
    have hl : (i 0).val < 16 := (i 0).isLt
    show Rect.overlay _ _ _ ((Rect.unit (s := S4096) ![16 * t] S16.size h).emb i) = _
    rw [Rect.overlay_emb, shapeCast_id]
    show (shapeCast S16 (fun j : S16.Idx => _) _ i : BitVec 32) - base = _
    rw [shapeCast_id]
    have n1 : ¬(((Rect.unit (s := S4096) ![16 * t] S16.size h).emb i) 0).val < 16 * t := by rw [e0]; omega
    have n2 : (((Rect.unit (s := S4096) ![16 * t] S16.size h).emb i) 0).val < 16 * (t + 1) := by rw [e0]; omega
    refine Eq.trans ?_ (if_pos n2).symm
    show (if _ then _ else _) - base = _
    rw [if_neg n1]
    rfl
  · rw [Rect.overlay_of_not_mem _ _ _ hy]
    have hy' : ¬(16 * t ≤ (y 0).val ∧ (y 0).val < 16 * t + 16) := fun hh => hy (Rect.mem_set_unit.mpr fun a => by
      match a with
      | 0 => exact hh)
    by_cases hr : (y 0).val < 16 * t
    · rw [if_pos hr, if_pos (by omega)]
    · rw [if_neg hr, if_neg (by omega)]

/-- One trip of the loop over the indices. -/
theorem shift_run (W : S4096.Idx → BitVec 32) (base : BitVec 32) (t : Fin k0_t1_loop.trips) :
    (owns (V d c s) ixs fullShare (fun y => if (y 0).val < 16 * t.val then W y - base else W y) : sProp 𝕄)
      ⊢ run (shift c s ixs base t) fun _ => owns (V d c s) ixs fullShare (fun y => if (y 0).val < 16 * (t.val + 1) then W y - base else W y) := by
  have e := shift_value W base (k0_off4_inb t) (Gen.k0_off4_eq t) _ rfl
  rw [← e]
  iintro H
  unfold shift
  simp only [Prog.bind_lift]
  iapply (load_owned 𝒱 bd d c s) $$ H
  iintro H
  iapply (load_owned 𝒱 bd d c s) $$ H
  iintro H
  iapply (store_owned 𝒱 bd d c s) $$ H
  iintro H
  rw [wp_pure]
  imodintro
  iexact H

/-- The loop over the indices: each word less the base. -/
theorem localise_run (W : S4096.Idx → BitVec 32) (base : BitVec 32) {kk : PUnit → TP F c s α} :
    (owns (V d c s) ixs fullShare W : sProp 𝕄)
      ⊢ iprop((owns (V d c s) ixs fullShare (fun y => W y - base) -∗ run (kk ⟨⟩) Q) -∗ run (localise c s ixs base >>= kk) Q) := by
  have h0 : W = fun y => if (y 0).val < 16 * 0 then W y - base else W y := funext fun y => (if_neg (by omega)).symm
  have h1 : (fun y : S4096.Idx => if (y 0).val < 16 * 256 then W y - base else W y) = fun y => W y - base :=
    funext fun y => if_pos (by have : (y 0).val < 4096 := (y 0).isLt; omega)
  iintro H Hk
  unfold localise
  ihave H := (Entails.of_eq (congrArg (owns (V d c s) ixs fullShare) h0)) $$ H
  iapply (loop_run 𝒱 bd d c s k0_t1_loop k0_t1_ok _ trips1
    (fun n => owns (V d c s) ixs fullShare (fun y => if (y 0).val < 16 * n then W y - base else W y)) (fun t => shift_run 𝒱 bd d c s W base t)) $$ H
  iintro H
  ihave H := (Entails.of_eq (congrArg (owns (V d c s) ixs fullShare) h1)) $$ H
  iapply Hk $$ H
end

end Cert.Half
-- ==== Proof.Trip.lean ====
/-
  The pipelined loop: gathers from the shared buffer one half ahead of the sums they feed.
-/
module

public import proofs.«01_k».proof.Proof.Half

@[expose] public section

noncomputable section

namespace Cert.Trip

open Cert.KernelIdeal Cert.Body Cert.Value Cert.Entity Cert.Half
open Cert.KernelIdeal.Facts₀ Cert.KernelIdeal.Facts
open Idealize.ShloMosaic Idealize.ShloMosaic.SparseCore Idealize.ShloMosaic.Transfers
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Facts]
variable {Ix : Type} [DecidableEq Ix] {Name : Type} [DecidableEq Name] [Infinite Name] {U : Type} [URA U] [CountersIn U] {Lvl : Type} [Preorder Lvl]
variable {defs : Defs nD τ sig (Elt F) Λ₀} (𝒱 : Variants) (bd : Option 𝒱.V)
variable (d : Dev nD) (c : Fin τ.nSC) (s : Fin τ.nSub)

local notation "𝕄" => MT nD τ sig Ix (Elt F) Name U Lvl
local notation "run" => wp frame (wpE defs 𝒱 (V d c s) bd) Set.univ
local notation "EC" => (countersEmb : UEmb Counters (MT nD τ sig Ix (Elt F) Name U Lvl))

/-! ## One gather -/

/-- What a tile owes, with the waits recorded so far: those given, and more at one index. -/
def Owing (t : Thread nD τ) (ι : Ix) (O : CellTallies nD τ sig Ix) (W : Waits sig Ix) : sProp 𝕄 :=
  iprop(∃ W', ⌜∀ p ∈ W', p ∈ W ∨ p.2 = ι⌝ ∗ owes t O W')

/-- A wait recorded at the index keeps `Owing`. -/
theorem Owing.more {t : Thread nD τ} {ι : Ix} {O : CellTallies nD τ sig Ix} {W W' : Waits sig Ix} (h : ∀ p ∈ W', p ∈ W ∨ p.2 = ι) (sm : SemLoc sig) :
    (owes t O (insert (sm, ι) W') : sProp 𝕄) ⊢ Owing t ι O W := by
  unfold Owing
  iintro H
  iexists _
  isplitr
  swap; · iexact H
  ipureintro
  intro p hp
  rcases Finset.mem_insert.mp hp with rfl | hp
  · exact .inr rfl
  · exact h p hp

/-- A word list's 128 entries read through a window of it name rows of the table. -/
theorem window_in {W : S4096.Idx → BitVec 32} (hW : ∀ y, (W y).toNat < 8192) (off : Fin 1 → ℕ) (h : ∀ a, off a + S128.size a ≤ S4096.size a) (x : S128.Idx) :
    (W ((Rect.unit (s := S4096) off S128.size h).emb x)).toNat < S8192x128.size (gathers_S8192x128_S128x128).axis := hW _

/-- What the gather brings, in plain terms. -/
theorem payload_gathered (T : S8192x128.Idx → F .f32) {W : S4096.Idx → BitVec 32} (hW : ∀ y, (W y).toNat < 8192) {off : Fin 1 → ℕ} {h : ∀ a, off a + S128.size a ≤ S4096.size a}
    {o : ℕ} (ho : off = ![o]) (hin) :
    gatherPayload (F := F) (e := .f32) gathers_S8192x128_S128x128
        (fun x : S8192x128.Idx => T ((Rect.unit (s := S8192x128) ![0, 0] S8192x128.size inb_S8192x128_S8192x128_0_0).emb x))
        (rows (F := F) (fun x : S128.Idx => W ((Rect.unit (s := S4096) off S128.size h).emb x)) rfl hin)
      = gathered T W o := by
  subst ho
  have ho : o + 128 ≤ 4096 := h 0
  funext y
  have hy : (y 0).val < 128 := (y 0).isLt
  unfold gatherPayload gathered
  refine congrArg T (pt2_self _ ?_ ?_)
  · refine (Nat.zero_add _).trans ((Nat.one_mul _).trans ?_)
    have e := congrArg Fin.val (Shape.Gathers.idx_axis gathers_S8192x128_S128x128 (rows (F := F) (fun x : S128.Idx => W ((Rect.unit (s := S4096) ![o] S128.size h).emb x)) rfl hin) y)
    refine e.trans ?_
    unfold rows
    refine congrArg (fun x => (W x).toNat) (pt1_self _ ?_)
    refine congrArg (o + ·) ((Nat.one_mul _).trans ?_)
    refine (Shape.rowMajor_val_one (d := ![128]) _).symm.trans ?_
    exact congrArg Fin.val (Equiv.apply_symm_apply S128.rowMajor _)
  · refine (Nat.zero_add _).trans ((Nat.one_mul _).trans ?_)
    exact Shape.Gathers.idx_of_ne gathers_S8192x128_S128x128 _ y 1 (by decide)

variable {α : Type} {Q : α → sProp (MT nD τ sig Ix (Elt F) Name U Lvl)}
variable (spm : Memref sig .scVector .shared S8192x128 .f32) (ixs : Memref sig .scVector .vmem S4096 .i32) (dst : Memref sig .scVector .vmem S128x128 .f32)
variable (q qo : PosShare TreeShare) (T : S8192x128.Idx → F .f32) (W : S4096.Idx → BitVec 32)

/-- The credit of a gather into the buffer is the credit of its rows together. -/
def Even (dst : Memref sig .scVector .vmem S128x128 .f32) : Prop :=
  ∀ h : S8192x128.Gathers 0 S128x128, ∑ j, (dst.slice (S128x128.rowRect h.axis' j) (S128x128.stride_rowRect h.axis' j)).view.dmaCredit = dst.view.dmaCredit

/-- A gather into `dst` under way, of the 128 rows the indices name from `o` on. -/
def Coming (sem : DmaSems sig S_) (ι : Ix) (o : ℕ) : sProp 𝕄 :=
  iprop(∃ D, Flight EC (V d c s) (.dma sem.sem) ι dst.view.dmaCredit D
    ∗ (D -∗ (owns (V d c s) spm q T ∗ owns (V d c s) ixs qo W ∗ owns (V d c s) dst fullShare (gathered T W o))))

/-- No gather into `dst` under way: all a gather takes is at hand. -/
def Idle (sem : DmaSems sig S_) : sProp 𝕄 :=
  iprop(owns (V d c s) spm q T ∗ owns (V d c s) ixs qo W ∗ (∃ X, owns (V d c s) dst fullShare X) ∗ semVal (V d c s, SemLoc.dma sem.sem) 0)

set_option maxRecDepth 8192 in
/-- A gather issued. -/
theorem fetch_run (hdst : Even dst) (hW : ∀ y, (W y).toNat < 8192) (sem : DmaSems sig S_) (ι : Ix) {off : Fin 1 → ℕ} {h : ∀ a, off a + S128.size a ≤ S4096.size a} {o : ℕ} (ho : off = ![o])
    {kk : PUnit → TP F c s α} :
    (Idle d c s spm ixs dst q qo T W sem : sProp 𝕄)
      ⊢ (iprop((Coming d c s spm ixs dst q qo T W sem ι o -∗ run (kk ⟨⟩) Q) -∗ run (fetch c s spm ixs dst sem off h >>= kk) Q) : sProp 𝕄) := by
  unfold fetch Coming Idle owns
  iintro ⟨⟨%fs, %hfs, Hs⟩, ⟨%fi, %hfi, Hi⟩, ⟨%X, %fd, %hfd, Hd⟩, Hv⟩ Hk
  ihave Hs := (pointsTo_split_subset (spm.view.set_slice_subset (Rect.unit (s := S8192x128) ![0, 0] S8192x128.size inb_S8192x128_S8192x128_0_0))).1 $$ Hs
  icases Hs with ⟨Hs, Hsr⟩
  ihave Hi := (pointsTo_split_subset (ixs.view.set_slice_subset (Rect.unit (s := S4096) off S128.size h))).1 $$ Hi
  icases Hi with ⟨Hi, Hir⟩
  have hin : ∀ x, (((idxPart ixs off h).view.read (Elt F) fi x : BitVec 32)).toNat < S8192x128.size (gathers_S8192x128_S128x128).axis := fun x => by
    have e : (idxPart ixs off h).view.read (Elt F) fi x = W ((Rect.unit (s := S4096) off S128.size h).emb x) := congrFun hfi _
    rw [e]; exact hW _
  iapply (wp_indirectGatherLocal (src := spmAll spm) (dst := dst) (offs := idxPart ixs off h) EC 𝒱 (V d c s) bd (hg := gathers_S8192x128_S128x128) ι
      dst.view.dmaCredit (hdst _) (by decide) hin) $$ [Hs Hi Hd Hv]
  · isplitl [Hs]; · iexact Hs
    isplitl [Hd]; · iexact Hd
    isplitl [Hi]; · iexact Hi
    iexact Hv
  iintro Hf
  iapply Hk
  iexists _
  isplitl [Hf]; · iexact Hf
  iintro ⟨Hd, Hs, Hi⟩
  isplitl [Hs Hsr]
  · iexists fs
    isplitr; · ipureintro; exact hfs
    iapply (pointsTo_split_subset (spm.view.set_slice_subset (Rect.unit (s := S8192x128) ![0, 0] S8192x128.size inb_S8192x128_S8192x128_0_0))).2
    isplitl [Hs]; · iexact Hs
    iexact Hsr
  isplitl [Hi Hir]
  · iexists fi
    isplitr; · ipureintro; exact hfi
    iapply (pointsTo_split_subset (ixs.view.set_slice_subset (Rect.unit (s := S4096) off S128.size h))).2
    isplitl [Hi]; · iexact Hi
    iexact Hir
  iexists _
  isplitr
  swap; · iexact Hd
  ipureintro
  rw [View.read_write_univ]
  subst hfs hfi
  exact payload_gathered (F := F) (spm.view.read (Elt F) fs) hW ho hin

/-- A gather waited for. -/
theorem arrive_run (sem : DmaSems sig S_) (ι : Ix) (o : ℕ) (O : CellTallies nD τ sig Ix) (W0 : Waits sig Ix)
    {hsrc : (spmAll spm).view.WordExact} {hd : dst.view.WordExact} {kk : PUnit → TP F c s α} :
    iprop(Coming d c s spm ixs dst q qo T W sem ι o ∗ Owing (V d c s) ι O W0 ∗ MayWaits (V d c s) ι O)
      ⊢ (iprop((iprop(owns (V d c s) spm q T ∗ owns (V d c s) ixs qo W ∗ owns (V d c s) dst fullShare (gathered T W o)
            ∗ semVal (V d c s, SemLoc.dma sem.sem) 0 ∗ Owing (V d c s) ι O W0) -∗ run (kk ⟨⟩) Q)
          -∗ run (SparseCore.waitIndirectGather sem.sem (spmAll spm) dst hsrc hd >>= kk) Q) : sProp 𝕄) := by
  unfold Coming Owing SparseCore.waitIndirectGather
  iintro ⟨⟨%D, Hf, HD⟩, ⟨%W', %hW', HO⟩, #Hm⟩ Hk
  rw [Prog.bind_op]
  iapply (Transfers.wp_waitLocalO EC 𝒱 (V d c s) bd ι (rfl : dst.view.dmaCredit = _)) $$ [Hf HO]
  · isplitl [Hf]; · iexact Hf
    isplitl [HO]; · iexact HO
    iapply (Transfers.MayWaits.elim (SemLoc.dma sem.sem)) $$ Hm
  iintro ⟨H, Hv, HO⟩
  simp only [Prog.bind]
  iapply Hk
  ihave H := HD $$ H
  icases H with ⟨Hs, Hi, Hd⟩
  isplitl [Hs]; · iexact Hs
  isplitl [Hi]; · iexact Hi
  isplitl [Hd]; · iexact Hd
  isplitl [Hv]; · iexact Hv
  ihave HO := (Owing.more hW' _) $$ HO
  unfold Owing
  iexact HO

/-! ## One trip -/

/-- A trip fetches ahead unless it is the last. -/
theorem ahead : ∀ T : Fin k0_t2_loop.trips, k0_cond1 T = 1#1 ↔ T.val < 15 := by decide

variable (msk : Memref sig .scVector .vmem S4096 .i32) (rows0 rows1 out : Memref sig .scVector .vmem S128x128 .f32)
variable (qs qs' qi qi' : PosShare TreeShare) (M : S4096.Idx → BitVec 32) (sem0 sem1 : DmaSems sig S_)
variable (ι : Ix) (O : CellTallies nD τ sig Ix) (W0 : Waits sig Ix)

/-- The state before trip `n`: the first half's rows on their way unless all trips are made, and `8 * n` entities served. -/
def Between (n : ℕ) : sProp 𝕄 :=
  iprop((if n < 16 then Coming d c s spm ixs rows0 qs qi T W sem0 ι (256 * n) else Idle d c s spm ixs rows0 qs qi T W sem0)
    ∗ Idle d c s spm ixs rows1 qs' qi' T W sem1
    ∗ owns (V d c s) msk fullShare M ∗ (∃ A, ⌜Done (served T W M) (8 * n) A⌝ ∗ owns (V d c s) out fullShare A)
    ∗ Owing (V d c s) ι O W0 ∗ MayWaits (V d c s) ι O)

/-- The end of a trip: the second half's rows arrive and its entities are served. -/
theorem second_run (hr1 : rows1.IsWhole) (t : Fin k0_t2_loop.trips) :
    iprop((if t.val + 1 < 16 then Coming d c s spm ixs rows0 qs qi T W sem0 ι (256 * (t.val + 1)) else Idle d c s spm ixs rows0 qs qi T W sem0)
        ∗ Coming d c s spm ixs rows1 qs' qi' T W sem1 ι (256 * t.val + 128) ∗ owns (V d c s) msk fullShare M
        ∗ (∃ A, ⌜Done (served T W M) (8 * t.val + 4) A⌝ ∗ owns (V d c s) out fullShare A) ∗ Owing (V d c s) ι O W0 ∗ MayWaits (V d c s) ι O)
      ⊢ (run (do
            SparseCore.waitIndirectGather sem1.sem (spmAll spm) rows1 (View.wordExact_bits rfl) hr1.wordExact
            half1 c s msk rows1 out t
            pure PUnit.unit : TP F c s PUnit) fun _ => Between d c s spm ixs T W msk rows0 rows1 out qs qs' qi qi' M sem0 sem1 ι O W0 (t.val + 1) : sProp 𝕄) := by
  iintro ⟨H0, H1, Hm, Ho, HO, #Hw⟩
  iapply (arrive_run 𝒱 bd d c s spm ixs rows1 qs' qi' T W sem1 ι (256 * t.val + 128) O W0) $$ [H1 HO]
  · isplitl [H1]; · iexact H1
    isplitl [HO]; · iexact HO
    iexact Hw
  iintro ⟨Hs, Hi, Hr, Hv, HO⟩
  iapply (half1_run 𝒱 bd d c s t) $$ [Hr Hm Ho]
  · unfold holds
    isplitl [Hr]; · iexact Hr
    isplitl [Hm]; · iexact Hm
    iexact Ho
  unfold holds
  iintro ⟨Hr, Hm, Ho⟩
  rw [wp_pure]
  unfold Between
  imodintro
  isplitl [H0]; · iexact H0
  isplitl [Hs Hi Hr Hv]
  · unfold Idle
    isplitl [Hs]; · iexact Hs
    isplitl [Hi]; · iexact Hi
    isplitl [Hr]; · iexists _; iexact Hr
    iexact Hv
  isplitl [Hm]; · iexact Hm
  isplitl [Ho]; · iexact Ho
  isplitl [HO]; · iexact HO
  iexact Hw

/-- A trip. -/
theorem trip_run (he0 : Even rows0) (he1 : Even rows1) (hW : ∀ y, (W y).toNat < 8192) (hr0 : rows0.IsWhole) (hr1 : rows1.IsWhole) (t : Fin k0_t2_loop.trips) :
    (Between d c s spm ixs T W msk rows0 rows1 out qs qs' qi qi' M sem0 sem1 ι O W0 t.val : sProp 𝕄)
      ⊢ run (trip c s spm ixs msk rows0 hr0 rows1 hr1 out sem0 sem1 t)
          fun _ => Between d c s spm ixs T W msk rows0 rows1 out qs qs' qi qi' M sem0 sem1 ι O W0 (t.val + 1) := by
  have ht : t.val < 16 := t.isLt.trans_le trips2.le
  unfold Between
  rw [if_pos ht]
  iintro ⟨H0, H1, Hm, Ho, HO, #Hw⟩
  unfold trip
  iapply (fetch_run 𝒱 bd d c s spm ixs rows1 qs' qi' T W he1 hW sem1 ι (Gen.k0_off5_eq t)) $$ H1
  iintro H1
  iapply (arrive_run 𝒱 bd d c s spm ixs rows0 qs qi T W sem0 ι (256 * t.val) O W0) $$ [H0 HO]
  · isplitl [H0]; · iexact H0
    isplitl [HO]; · iexact HO
    iexact Hw
  iintro ⟨Hs, Hi, Hr, Hv, HO⟩
  iapply (half0_run 𝒱 bd d c s t) $$ [Hr Hm Ho]
  · unfold holds
    isplitl [Hr]; · iexact Hr
    isplitl [Hm]; · iexact Hm
    iexact Ho
  unfold holds
  iintro ⟨Hr, Hm, Ho⟩
  by_cases h : k0_cond1 t = 1#1
  · have h15 : t.val + 1 < 16 := by have := (ahead t).mp h; omega
    rw [dif_pos h]
    iapply (fetch_run 𝒱 bd d c s spm ixs rows0 qs qi T W he0 hW sem0 ι (o := 256 * (t.val + 1)) (one_eq (Gen.k0_off33_eq t) (by omega))) $$ [Hs Hi Hr Hv]
    · unfold Idle
      isplitl [Hs]; · iexact Hs
      isplitl [Hi]; · iexact Hi
      isplitl [Hr]; · iexists _; iexact Hr
      iexact Hv
    iintro H0
    iapply (second_run 𝒱 bd d c s spm ixs T W msk rows0 rows1 out qs qs' qi qi' M sem0 sem1 ι O W0 hr1 t)
    rw [if_pos h15]
    isplitl [H0]; · iexact H0
    isplitl [H1]; · iexact H1
    isplitl [Hm]; · iexact Hm
    isplitl [Ho]; · iexact Ho
    isplitl [HO]; · iexact HO
    iexact Hw
  · have h15 : ¬ t.val + 1 < 16 := fun h' => h ((ahead t).mpr (by omega))
    rw [dif_neg h]
    iapply (second_run 𝒱 bd d c s spm ixs T W msk rows0 rows1 out qs qs' qi qi' M sem0 sem1 ι O W0 hr1 t)
    rw [if_neg h15]
    isplitl [Hs Hi Hr Hv]
    · unfold Idle
      isplitl [Hs]; · iexact Hs
      isplitl [Hi]; · iexact Hi
      isplitl [Hr]; · iexists _; iexact Hr
      iexact Hv
    isplitl [H1]; · iexact H1
    isplitl [Hm]; · iexact Hm
    isplitl [Ho]; · iexact Ho
    isplitl [HO]; · iexact HO
    iexact Hw

/-! ## All trips -/

/-- The first fetch and all trips: 128 entities served. -/
theorem work_run (i : grid0.Coords) (he0 : Even rows0) (he1 : Even rows1) (hW : ∀ y, (W y).toNat < 8192) (hr0 : rows0.IsWhole) (hr1 : rows1.IsWhole)
    {Q : PUnit → sProp (MT nD τ sig Ix (Elt F) Name U Lvl)} {kk : PUnit → TP F (cc i) (ss i) PUnit} :
    iprop(Idle d (cc i) (ss i) spm ixs rows0 qs qi T W sem0 ∗ Idle d (cc i) (ss i) spm ixs rows1 qs' qi' T W sem1
        ∗ owns (V d (cc i) (ss i)) msk fullShare M ∗ (∃ A, owns (V d (cc i) (ss i)) out fullShare A)
        ∗ Owing (V d (cc i) (ss i)) ι O W0 ∗ MayWaits (V d (cc i) (ss i)) ι O)
      ⊢ (iprop((iprop(Idle d (cc i) (ss i) spm ixs rows0 qs qi T W sem0 ∗ Idle d (cc i) (ss i) spm ixs rows1 qs' qi' T W sem1
            ∗ owns (V d (cc i) (ss i)) msk fullShare M ∗ owns (V d (cc i) (ss i)) out fullShare (served T W M)
            ∗ Owing (V d (cc i) (ss i)) ι O W0) -∗ wp frame (wpE defs 𝒱 (V d (cc i) (ss i)) bd) Set.univ (kk ⟨⟩) Q)
          -∗ wp frame (wpE defs 𝒱 (V d (cc i) (ss i)) bd) Set.univ (work i spm ixs msk rows0 hr0 rows1 hr1 out sem0 sem1 >>= kk) Q) : sProp 𝕄) := by
  iintro ⟨H0, H1, Hm, ⟨%A, Ho⟩, HO, #Hw⟩ Hk
  unfold work trips
  rw [Prog.bind_assoc]
  iapply (fetch_run 𝒱 bd d (cc i) (ss i) spm ixs rows0 qs qi T W he0 hW sem0 ι (o := 256 * 0) rfl) $$ H0
  iintro H0
  iapply (loop_run 𝒱 bd d (cc i) (ss i) k0_t2_loop k0_t2_ok _ trips2
    (Between d (cc i) (ss i) spm ixs T W msk rows0 rows1 out qs qs' qi qi' M sem0 sem1 ι O W0)
    (fun t => trip_run 𝒱 bd d (cc i) (ss i) spm ixs T W msk rows0 rows1 out qs qs' qi qi' M sem0 sem1 ι O W0 he0 he1 hW hr0 hr1 t)) $$ [H0 H1 Hm Ho HO]
  · unfold Between
    rw [if_pos (by decide : 0 < 16)]
    isplitl [H0]; · iexact H0
    isplitl [H1]; · iexact H1
    isplitl [Hm]; · iexact Hm
    isplitl [Ho]
    · iexists A
      isplitr; · ipureintro; exact fun y hy => absurd hy (by omega)
      iexact Ho
    isplitl [HO]; · iexact HO
    iexact Hw
  unfold Between
  rw [if_neg (by decide : ¬ 16 < 16)]
  iintro ⟨H0, H1, Hm, ⟨%A, %hA, Ho⟩, HO, -⟩
  iapply Hk
  have hA : A = served T W M := funext fun y => hA y (y 0).isLt
  subst hA
  isplitl [H0]; · iexact H0
  isplitl [H1]; · iexact H1
  isplitl [Hm]; · iexact Hm
  isplitl [Ho]; · iexact Ho
  iexact HO

end Cert.Trip
-- ==== Proof.Copy.lean ====
/-
  One copy and its wait, in terms of what the two buffers hold.
-/
module

public import proofs.«01_k».proof.Proof.Trip

@[expose] public section

noncomputable section

namespace Cert.Copy

open Cert.KernelIdeal Cert.Body Cert.Value Cert.Entity Cert.Half Cert.Trip
open Cert.KernelIdeal.Facts₀ Cert.KernelIdeal.Facts
open Idealize.ShloMosaic Idealize.ShloMosaic.SparseCore Idealize.ShloMosaic.Transfers
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Facts]
variable {Ix : Type} [DecidableEq Ix] {Name : Type} [DecidableEq Name] [Infinite Name] {U : Type} [URA U] [CountersIn U] {Lvl : Type} [Preorder Lvl]
variable {defs : Defs nD τ sig (Elt F) Λ₀} (𝒱 : Variants) (bd : Option 𝒱.V)
variable (d : Dev nD) (c : Fin τ.nSC) (s : Fin τ.nSub)

local notation "𝕄" => MT nD τ sig Ix (Elt F) Name U Lvl
local notation "run" => wp frame (wpE defs 𝒱 (V d c s) bd) Set.univ
local notation "EC" => (countersEmb : UEmb Counters (MT nD τ sig Ix (Elt F) Name U Lvl))

variable {α : Type} {Q : α → sProp (MT nD τ sig Ix (Elt F) Name U Lvl)}
variable (ι : Ix) (O : CellTallies nD τ sig Ix) (W0 : Waits sig Ix)

/-- A copy between two buffers the tile reaches, and its wait: the target holds what the source holds. -/
theorem copy_run {sp sp' : Space} {sh : Shape} {e : EltTy} (src : Memref sig .scVector sp sh e) (dst : Memref sig .scVector sp' sh e) (sem : DmaSems sig S_)
    (hsh : 0 < sh.numel) {hsrc hsrc' : src.view.WordExact} {hdst hdst' : dst.view.WordExact} {ht : (DmaTarget.here dst : DmaTarget nD τ sig (Proc.scVector c s) sp' sh e).Typed sp (.dma sem.sem)}
    (q : PosShare TreeShare) (X : sh.Idx → Elt F e) {kk : PUnit → TP F c s α} :
    iprop(owns (V d c s) src q X ∗ (∃ Y, owns (V d c s) dst fullShare Y) ∗ semVal (V d c s, SemLoc.dma sem.sem) 0
        ∗ Owing (V d c s) ι O W0 ∗ MayWaits (V d c s) ι O)
      ⊢ (iprop((iprop(owns (V d c s) src q X ∗ owns (V d c s) dst fullShare X ∗ semVal (V d c s, SemLoc.dma sem.sem) 0 ∗ Owing (V d c s) ι O W0)
            -∗ run (kk ⟨⟩) Q)
          -∗ run (((do
              Prog.lift (.enqueueDma src (.here dst) (.dma sem.sem) hsrc hdst ht)
              Prog.lift (.waitDma2 sem.sem src dst hsrc' hdst')) : TP F c s PUnit) >>= kk) Q) : sProp 𝕄) := by
  unfold owns Owing
  iintro ⟨⟨%fs, %hfs, Hs⟩, ⟨%Y, %fd, %hfd, Hd⟩, Hv, ⟨%W', %hW', HO⟩, #Hm⟩ Hk
  subst hfs
  rw [Prog.bind_assoc, Prog.bind_lift]
  iapply (wp_dmaLocal EC 𝒱 (V d c s) bd ι dst.view.dmaCredit rfl (View.dmaCredit_pos _ hsh) (Finset.Subset.refl _)) $$ [Hs Hd Hv]
  · isplitl [Hs]; · iexact Hs
    isplitl [Hd]; · iexact Hd
    iexact Hv
  iintro Hf
  rw [Prog.bind_lift]
  iapply (Transfers.wp_waitLocalO EC 𝒱 (V d c s) bd ι (rfl : dst.view.dmaCredit = _)) $$ [Hf HO]
  · isplitl [Hf]; · iexact Hf
    isplitl [HO]; · iexact HO
    iapply (Transfers.MayWaits.elim (SemLoc.dma sem.sem)) $$ Hm
  iintro ⟨⟨Hd, Hs⟩, Hv, HO⟩
  iapply Hk
  isplitl [Hs]
  · iexists fs
    isplitr; · ipureintro; rfl
    iexact Hs
  isplitl [Hd]
  · iexists _
    isplitr
    swap; · iexact Hd
    ipureintro
    exact View.read_write_univ _ _
  isplitl [Hv]; · iexact Hv
  ihave HO := (Owing.more hW' _) $$ HO
  unfold Owing
  iexact HO

end Cert.Copy
-- ==== Proof.Parts.lean ====
/-
  Which part of each array a tile handles in a pass, and what its part of the result comes to.
-/
module

public import proofs.«01_k».proof.Proof.Copy

@[expose] public section

noncomputable section

namespace Cert.Parts

open Cert.KernelIdeal Cert.Body Cert.Value
open Cert.KernelIdeal.Facts₀ Cert.KernelIdeal.Facts
open Idealize.ShloMosaic

variable {F : FTy → Type} [FloatOps F]

/-! ## The contents -/

/-- The rows SparseCore `c` holds in its shared buffer in pass `r`. -/
def held (T : S32768x128.Idx → F .f32) (c r : ℕ) : S8192x128.Idx → F .f32 := fun y => T (pt2 (16384 * c + 8192 * r + (y 0).val) (y 1).val)

/-- The 4096 words tile `i` of SparseCore `c` reads in pass `r`. -/
def words (X : S262144.Idx → BitVec 32) (c r i : ℕ) : S4096.Idx → BitVec 32 := fun y => X (pt1 (131072 * c + 65536 * r + 4096 * i + (y 0).val))

/-- Every index lies in the eighth of the table that its own eighth of the list belongs to. -/
def Sorted (I : S262144.Idx → BitVec 32) : Prop := ∀ x, 4096 * ((x 0).val / 32768) ≤ (I x).toNat ∧ (I x).toNat < 4096 * ((x 0).val / 32768) + 4096

/-- The first row held, as a number. -/
theorem rowBase_toNat (i : grid0.Coords) (r : Fin 2) : (rowBase i r).toNat = 16384 * (i 0).val + 8192 * r.val := by
  revert r; revert i; decide +kernel

section
variable {I : S262144.Idx → BitVec 32} (hI : Sorted I) (i : grid0.Coords) (r : Fin 2)

include hI in
/-- Where an index read by a tile lies: among the rows its SparseCore holds. -/
theorem words_in (y : S4096.Idx) :
    16384 * (i 0).val + 8192 * r.val ≤ (words I (i 0).val r.val (i 1).val y).toNat
      ∧ (words I (i 0).val r.val (i 1).val y).toNat < 16384 * (i 0).val + 8192 * r.val + 8192 := by
  have h0 : (i 0).val < 2 := (i 0).isLt
  have h1 : (i 1).val < 16 := (i 1).isLt
  have hr := r.isLt
  have hy : (y 0).val < 4096 := (y 0).isLt
  have hv := pt1_val (a := 262144) (i := 131072 * (i 0).val + 65536 * r.val + 4096 * (i 1).val + (y 0).val) (by omega)
  have h := hI (pt1 (131072 * (i 0).val + 65536 * r.val + 4096 * (i 1).val + (y 0).val))
  unfold words
  rw [hv] at h
  omega

include hI in
/-- An index less the first row held, as a number. -/
theorem local_toNat (y : S4096.Idx) :
    (words I (i 0).val r.val (i 1).val y - rowBase i r).toNat = (words I (i 0).val r.val (i 1).val y).toNat - (16384 * (i 0).val + 8192 * r.val) := by
  have h := words_in hI i r y
  rw [BitVec.toNat_sub_of_le (BitVec.le_def.mpr (by rw [rowBase_toNat]; exact h.1)), rowBase_toNat]

include hI in
/-- It names a row of the shared buffer. -/
theorem local_in (y : S4096.Idx) : (words I (i 0).val r.val (i 1).val y - rowBase i r).toNat < 8192 := by
  have h := words_in hI i r y
  rw [local_toNat hI i r y]; omega

include hI in
/-- What a tile serves out of the rows held is its part of the result over the whole table. -/
theorem served_part (T : S32768x128.Idx → F .f32) (M : S262144.Idx → BitVec 32) (y : S128x128.Idx) :
    served (held T (i 0).val r.val) (fun z => words I (i 0).val r.val (i 1).val z - rowBase i r) (words M (i 0).val r.val (i 1).val) y
      = result T I M (pt2 (4096 * (i 0).val + 2048 * r.val + 128 * (i 1).val + (y 0).val) (y 1).val) := by
  have h0 : (i 0).val < 2 := (i 0).isLt
  have h1 : (i 1).val < 16 := (i 1).isLt
  have hr := r.isLt
  have hy : (y 0).val < 128 := (y 0).isLt
  have hy1 : (y 1).val < 128 := (y 1).isLt
  have hrow := pt2_row (a := 8192) (b := 128) (i := 4096 * (i 0).val + 2048 * r.val + 128 * (i 1).val + (y 0).val) (j := (y 1).val) (by omega)
  have hcol := pt2_col (a := 8192) (b := 128) (i := 4096 * (i 0).val + 2048 * r.val + 128 * (i 1).val + (y 0).val) (j := (y 1).val) hy1
  unfold served result
  refine top_congr fun k hk => ?_
  rw [hrow, hcol]
  have hw : ∀ X : S262144.Idx → BitVec 32, words X (i 0).val r.val (i 1).val (pt1 (32 * (y 0).val + k))
      = X (pt1 (32 * (4096 * (i 0).val + 2048 * r.val + 128 * (i 1).val + (y 0).val) + k)) := fun X => by
    unfold words
    rw [pt1_val (a := 4096) (by omega)]
    exact congrArg (fun n => X (pt1 n)) (by omega)
  have hin := words_in hI i r (pt1 (32 * (y 0).val + k))
  congr 1
  · rw [local_toNat hI i r, ← hw I]
    unfold held
    rw [pt2_row (a := 8192) (b := 128) (by omega), pt2_col (a := 8192) (b := 128) hy1]
    exact congrArg (fun n => T (pt2 n (y 1).val)) (by omega)
  · rw [hw M]
end

/-! ## The places -/

/-- The shared buffer cut into sixteen. -/
theorem sixteen : 16 ∣ S8192x128.size 0 := ⟨512, rfl⟩
/-- The result cut into sixty-four. -/
theorem sixtyfour : 64 ∣ S8192x128.size 0 := ⟨128, rfl⟩

/-- The rows of the shared buffer tile `j` fills. -/
def chunk (j : Fin 16) : Finset S8192x128.Idx := (Rect.part (s := S8192x128) (a₀ := 0) sixteen j).set
/-- The rows of the result that make block `b`. -/
def block (b : Fin 64) : Finset S8192x128.Idx := (Rect.part (s := S8192x128) (a₀ := 0) sixtyfour b).set

/-- Different tiles fill different rows. -/
theorem chunk_disjoint : ∀ i ∈ (Finset.univ : Finset (Fin 16)), ∀ j ∈ (Finset.univ : Finset (Fin 16)), i ≠ j → Disjoint (chunk i) (chunk j) :=
  fun _ _ _ _ h => Rect.part_disjoint sixteen h
/-- All tiles together fill the shared buffer. -/
theorem chunk_cover : (Finset.univ : Finset (Fin 16)).biUnion chunk = Finset.univ := Rect.biUnion_part sixteen
/-- Different blocks have different rows. -/
theorem block_disjoint : ∀ i ∈ (Finset.univ : Finset (Fin 64)), ∀ j ∈ (Finset.univ : Finset (Fin 64)), i ≠ j → Disjoint (block i) (block j) :=
  fun _ _ _ _ h => Rect.part_disjoint sixtyfour h
/-- All blocks together are the result. -/
theorem block_cover : (Finset.univ : Finset (Fin 64)).biUnion block = Finset.univ := Rect.biUnion_part sixtyfour

/-- The SparseCore of a tile, by number. -/
def coreNo (i : grid0.Coords) : Fin 2 := ⟨(i 0).val, (i 0).isLt⟩
/-- The place of a tile in its SparseCore, by number. -/
def tileNo (i : grid0.Coords) : Fin 16 := ⟨(i 1).val, (i 1).isLt⟩

/-- The block tile `i` of SparseCore `c` writes in pass `r`. -/
def blockNo (c : Fin 2) (r : Fin 2) (i : Fin 16) : Fin 64 := ⟨32 * c.val + 16 * r.val + i.val, by omega⟩

section
variable [Facts]

/-- A copy's rows of the shared buffer are the tile's. -/
theorem spmPart_set (i : grid0.Coords) :
    ((Memref.whole cc0_scratch0).view.slice (Rect.unit (s := S8192x128) (k0_off1 i) S512x128.size (k0_off1_inb i))).set = chunk (tileNo i) := by
  have e : Rect.unit (s := S8192x128) (k0_off1 i) S512x128.size (k0_off1_inb i) = Rect.part (s := S8192x128) (a₀ := 0) sixteen (tileNo i) := by
    unfold Rect.part Rect.block
    congr 1 <;> funext a
    · rw [Gen.k0_off1_eq]
      match a with
      | 0 => simp [Shape.partIx, Shape.partSize, tileNo, Nat.mul_comm]
      | 1 => simp [Shape.partIx, Shape.partSize]
    · match a with
      | 0 => simp [Shape.partSize]
      | 1 => simp [Shape.partSize]
  rw [e]
  show ((View.whole (cc0_scratch0 : Ref sig .scVector)).slice _).set = _
  rw [View.set_slice]
  exact Finset.map_refl

/-- A copy's rows of the result are one block. -/
theorem outPart_set (i : grid0.Coords) (r : Fin 2) :
    ((Memref.whole main_v9_scv).view.slice (Rect.unit (s := S8192x128) (k0_off60 i (BitVec.ofNat 32 (2048 * r.val))) S128x128.size (k0_off60_inb i r))).set
      = block (blockNo (coreNo i) r (tileNo i)) := by
  have e : Rect.unit (s := S8192x128) (k0_off60 i (BitVec.ofNat 32 (2048 * r.val))) S128x128.size (k0_off60_inb i r)
      = Rect.part (s := S8192x128) (a₀ := 0) sixtyfour (blockNo (coreNo i) r (tileNo i)) := by
    unfold Rect.part Rect.block
    congr 1 <;> funext a
    · rw [Gen.k0_off60_eq]
      match a with
      | 0 => simp [Shape.partIx, Shape.partSize, blockNo, coreNo, tileNo]; omega
      | 1 => simp [Shape.partIx, Shape.partSize]
    · match a with
      | 0 => simp [Shape.partSize]
      | 1 => simp [Shape.partSize]
  rw [e]
  show ((View.whole (main_v9_scv : Ref sig .scVector)).slice _).set = _
  rw [View.set_slice]
  exact Finset.map_refl

/-- The rows copied to the shared buffer are those it is to hold. -/
theorem held_copied (T : S32768x128.Idx → F .f32) (i : grid0.Coords) (r : Fin 2) :
    (fun j => T ((Rect.unit (s := S32768x128) (k0_off2 i (BitVec.ofNat 32 r.val)) S512x128.size (k0_off2_inb i r)).emb j))
      = fun j => held T (i 0).val r.val ((Rect.unit (s := S8192x128) (k0_off1 i) S512x128.size (k0_off1_inb i)).emb j) := by
  funext j
  refine congrArg T (pt2_self _ ?_ ?_)
  · have e1 : k0_off1 i 0 = 512 * (i 1).val := congrFun (Gen.k0_off1_eq i) 0
    have e2 : k0_off2 i (BitVec.ofNat 32 r.val) 0 = 16384 * (i 0).val + 8192 * r.val + 512 * (i 1).val := congrFun (Gen.k0_off2_eq i r) 0
    show k0_off2 i (BitVec.ofNat 32 r.val) 0 + 1 * (j 0).val = 16384 * (i 0).val + 8192 * r.val + (k0_off1 i 0 + 1 * (j 0).val)
    omega
  · exact congrArg (· + 1 * (j 1).val) ((congrFun (Gen.k0_off2_eq i r) 1).trans (congrFun (Gen.k0_off1_eq i) 1).symm)

/-- The words copied are the tile's. -/
theorem words_copied (X : S262144.Idx → BitVec 32) (i : grid0.Coords) (r : Fin 2) :
    (fun j => X ((Rect.unit (s := S262144) (k0_off3 i (BitVec.ofNat 32 (2048 * r.val))) S4096.size (k0_off3_inb i r)).emb j))
      = words X (i 0).val r.val (i 1).val := by
  funext j
  refine congrArg X (pt1_self _ ?_)
  have e : k0_off3 i (BitVec.ofNat 32 (2048 * r.val)) 0 = 131072 * (i 0).val + 65536 * r.val + 4096 * (i 1).val := congrFun (Gen.k0_off3_eq i r) 0
  exact congr (congrArg _ e) (Nat.one_mul _)

/-- What a tile serves is the result, read at the rows it writes. -/
theorem served_block {I : S262144.Idx → BitVec 32} (hI : Sorted I) (T : S32768x128.Idx → F .f32) (M : S262144.Idx → BitVec 32) (i : grid0.Coords) (r : Fin 2) :
    served (held T (i 0).val r.val) (fun z => words I (i 0).val r.val (i 1).val z - rowBase i r) (words M (i 0).val r.val (i 1).val)
      = fun j => result T I M ((Rect.unit (s := S8192x128) (k0_off60 i (BitVec.ofNat 32 (2048 * r.val))) S128x128.size (k0_off60_inb i r)).emb j) := by
  funext j
  rw [served_part hI]
  refine congrArg (result T I M) (pt2_self _ ?_ ?_).symm
  · exact congr (congrArg _ (congrFun (Gen.k0_off60_eq i r) 0)) (Nat.one_mul _)
  · exact (congr (congrArg _ (congrFun (Gen.k0_off60_eq i r) 1)) (Nat.one_mul _)).trans (Nat.zero_add _)
end

end Cert.Parts
-- ==== Proof.Pass.lean ====
/-
  One pass of a tile, in its two halves: what it does before it meets its siblings, and what it does
  after.
-/
module

public import proofs.«01_k».proof.Proof.Parts

@[expose] public section

noncomputable section

namespace Cert.Pass

open Cert.KernelIdeal Cert.Body Cert.Value Cert.Entity Cert.Half Cert.Trip Cert.Copy Cert.Parts
open Cert.KernelIdeal.Facts₀ Cert.KernelIdeal.Facts
open Idealize.ShloMosaic Idealize.ShloMosaic.SparseCore Idealize.ShloMosaic.Transfers
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Facts]
variable {Ix : Type} [DecidableEq Ix] {Name : Type} [DecidableEq Name] [Infinite Name] {U : Type} [URA U] [CountersIn U] {Lvl : Type} [Preorder Lvl]
variable {defs : Defs nD τ sig (Elt F) Λ₀} (𝒱 : Variants) (bd : Option 𝒱.V)
variable (d : Dev nD) (i : grid0.Coords) (r : Fin 2)

local notation "𝕄" => MT nD τ sig Ix (Elt F) Name U Lvl
local notation "me" => (V d (cc i) (ss i) : Thread nD τ)
local notation "run" => wp frame (wpE defs 𝒱 (V d (cc i) (ss i)) bd) Set.univ

local notation "tblV" => (Memref.whole Cert.KernelIdeal.main_v0_scv : Memref Cert.KernelIdeal.sig Kind.scVector Space.hbm Cert.KernelIdeal.S32768x128 EltTy.f32)
local notation "idxV" => (Memref.whole Cert.KernelIdeal.main_v7_scv : Memref Cert.KernelIdeal.sig Kind.scVector Space.hbm Cert.KernelIdeal.S262144 EltTy.i32)
local notation "mskV" => (Memref.whole Cert.KernelIdeal.main_v8_scv : Memref Cert.KernelIdeal.sig Kind.scVector Space.hbm Cert.KernelIdeal.S262144 EltTy.i32)
local notation "resV" => (Memref.whole Cert.KernelIdeal.main_v9_scv : Memref Cert.KernelIdeal.sig Kind.scVector Space.hbm Cert.KernelIdeal.S8192x128 EltTy.f32)
local notation "spmV" => (Memref.whole Cert.KernelIdeal.cc0_scratch0 : Memref Cert.KernelIdeal.sig Kind.scVector Space.shared Cert.KernelIdeal.S8192x128 EltTy.f32)
local notation "iV" => (Memref.whole Cert.KernelIdeal.cc0_scratch1 : Memref Cert.KernelIdeal.sig Kind.scVector Space.vmem Cert.KernelIdeal.S4096 EltTy.i32)
local notation "mV" => (Memref.whole Cert.KernelIdeal.cc0_scratch2 : Memref Cert.KernelIdeal.sig Kind.scVector Space.vmem Cert.KernelIdeal.S4096 EltTy.i32)
local notation "aV" => (Memref.whole Cert.KernelIdeal.cc0_scratch3 : Memref Cert.KernelIdeal.sig Kind.scVector Space.vmem Cert.KernelIdeal.S128x128 EltTy.f32)
local notation "bV" => (Memref.whole Cert.KernelIdeal.cc0_scratch4 : Memref Cert.KernelIdeal.sig Kind.scVector Space.vmem Cert.KernelIdeal.S128x128 EltTy.f32)
local notation "oV" => (Memref.whole Cert.KernelIdeal.cc0_scratch5 : Memref Cert.KernelIdeal.sig Kind.scVector Space.vmem Cert.KernelIdeal.S128x128 EltTy.f32)

/-- Part of a buffer is lent out, to be taken back unchanged. -/
theorem lend (t : Thread nD τ) {sp : Space} {sh : Shape} {e : EltTy} (m : Memref sig t.2.kind sp sh e) (q : PosShare TreeShare) (X : sh.Idx → Elt F e)
    (w : Rect sh) (hw : ∀ a, w.stride a = 1) :
    (owns t m q X : sProp 𝕄)
      ⊢ iprop(owns t (m.slice w hw) q (fun j => X (w.emb j)) ∗ (owns t (m.slice w hw) q (fun j => X (w.emb j)) -∗ owns t m q X)) := by
  have h (g : m.view.ty.Contents (Elt F)) : (m.view.loc t ↦[m.view.set]{q} g : sProp 𝕄)
      ⊢ iprop((m.view.loc t ↦[(m.view.slice w).set]{q} g) ∗ ((m.view.loc t ↦[(m.view.slice w).set]{q} g) -∗ owns t m q (m.view.read (Elt F) g))) := by
    iintro H
    ihave H := (pointsTo_split_subset (m.view.set_slice_subset w)).1 $$ H
    icases H with ⟨H, Hr⟩
    isplitl [H]; · iexact H
    iintro H
    iapply (owns_intro t m q g)
    iapply (pointsTo_split_subset (m.view.set_slice_subset w)).2
    isplitl [H] <;> iassumption
  iintro H
  ihave H := (show owns t m q X ⊢ iprop(∃ g, ⌜m.view.read (Elt F) g = X⌝ ∗ m.view.loc t ↦[m.view.set]{q} g) from .rfl) $$ H
  icases H with ⟨%g, %hg, H⟩
  subst hg
  ihave H := (h g) $$ H
  icases H with ⟨H, Hb⟩
  isplitl [H]
  · iapply (Entails.of_eq (owns_slice_read t m q w hw g).symm); iexact H
  iintro H
  iapply Hb
  iapply (Entails.of_eq (owns_slice_read t m q w hw g)); iexact H

/-- A share of a buffer is its two halves. -/
theorem halve (b : Ref sig .scVector) (q : PosShare TreeShare) (X : b.ty.Contents (Elt F)) :
    (owns me (Memref.whole b) q X : sProp 𝕄) ⊣⊢ iprop(owns me (Memref.whole b) q.left X ∗ owns me (Memref.whole b) q.right X) := by
  rw [owns_whole me b q X, owns_whole me b q.left X, owns_whole me b q.right X]
  exact pointsTo_share (PosShare.mem_left_op_right q)

variable (q : PosShare TreeShare) (T : S32768x128.Idx → F .f32) (I M : S262144.Idx → BitVec 32)

/-- A tile's rows of the shared buffer, at whatever they hold, as a copy's target. -/
theorem chunk_target : (iprop(∃ f : Buf (Elt F) ((me).loc cc0_scratch0), (me).loc cc0_scratch0 ↦[chunk (tileNo i)]{fullShare} f) : sProp 𝕄)
    ⊢ iprop(∃ Y, owns me (spmPart i spmV) fullShare Y) := by
  iintro ⟨%f, H⟩
  iexists _
  iapply (Entails.of_eq (owns_slice_read me spmV fullShare (Rect.unit (s := S8192x128) (k0_off1 i) S512x128.size (k0_off1_inb i)) (fun _ => rfl) f).symm)
  rw [spmPart_set i]
  iexact H

/-- A tile's rows of the shared buffer, copied. -/
theorem chunk_filled {Y : S512x128.Idx → F .f32}
    (hY : Y = fun j => T ((Rect.unit (s := S32768x128) (k0_off2 i (BitVec.ofNat 32 r.val)) S512x128.size (k0_off2_inb i r)).emb j)) :
    (owns me (spmPart i spmV) fullShare Y : sProp 𝕄)
      ⊢ ((me).loc cc0_scratch0 ↦[chunk (tileNo i)]{fullShare} (held T (i 0).val r.val : S8192x128.Idx → F .f32) : sProp 𝕄) := by
  refine (Entails.of_eq (congrArg (owns me (spmPart i spmV) fullShare) (hY.trans (held_copied T i r)))).trans ?_
  refine (Entails.of_eq (owns_slice_read (Val := Elt F) me spmV fullShare (Rect.unit (s := S8192x128) (k0_off1 i) S512x128.size (k0_off1_inb i)) (fun _ => rfl)
    (held T (i 0).val r.val : S8192x128.Idx → F .f32))).trans ?_
  rw [spmPart_set i]

/-- A block of the result, at whatever it holds, as a copy's target. -/
theorem block_target (f : S8192x128.Idx → F .f32) :
    ((me).loc main_v9_scv ↦[block (blockNo (coreNo i) r (tileNo i))]{fullShare} f : sProp 𝕄)
    ⊢ iprop(∃ Y, owns me (outPart i r resV) fullShare Y) := by
  iintro H
  iexists _
  iapply (Entails.of_eq (owns_slice_read me resV fullShare
    (Rect.unit (s := S8192x128) (k0_off60 i (BitVec.ofNat 32 (2048 * r.val))) S128x128.size (k0_off60_inb i r)) (fun _ => rfl) f).symm)
  rw [outPart_set i r]
  iexact H

/-- A block of the result, written. -/
theorem block_filled {I : S262144.Idx → BitVec 32} (hI : Sorted I) :
    (owns me (outPart i r resV) fullShare
        (served (held T (i 0).val r.val) (fun z => words I (i 0).val r.val (i 1).val z - rowBase i r) (words M (i 0).val r.val (i 1).val)) : sProp 𝕄)
      ⊢ ((me).loc main_v9_scv ↦[block (blockNo (coreNo i) r (tileNo i))]{fullShare} (result T I M : S8192x128.Idx → F .f32) : sProp 𝕄) := by
  refine (Entails.of_eq (congrArg (owns me (outPart i r resV) fullShare) (served_block hI T M i r))).trans ?_
  refine (Entails.of_eq (owns_slice_read (Val := Elt F) me resV fullShare
    (Rect.unit (s := S8192x128) (k0_off60 i (BitVec.ofNat 32 (2048 * r.val))) S128x128.size (k0_off60_inb i r)) (fun _ => rfl)
    (result T I M : S8192x128.Idx → F .f32))).trans ?_
  rw [outPart_set i r]

variable {α : Type} {Q : α → sProp (MT nD τ sig Ix (Elt F) Name U Lvl)}
variable (ι : Ix) (O : CellTallies nD τ sig Ix) (W0 : Waits sig Ix)

/-- Before the meeting: the tile's rows of the table are in the shared buffer, and its indices, made relative, and masks in its own memory. -/
theorem load_run (va vb vc : DmaSems sig S_) {kk : PUnit → TP F (cc i) (ss i) α} :
    iprop(owns me tblV q T ∗ owns me idxV q I ∗ owns me mskV q M
        ∗ (∃ f : Buf (Elt F) ((me).loc cc0_scratch0), (me).loc cc0_scratch0 ↦[chunk (tileNo i)]{fullShare} f)
        ∗ (∃ X, owns me iV fullShare X) ∗ (∃ X, owns me mV fullShare X)
        ∗ (semVal (me, SemLoc.dma va.sem) 0 ∗ semVal (me, SemLoc.dma vb.sem) 0 ∗ semVal (me, SemLoc.dma vc.sem) 0)
        ∗ Owing me ι O W0 ∗ MayWaits me ι O)
      ⊢ (iprop((iprop(owns me tblV q T ∗ owns me idxV q I ∗ owns me mskV q M
            ∗ ((me).loc cc0_scratch0 ↦[chunk (tileNo i)]{fullShare} (held T (i 0).val r.val : S8192x128.Idx → F .f32))
            ∗ owns me iV fullShare (fun y => words I (i 0).val r.val (i 1).val y - rowBase i r) ∗ owns me mV fullShare (words M (i 0).val r.val (i 1).val)
            ∗ (semVal (me, SemLoc.dma va.sem) 0 ∗ semVal (me, SemLoc.dma vb.sem) 0 ∗ semVal (me, SemLoc.dma vc.sem) 0)
            ∗ Owing me ι O W0) -∗ run (kk ⟨⟩) Q)
          -∗ run (takeTbl i r va tblV spmV >>= fun _ => takeWords i r vb idxV iV (Memref.isWhole_whole _) >>= fun _ =>
              takeWords i r vc mskV mV (Memref.isWhole_whole _) >>= fun _ => localise (cc i) (ss i) iV (rowBase i r) >>= kk) Q) : sProp 𝕄) := by
  iintro ⟨Ht, Hi, Hm, Hc, Hiv, Hmv, ⟨Ha, Hb, Hs⟩, HO, #Hw⟩ Hk
  ihave Hc := (chunk_target d i) $$ Hc
  ihave Ht := (lend me tblV q T (Rect.unit (s := S32768x128) (k0_off2 i (BitVec.ofNat 32 r.val)) S512x128.size (k0_off2_inb i r)) (fun _ => rfl)) $$ Ht
  icases Ht with ⟨Ht, Htb⟩
  unfold takeTbl
  iapply (copy_run 𝒱 bd d (cc i) (ss i) ι O W0 (tblPart i r tblV) (spmPart i spmV) va (by decide) q) $$ [Ht Hc Ha HO]
  · isplitl [Ht]; · iexact Ht
    isplitl [Hc]; · iexact Hc
    isplitl [Ha]; · iexact Ha
    isplitl [HO]; · iexact HO
    iexact Hw
  iintro ⟨Ht, Hc, Ha, HO⟩
  ihave Ht := Htb $$ Ht
  ihave Hc := (chunk_filled d i r T rfl) $$ Hc
  ihave Hi := (lend me idxV q I (Rect.unit (s := S262144) (k0_off3 i (BitVec.ofNat 32 (2048 * r.val))) S4096.size (k0_off3_inb i r)) (fun _ => rfl)) $$ Hi
  icases Hi with ⟨Hi, Hib⟩
  unfold takeWords
  iapply (copy_run 𝒱 bd d (cc i) (ss i) ι O W0 (wordPart i r idxV) iV vb (by decide) q) $$ [Hi Hiv Hb HO]
  · isplitl [Hi]; · iexact Hi
    isplitl [Hiv]; · iexact Hiv
    isplitl [Hb]; · iexact Hb
    isplitl [HO]; · iexact HO
    iexact Hw
  iintro ⟨Hi, Hiv, Hb, HO⟩
  ihave Hi := Hib $$ Hi
  ihave Hiv := (Entails.of_eq (congrArg (owns me iV fullShare) (words_copied I i r))) $$ Hiv
  ihave Hm := (lend me mskV q M (Rect.unit (s := S262144) (k0_off3 i (BitVec.ofNat 32 (2048 * r.val))) S4096.size (k0_off3_inb i r)) (fun _ => rfl)) $$ Hm
  icases Hm with ⟨Hm, Hmb⟩
  iapply (copy_run 𝒱 bd d (cc i) (ss i) ι O W0 (wordPart i r mskV) mV vc (by decide) q) $$ [Hm Hmv Hs HO]
  · isplitl [Hm]; · iexact Hm
    isplitl [Hmv]; · iexact Hmv
    isplitl [Hs]; · iexact Hs
    isplitl [HO]; · iexact HO
    iexact Hw
  iintro ⟨Hm, Hmv, Hs, HO⟩
  ihave Hm := Hmb $$ Hm
  ihave Hmv := (Entails.of_eq (congrArg (owns me mV fullShare) (words_copied M i r))) $$ Hmv
  iapply (localise_run 𝒱 bd d (cc i) (ss i) (words I (i 0).val r.val (i 1).val) (rowBase i r)) $$ Hiv
  iintro Hiv
  iapply Hk
  isplitl [Ht]; · iexact Ht
  isplitl [Hi]; · iexact Hi
  isplitl [Hm]; · iexact Hm
  isplitl [Hc]; · iexact Hc
  isplitl [Hiv]; · iexact Hiv
  isplitl [Hmv]; · iexact Hmv
  isplitl [Ha Hb Hs]
  · isplitl [Ha]; · iexact Ha
    isplitl [Hb] <;> iassumption
  iexact HO

/-- A gather into a row buffer counts as its rows do. -/
theorem even_a : Even aV := fun _ => (show _ = _ from by
  show ∑ j, ((aV).slice (S128x128.rowRect (gathers_S8192x128_S128x128).axis' j) (S128x128.stride_rowRect (gathers_S8192x128_S128x128).axis' j)).view.dmaCredit = (aV).view.dmaCredit
  decide +kernel)
@[inherit_doc even_a] theorem even_b : Even bV := fun _ => (show _ = _ from by
  show ∑ j, ((bV).slice (S128x128.rowRect (gathers_S8192x128_S128x128).axis' j) (S128x128.stride_rowRect (gathers_S8192x128_S128x128).axis' j)).view.dmaCredit = (bV).view.dmaCredit
  decide +kernel)

/-- After the meeting: the tile serves its entities out of the rows held and writes them to its block of the result. -/
theorem serve_run (hI : Sorted I) (q' : PosShare TreeShare) (f : S8192x128.Idx → F .f32) (s0 s1 vd : DmaSems sig S_) {kk : PUnit → TP F (cc i) (ss i) PUnit}
    {Q : PUnit → sProp (MT nD τ sig Ix (Elt F) Name U Lvl)} :
    iprop(owns me spmV q' (held T (i 0).val r.val)
        ∗ owns me iV fullShare (fun y => words I (i 0).val r.val (i 1).val y - rowBase i r) ∗ owns me mV fullShare (words M (i 0).val r.val (i 1).val)
        ∗ ((∃ X, owns me aV fullShare X) ∗ (∃ X, owns me bV fullShare X) ∗ (∃ X, owns me oV fullShare X))
        ∗ (semVal (me, SemLoc.dma s0.sem) 0 ∗ semVal (me, SemLoc.dma s1.sem) 0 ∗ semVal (me, SemLoc.dma vd.sem) 0)
        ∗ ((me).loc main_v9_scv ↦[block (blockNo (coreNo i) r (tileNo i))]{fullShare} f)
        ∗ Owing me ι O W0 ∗ MayWaits me ι O)
      ⊢ (iprop((iprop(owns me spmV q' (held T (i 0).val r.val)
            ∗ (∃ X, owns me iV fullShare X) ∗ (∃ X, owns me mV fullShare X)
            ∗ ((∃ X, owns me aV fullShare X) ∗ (∃ X, owns me bV fullShare X) ∗ (∃ X, owns me oV fullShare X))
            ∗ (semVal (me, SemLoc.dma s0.sem) 0 ∗ semVal (me, SemLoc.dma s1.sem) 0 ∗ semVal (me, SemLoc.dma vd.sem) 0)
            ∗ ((me).loc main_v9_scv ↦[block (blockNo (coreNo i) r (tileNo i))]{fullShare} (result T I M : S8192x128.Idx → F .f32))
            ∗ Owing me ι O W0) -∗ run (kk ⟨⟩) Q)
          -∗ run (work i spmV iV mV aV (Memref.isWhole_whole _) bV (Memref.isWhole_whole _) oV s0 s1 >>= fun _ =>
              give i r vd resV oV (Memref.isWhole_whole _) >>= kk) Q) : sProp 𝕄) := by
  iintro ⟨Hs, Hi, Hm, ⟨Ha, Hb, Ho⟩, ⟨H0, H1, Hd⟩, Hr, HO, #Hw⟩ Hk
  ihave Hs := (halve d i cc0_scratch0 q' (held T (i 0).val r.val)).1 $$ Hs
  icases Hs with ⟨Hs, Hs'⟩
  ihave Hi := (halve d i cc0_scratch1 fullShare (fun y => words I (i 0).val r.val (i 1).val y - rowBase i r)).1 $$ Hi
  icases Hi with ⟨Hi, Hi'⟩
  iapply (work_run 𝒱 bd d spmV iV (held T (i 0).val r.val) (fun y => words I (i 0).val r.val (i 1).val y - rowBase i r) mV aV bV oV
    q'.left q'.right fullShare.left fullShare.right (words M (i 0).val r.val (i 1).val) s0 s1 ι O W0 i even_a even_b (fun y => local_in hI i r y)
    (Memref.isWhole_whole _) (Memref.isWhole_whole _)) $$ [Hs Hs' Hi Hi' Hm Ha Hb Ho H0 H1 HO]
  · unfold Idle
    isplitl [Hs Hi Ha H0]
    · isplitl [Hs]; · iexact Hs
      isplitl [Hi]; · iexact Hi
      isplitl [Ha] <;> iassumption
    isplitl [Hs' Hi' Hb H1]
    · isplitl [Hs']; · iexact Hs'
      isplitl [Hi']; · iexact Hi'
      isplitl [Hb] <;> iassumption
    isplitl [Hm]; · iexact Hm
    isplitl [Ho]; · iexact Ho
    isplitl [HO]; · iexact HO
    iexact Hw
  unfold Idle
  iintro ⟨⟨Hs, Hi, Ha, H0⟩, ⟨Hs', Hi', Hb, H1⟩, Hm, Ho, HO⟩
  ihave Hs := (halve d i cc0_scratch0 q' (held T (i 0).val r.val)).2 $$ [Hs Hs']; · isplitl [Hs] <;> iassumption
  ihave Hi := (halve d i cc0_scratch1 fullShare (fun y => words I (i 0).val r.val (i 1).val y - rowBase i r)).2 $$ [Hi Hi']; · isplitl [Hi] <;> iassumption
  ihave Hr := (block_target d i r f) $$ Hr
  unfold give
  iapply (copy_run 𝒱 bd d (cc i) (ss i) ι O W0 oV (outPart i r resV) vd (by decide) fullShare) $$ [Ho Hr Hd HO]
  · isplitl [Ho]; · iexact Ho
    isplitl [Hr]; · iexact Hr
    isplitl [Hd]; · iexact Hd
    isplitl [HO]; · iexact HO
    iexact Hw
  iintro ⟨Ho, Hr, Hd, HO⟩
  ihave Hr := (block_filled d i r T M hI) $$ Hr
  iapply Hk
  isplitl [Hs]; · iexact Hs
  isplitl [Hi]; · iexists _; iexact Hi
  isplitl [Hm]; · iexists _; iexact Hm
  isplitl [Ha Hb Ho]
  · isplitl [Ha]; · iexact Ha
    isplitl [Hb]; · iexact Hb
    iexists _; iexact Ho
  isplitl [H0 H1 Hd]
  · isplitl [H0]; · iexact H0
    isplitl [H1] <;> iassumption
  isplitl [Hr]; · iexact Hr
  iexact HO

end Cert.Pass
-- ==== Proof.Meet.lean ====
/-
  A subcore barrier met several times.

  The tiles of one SparseCore meet again and again at one barrier semaphore. A tile that leaves a
  meeting early may arrive at the next one before a slow sibling has left this one, so the units of
  two meetings mix on one counter, and a unit alone does not say which meeting it belongs to. What
  holds is this: a tile signals meeting `k` only after it has left meeting `k - 1`, so the FIRST
  tile that leaves meeting `k` has counted one unit of every sibling for each of the meetings up to
  `k`, and every sibling has therefore arrived at it.

  The bookkeeping: each tile has a BOX, in which it lays on arrival everything it hands to its
  siblings at that meeting, and a CELL, its barrier counter with the tickets of the units that have
  landed. A ticket carries the fact that its sender has arrived at the meeting, and that everybody
  had arrived at the meeting before. Leaving a meeting yields the fact that everybody has arrived,
  and with it what every box holds for the leaver.
-/
module

public import Idealize.ShloMosaic.Lib.SparseCore.Ops
public import Idealize.ShloMosaic.Lib.Rounds

@[expose] public section

noncomputable section

namespace Cert.Meet

open Idealize.ShloMosaic Idealize.ShloMosaic.SparseCore
open Idealize.SL
open Idealize.SL.BI (sProp bigSep Storable)
open scoped Idealize.SL.BI
open Idealize.SL.BI.BIBase Idealize.SL.BI.Laws Idealize.SL.Sem Idealize.SL.ProofMode
open Idealize.SL.RA
open Idealize.ShloMosaic.Rounds

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (bd : Option 𝒱.V)
variable {α : Type} {Q : α → sProp (MT nD τ sig Ix (Elt F) Name U Lvl)}

local notation "𝕄" => MT nD τ sig Ix (Elt F) Name U Lvl

/-- What the records are kept under: `true` for a tile's box, `false` for its cell. -/
abbrev Key (nD : Nat) (τ : Topo) : Type := Bool × Thread nD τ

variable {n : ℕ} (ER : Emb (URounds (Key nD τ) (Fin n)) (MT nD τ sig Ix (Elt F) Name U Lvl)) [ER.LandsIn (upEmb : UEmb _ (MT nD τ sig Ix (Elt F) Name U Lvl))]
  (hn : n ≤ τ.nSub) (d : Dev nD) (c : Fin τ.nSC) (bar : Sem sig) (N : ℕ)
  (pl : ℕ → Fin n → Fin n → sProp (MT nD τ sig Ix (Elt F) Name U Lvl)) [∀ k i j, Storable (upEmb : UEmb _ (MT nD τ sig Ix (Elt F) Name U Lvl)) (pl k i j)]

/-- Tile `i` of the SparseCore, as a thread. -/
abbrev tile (i : Fin n) : Thread nD τ := V d c (i.castLE hn)

omit [FloatOps F] [Preorder Lvl] [ER.LandsIn (upEmb : UEmb _ 𝕄)] in
/-- An entailment of the library, in the proof mode's reading. -/
theorem reading {P R : sProp 𝕄} (h : Idealize.SL.BI.Entails P R) : P ⊢ R := h

omit [FloatOps F] [Preorder Lvl] in
/-- A separating conjunction over a set with one more element, in the proof mode's `∗`. -/
theorem over_insert {I : Type} [DecidableEq I] {s : Finset I} {i : I} (hi : i ∉ s) {Φ : I → sProp 𝕄} :
    bigSep (insert i s) Φ = iprop(Φ i ∗ bigSep s Φ) := BI.bigSep_insert hi

omit [FloatOps F] [Preorder Lvl] in
/-- One conjunct set apart, in the proof mode's `∗`. -/
theorem over_erase {I : Type} [DecidableEq I] {s : Finset I} {i : I} (hi : i ∈ s) {Φ : I → sProp 𝕄} :
    bigSep s Φ = iprop(Φ i ∗ bigSep (s.erase i) Φ) := BI.bigSep_erase hi

/-- Every tile has left `k` arrivals behind it: all have arrived at the meetings below `k`. -/
def before (k : ℕ) : sProp 𝕄 := bigSep Finset.univ fun i : Fin n => reached ER (true, tile hn d c i) k

instance before_persistent (k : ℕ) : BI.Persistent (before ER hn d c k) := by unfold before; infer_instance
instance before_storable (k : ℕ) : Storable (upEmb : UEmb _ 𝕄) (before ER hn d c k) := by unfold before; infer_instance

omit [FloatOps F] [Preorder Lvl] [ER.LandsIn (upEmb : UEmb _ 𝕄)] in
theorem before_mono {k k' : ℕ} (h : k' ≤ k) : before ER hn d c k ⊢ before ER hn d c k' := by
  unfold before
  exact BI.bigSep_mono fun _ _ => reached_mono ER h

omit [FloatOps F] [Preorder Lvl] [ER.LandsIn (upEmb : UEmb _ 𝕄)] in
theorem before_at (k : ℕ) (i : Fin n) : before ER hn d c k ⊢ reached ER (true, tile hn d c i) k := by
  unfold before
  exact BI.bigSep_elim (Finset.mem_univ i)

/-- A box: how often its tile has arrived, and for each arrival and each sibling either what the
    tile has laid in for it or the sibling's right to collect it, given in exchange. -/
def box (i : Fin n) : sProp 𝕄 :=
  iprop(∃ a : ℕ, roundAuth ER (true, tile hn d c i) a ∅ 0
    ∗ bigSep (Finset.range a) fun k => bigSep Finset.univ fun j : Fin n => iprop(pl k i j ∨ dutyTok ER (true, tile hn d c i) k j))

/-- A cell: the tickets `S` of the units landed so far, each with the fact that its sender has
    arrived and that all had arrived at the meeting before; and either the counter, with the number
    of meetings its tile has left, or nothing more, the tile having left all `N` of them. -/
def cell (j : Fin n) : sProp 𝕄 :=
  iprop(∃ S : Finset (ℕ × Fin n), ⌜S ⊆ Finset.range N ×ˢ Finset.univ⌝
    ∗ bigSep S (fun x => dutyTok ER (false, tile hn d c j) x.1 x.2)
    ∗ bigSep S (fun x => iprop(reached ER (true, tile hn d c x.2) (x.1 + 1) ∗ before ER hn d c x.1))
    ∗ ((∃ v p : ℕ, semVal (tile hn d c j, .reg bar) v ∗ roundAuth ER (false, tile hn d c j) p ∅ 0 ∗ ⌜v + n * p = S.card⌝)
      ∨ (atPos ER (false, tile hn d c j) N ∅ 0 ∗ ⌜N * n ≤ S.card⌝)))

instance box_storable (i : Fin n) : Storable (upEmb : UEmb _ 𝕄) (box ER hn d c pl i) := by unfold box; infer_instance
instance cell_storable (j : Fin n) : Storable (upEmb : UEmb _ 𝕄) (cell ER hn d c bar N j) := by unfold cell; infer_instance

omit [FloatOps F] [Preorder Lvl] [ER.LandsIn (upEmb : UEmb _ 𝕄)] in
/-- A box in which nothing has been laid. -/
theorem box_new (i : Fin n) : roundAuth ER (true, tile hn d c i) 0 ∅ 0 ⊢ box ER hn d c pl i := by
  unfold box
  iintro H
  iexists 0
  isplitl [H]; · iexact H
  rw [Finset.range_zero, BI.bigSep_empty]
  iempintro

omit [FloatOps F] [Preorder Lvl] [ER.LandsIn (upEmb : UEmb _ 𝕄)] in
/-- A cell at which nothing has landed. -/
theorem cell_new (j : Fin n) : iprop(semVal (tile hn d c j, .reg bar) 0 ∗ roundAuth ER (false, tile hn d c j) 0 ∅ 0)
    ⊢ cell ER hn d c bar N j := by
  unfold cell
  iintro ⟨Hv, Ha⟩
  iexists ∅
  isplitr; · ipureintro; exact Finset.empty_subset _
  isplitr; · rw [BI.bigSep_empty]; iempintro
  isplitr; · rw [BI.bigSep_empty]; iempintro
  ileft
  iexists 0, 0
  isplitl [Hv]; · iexact Hv
  isplitl [Ha]; · iexact Ha
  ipureintro; rfl

omit [FloatOps F] in
/-- Arriving: what a tile hands its siblings at meeting `a` goes into its box. -/
theorem arrive (i : Fin n) (a : ℕ) (κ : Name) :
    iprop(inv κ (box ER hn d c pl i) ∗ atPos ER (true, tile hn d c i) a ∅ 0 ∗ bigSep Finset.univ fun j : Fin n => pl a i j)
      ⊢ iprop(|={Set.univ}=> (atPos ER (true, tile hn d c i) (a + 1) ∅ 0 ∗ reached ER (true, tile hn d c i) (a + 1))) := by
  iintro ⟨Hinv, Hat, Hpl⟩
  imod (inv_acc (Set.mem_univ κ)) $$ Hinv with ⟨Hb, Hclose⟩
  unfold box
  icases Hb with ⟨%a', Hau, Hin⟩
  icombine Hau Hat gives %h
  obtain ⟨rfl, -, -⟩ := h
  imod (roundAuth_atPos_move ER (a + 1) ∅ 0 (Nat.le_succ a)) $$ [Hau Hat] with ⟨Hau, Hat⟩
  · isplitl [Hau] <;> iassumption
  imod (roundAuth_witness ER) $$ Hau with ⟨Hau, Hr⟩
  ihave Hc := Hclose $$ [Hau Hin Hpl]
  · iexists (a + 1)
    isplitl [Hau]; · iexact Hau
    rw [Finset.range_add_one, over_insert Finset.notMem_range_self]
    isplitl [Hpl]
    · iapply (reading (BI.bigSep_mono fun j _ => (by iintro H; ileft; iexact H : pl a i j ⊢ iprop(pl a i j ∨ dutyTok ER (true, tile hn d c i) a j)))) $$ Hpl
    iexact Hin
  imod Hc
  imodintro
  isplitl [Hat] <;> iassumption

omit [FloatOps F] in
/-- Collecting: what a tile that has arrived at meeting `k` laid in its box for `j`, for `j`'s right to it. -/
theorem collect (i j : Fin n) (k : ℕ) (κ : Name) :
    iprop(inv κ (box ER hn d c pl i) ∗ reached ER (true, tile hn d c i) (k + 1) ∗ dutyTok ER (true, tile hn d c i) k j)
      ⊢ iprop(|={Set.univ}=> pl k i j) := by
  iintro ⟨Hinv, #Hr, Htok⟩
  imod (inv_acc (Set.mem_univ κ)) $$ Hinv with ⟨Hb, Hclose⟩
  unfold box
  icases Hb with ⟨%a, Hau, Hin⟩
  icombine Hau Hr gives %h
  ihave Hin := (reading (Entails.of_eq (over_erase (Finset.mem_range.mpr h)))) $$ Hin
  icases Hin with ⟨Hrow, Hin⟩
  ihave Hrow := (reading (Entails.of_eq (over_erase (Finset.mem_univ j)))) $$ Hrow
  icases Hrow with ⟨Hmine, Hsib⟩
  icases Hmine with (Hmine | Htok')
  rotate_left
  · iexfalso
    iapply (dutyTok_dutyTok_false ER)
    isplitl [Htok] <;> iassumption
  ihave Hc := Hclose $$ [Hau Hin Hsib Htok]
  · iexists a
    isplitl [Hau]; · iexact Hau
    rw [over_erase (s := Finset.range a) (Finset.mem_range.mpr h), over_erase (s := Finset.univ) (Finset.mem_univ j)]
    isplitl [Hsib Htok]
    · isplitl [Htok]; · iright; iexact Htok
      iexact Hsib
    iexact Hin
  imod Hc
  imodintro
  iexact Hmine

omit [FloatOps F] in
/-- A unit lands: the ticket of tile `i` for meeting `k`, which `i` may send once it has itself
    arrived at it and knows everybody to have arrived at the meeting before. -/
theorem unit_lands (i j : Fin n) (k : ℕ) (hk : k < N) (κ : Name) :
    iprop(inv κ (cell ER hn d c bar N j) ∗ dutyTok ER (false, tile hn d c j) k i ∗ reached ER (true, tile hn d c i) (k + 1) ∗ before ER hn d c k)
      ⊢ landingUpdate (tile hn d c j, .reg bar) 1 iprop(emp) := by
  rw [landingUpdate_def]
  iintro ⟨Hinv, Htok, Hr, Hb⟩ -
  imod (inv_acc (Set.mem_univ κ)) $$ Hinv with ⟨Hcell, Hclose⟩
  unfold cell
  icases Hcell with ⟨%S, %hS, Htoks, Hfacts, Hrest⟩
  by_cases hin : (k, i) ∈ S
  · ihave Htoks := (reading (Entails.of_eq (over_erase hin))) $$ Htoks
    icases Htoks with ⟨Htok', -⟩
    iexfalso
    iapply (dutyTok_dutyTok_false ER)
    isplitl [Htok] <;> iassumption
  have hS' : insert (k, i) S ⊆ Finset.range N ×ˢ (Finset.univ : Finset (Fin n)) :=
    Finset.insert_subset (Finset.mem_product.mpr ⟨Finset.mem_range.mpr hk, Finset.mem_univ i⟩) hS
  have hcard : (insert (k, i) S).card = S.card + 1 := Finset.card_insert_of_notMem hin
  icases Hrest with (⟨%v, %p, Hv, Hau, %hv⟩ | ⟨-, %hfull⟩)
  rotate_left
  · exfalso
    have h1 := Finset.card_le_card hS'
    rw [hcard, Finset.card_product, Finset.card_range, Finset.card_univ, Fintype.card_fin] at h1
    omega
  imodintro
  rw [raiseSpec_apply]
  iexists v
  isplitl [Hv]; · iexact Hv
  iintro Hv
  ihave Hc := Hclose $$ [Hv Hau Htoks Hfacts Htok Hr Hb]
  · iexists (insert (k, i) S)
    isplitr; · ipureintro; exact hS'
    isplitl [Htoks Htok]
    · rw [over_insert hin]; isplitl [Htok] <;> iassumption
    isplitl [Hfacts Hr Hb]
    · rw [over_insert hin]
      isplitl [Hr Hb]
      · isplitl [Hr] <;> iassumption
      iexact Hfacts
    ileft
    iexists (v + 1), p
    isplitl [Hv]; · iexact Hv
    isplitl [Hau]; · iexact Hau
    ipureintro
    rw [hcard]; omega
  imod Hc
  imodintro
  iempintro

omit [FloatOps F] in
/-- Leaving: a wait of `n` units by a tile that has left `k` meetings, when it fires, tells that
    everybody has arrived at meeting `k`. -/
theorem leave (j : Fin n) (k : ℕ) (κ : Name) {K' : PUnit → sProp 𝕄} :
    iprop(inv κ (cell ER hn d c bar N j) ∗ atPos ER (false, tile hn d c j) k ∅ 0
        ∗ (iprop(atPos ER (false, tile hn d c j) (k + 1) ∅ 0 ∗ before ER hn d c (k + 1)) -∗ K' ⟨⟩))
      ⊢ atomically frame Set.univ (lowerSpec (tile hn d c j, .reg bar) n) K' := by
  iintro ⟨Hinv, Hat, Hk⟩
  imod (inv_acc (Set.mem_univ κ)) $$ Hinv with ⟨Hcell, Hclose⟩
  unfold cell
  icases Hcell with ⟨%S, %hS, Htoks, #Hfacts, Hrest⟩
  icases Hrest with (⟨%v, %p, Hv, Hau, %hv⟩ | ⟨Hat', -⟩)
  rotate_left
  · iexfalso
    iapply (atPos_atPos_false ER)
    isplitl [Hat] <;> iassumption
  icombine Hau Hat gives %h
  obtain ⟨rfl, -, -⟩ := h
  imodintro
  iapply lowerSpec_intro $$ Hv
  iintro %hle Hv
  imod (roundAuth_atPos_move ER (k + 1) ∅ 0 (Nat.le_succ k)) $$ [Hau Hat] with ⟨Hau, Hat⟩
  · isplitl [Hau] <;> iassumption
  ihave #Hall : before ER hn d c (k + 1) $$ []
  · by_cases hlate : ∃ x ∈ S, k + 1 ≤ x.1
    · obtain ⟨x, hx, hkx⟩ := hlate
      ihave Hx := (reading (BI.bigSep_elim hx)) $$ Hfacts
      icases Hx with ⟨-, Hb⟩
      iapply (before_mono ER hn d c hkx) $$ Hb
    · have hsub : S ⊆ Finset.range (k + 1) ×ˢ (Finset.univ : Finset (Fin n)) := fun x hx =>
        Finset.mem_product.mpr ⟨Finset.mem_range.mpr (by by_contra hc; exact hlate ⟨x, hx, by omega⟩), Finset.mem_univ _⟩
      have hfull : S = Finset.range (k + 1) ×ˢ (Finset.univ : Finset (Fin n)) := by
        refine Finset.eq_of_subset_of_card_le hsub ?_
        rw [Finset.card_product, Finset.card_range, Finset.card_univ, Fintype.card_fin, ← hv]
        calc (k + 1) * n = n + n * k := by rw [Nat.add_mul, Nat.one_mul, Nat.mul_comm k n, Nat.add_comm]
          _ ≤ v + n * k := Nat.add_le_add_right hle _
      unfold before
      iapply (reading (BI.bigSep_intro_persistent (fun i _ => ?_))) $$ Hfacts
      iintro #Hf
      ihave Hx := (reading (BI.bigSep_elim (i := (k, i))
        (by rw [hfull]; exact Finset.mem_product.mpr ⟨Finset.self_mem_range_succ k, Finset.mem_univ i⟩))) $$ Hf
      icases Hx with ⟨Hr, -⟩
      iexact Hr
  ihave Hc := Hclose $$ [Hv Hau Htoks]
  · iexists S
    isplitr; · ipureintro; exact hS
    isplitl [Htoks]; · iexact Htoks
    isplitr; · iexact Hfacts
    ileft
    iexists (v - n), (k + 1)
    isplitl [Hv]; · iexact Hv
    isplitl [Hau]; · iexact Hau
    ipureintro
    rw [← hv, Nat.mul_add, Nat.mul_one]; omega
  imod Hc
  imodintro
  iapply Hk
  isplitl [Hat] <;> iassumption

omit [FloatOps F] in
/-- A tile that has left all `N` meetings takes its barrier counter out, at zero. -/
theorem all_left (j : Fin n) (κ : Name) :
    iprop(inv κ (cell ER hn d c bar N j) ∗ atPos ER (false, tile hn d c j) N ∅ 0)
      ⊢ iprop(|={Set.univ}=> semVal (tile hn d c j, .reg bar) 0) := by
  iintro ⟨Hinv, Hat⟩
  imod (inv_acc (Set.mem_univ κ)) $$ Hinv with ⟨Hcell, Hclose⟩
  unfold cell
  icases Hcell with ⟨%S, %hS, Htoks, Hfacts, Hrest⟩
  icases Hrest with (⟨%v, %p, Hv, Hau, %hv⟩ | ⟨Hat', -⟩)
  rotate_left
  · iexfalso
    iapply (atPos_atPos_false ER)
    isplitl [Hat] <;> iassumption
  icombine Hau Hat gives %h
  obtain ⟨rfl, -, -⟩ := h
  have hcard := Finset.card_le_card hS
  rw [Finset.card_product, Finset.card_range, Finset.card_univ, Fintype.card_fin, ← hv, Nat.mul_comm N n] at hcard
  obtain rfl : v = 0 := by omega
  ihave Hc := Hclose $$ [Hat Htoks Hfacts]
  · iexists S
    isplitr; · ipureintro; exact hS
    isplitl [Htoks]; · iexact Htoks
    isplitl [Hfacts]; · iexact Hfacts
    iright
    isplitl [Hat]; · iexact Hat
    ipureintro
    rw [← hv, Nat.mul_comm N n]; omega
  imod Hc
  imodintro
  iexact Hv

/-- ONE MEETING. Tile `i`, its `k`-th arrival: it lays in for every sibling (itself included) what
    it hands over, sends everybody its ticket, paying the units off what it owes, and waits for `n`
    units with its credit. Having left, it holds what everybody laid in for it. -/
theorem wp_meet (i : Fin n) {s : Fin τ.nSub} (hs : i.castLE hn = s) (k : ℕ) (hk : k < N) (κb κc : Fin n → Name)
    (ι : Ix) (O : CellTallies nD τ sig Ix) (W : Waits sig Ix) {kk : PUnit → Prog (TpuEff nD τ sig (Elt F) Λ (.scVector c s)) α} :
    iprop((bigSep Finset.univ fun j : Fin n => inv (κb j) (box ER hn d c pl j))
        ∗ (bigSep Finset.univ fun j : Fin n => inv (κc j) (cell ER hn d c bar N j))
        ∗ owes (V d c s) (O + ∑ j : Fin n, tallyAt (tile hn d c j, .reg bar) ι 1) W
        ∗ atPos ER (true, tile hn d c i) k ∅ 0 ∗ (bigSep Finset.univ fun j : Fin n => pl k i j) ∗ before ER hn d c k
        ∗ (bigSep Finset.univ fun j : Fin n => dutyTok ER (false, tile hn d c j) k i)
        ∗ (bigSep Finset.univ fun j : Fin n => dutyTok ER (true, tile hn d c j) k i)
        ∗ cred (tallyAt (V d c s, .reg bar) ι n) ∗ atPos ER (false, tile hn d c i) k ∅ 0
        ∗ MayWait (V d c s) (.reg bar) ι O)
      ⊢ iprop((iprop(owes (V d c s) O (insert (SemLoc.reg bar, ι) W)
            ∗ atPos ER (true, tile hn d c i) (k + 1) ∅ 0 ∗ atPos ER (false, tile hn d c i) (k + 1) ∅ 0
            ∗ before ER hn d c (k + 1) ∗ bigSep Finset.univ fun j : Fin n => pl k j i)
          -∗ wp frame (wpE defs 𝒱 (V d c s) bd) Set.univ (kk ⟨⟩) Q)
        -∗ wp frame (wpE defs 𝒱 (V d c s) bd) Set.univ (subcoreBarrier bar n hn >>= kk) Q) := by
  classical
  subst hs
  rw [subcoreBarrier_bind, show (wp frame (wpE defs 𝒱 (V d c (i.castLE hn)) bd) Set.univ (.op .deviceId _) Q : sProp 𝕄) = _ from
    wp_deviceId 𝒱 (V d c (i.castLE hn)) bd Set.univ]
  iintro ⟨#Hbox, #Hcell, HO, Hbat, Hpl, #Hbef, Htick, Hcol, Hcred, Hcat, Hmw⟩ Hk
  -- arriving
  imod (arrive ER hn d c pl i k (κb i)) $$ [Hbat Hpl] with ⟨Hbat, #Harr⟩
  · isplitr; · iapply (reading (BI.bigSep_elim (Φ := fun j : Fin n => inv (κb j) (box ER hn d c pl j)) (Finset.mem_univ i))) $$ Hbox
    isplitl [Hbat] <;> iassumption
  -- the signals, one after the other
  have hsig : ∀ l : List (Fin n), l.Nodup →
      iprop((bigSep Finset.univ fun j : Fin n => inv (κc j) (cell ER hn d c bar N j))
          ∗ reached ER (true, tile hn d c i) (k + 1) ∗ before ER hn d c k
          ∗ owes (tile hn d c i) (O + ∑ j ∈ l.toFinset, tallyAt (tile hn d c j, .reg bar) ι 1) W
          ∗ (bigSep l.toFinset fun j : Fin n => dutyTok ER (false, tile hn d c j) k i)
          ∗ (owes (tile hn d c i) O W -∗ wp frame (wpE defs 𝒱 (tile hn d c i) bd) Set.univ (.op (TpuEff.semWait bar n) kk) Q))
        ⊢ wp frame (wpE defs 𝒱 (tile hn d c i) bd) Set.univ
            (l.foldr (fun j r => .op (TpuEff.semSignal (tile hn d c j) bar 1) fun _ => r) (.op (TpuEff.semWait bar n) kk)) Q := by
    intro l hl
    induction l with
    | nil =>
      rw [List.toFinset_nil, List.foldr_nil, Finset.sum_empty, add_zero]
      iintro ⟨-, -, -, HO, -, Hk⟩
      iapply Hk; iexact HO
    | cons j l ih =>
      have hj : j ∉ l.toFinset := fun h => (List.nodup_cons.mp hl).1 (List.mem_toFinset.mp h)
      rw [List.toFinset_cons, List.foldr_cons, over_insert hj, Finset.sum_insert hj, add_comm (tallyAt _ _ _) _, ← add_assoc]
      iintro ⟨#Hcell, #Harr, #Hbef, HO, ⟨Ht, Hts⟩, Hk⟩
      iapply (wp_semSignal 𝒱 (tile hn d c i) bd Set.univ (dst := tile hn d c j) (sem := bar) (k' := 1) ι
        (O + ∑ j ∈ l.toFinset, tallyAt (tile hn d c j, .reg bar) ι 1) rfl) $$ HO [Ht]
      · iapply (unit_lands ER hn d c bar N i j k hk (κc j))
        isplitr; · iapply (reading (BI.bigSep_elim (Φ := fun j : Fin n => inv (κc j) (cell ER hn d c bar N j)) (Finset.mem_univ j))) $$ Hcell
        isplitl [Ht]; · iexact Ht
        isplitr; · iexact Harr
        iexact Hbef
      iintro HO
      iapply (ih (List.nodup_cons.mp hl).2)
      isplitr; · iexact Hcell
      isplitr; · iexact Harr
      isplitr; · iexact Hbef
      isplitl [HO]; · iexact HO
      isplitl [Hts] <;> iassumption
  have hall := hsig (List.finRange n) (List.nodup_finRange n)
  rw [List.toFinset_finRange] at hall
  iapply hall
  isplitr; · iexact Hcell
  isplitr; · iexact Harr
  isplitr; · iexact Hbef
  isplitl [HO]; · iexact HO
  isplitl [Htick]; · iexact Htick
  iintro HO
  -- leaving
  iapply (wp_semWait_token 𝒱 (tile hn d c i) bd Set.univ ι (sem := bar) (k' := n) (O := O) (W := W)) $$ [Hcred HO Hmw]
  · isplitl [Hcred]; · iexact Hcred
    isplitl [HO] <;> iassumption
  iapply (leave ER hn d c bar N i k (κc i))
  isplitr; · iapply (reading (BI.bigSep_elim (Φ := fun j : Fin n => inv (κc j) (cell ER hn d c bar N j)) (Finset.mem_univ i))) $$ Hcell
  isplitl [Hcat]; · iexact Hcat
  iintro ⟨Hcat, #Hall⟩ HO
  -- collecting
  have hcol : ∀ S : Finset (Fin n),
      iprop((bigSep Finset.univ fun j : Fin n => inv (κb j) (box ER hn d c pl j)) ∗ before ER hn d c (k + 1)
        ∗ bigSep S fun j : Fin n => dutyTok ER (true, tile hn d c j) k i) ⊢ iprop(|={Set.univ}=> bigSep S fun j : Fin n => pl k j i) := by
    intro S
    induction S using Finset.induction_on with
    | empty =>
      rw [BI.bigSep_empty, BI.bigSep_empty]
      iintro -
      imodintro
      iempintro
    | insert j S hj ih =>
      rw [over_insert hj, over_insert hj]
      iintro ⟨#Hbox, #Hall, Hj, Hs⟩
      imod (collect ER hn d c pl j i k (κb j)) $$ [Hj] with Hp
      · isplitr; · iapply (reading (BI.bigSep_elim (Φ := fun j : Fin n => inv (κb j) (box ER hn d c pl j)) (Finset.mem_univ j))) $$ Hbox
        isplitr; · iapply (before_at ER hn d c (k + 1) j) $$ Hall
        iexact Hj
      imod ih $$ [Hs] with Hps
      · isplitr; · iexact Hbox
        isplitr; · iexact Hall
        iexact Hs
      imodintro
      isplitl [Hp] <;> iassumption
  imod (hcol Finset.univ) $$ [Hcol] with Hgot
  · isplitr; · iexact Hbox
    isplitr; · iexact Hall
    iexact Hcol
  iapply Hk
  isplitl [HO]; · iexact HO
  isplitl [Hbat]; · iexact Hbat
  isplitl [Hcat]; · iexact Hcat
  isplitr; · iexact Hall
  iexact Hgot

end Cert.Meet
-- ==== Proof.Setup.lean ====
/-
  The launch as the certificate sees it: the call's stages, the records of the meetings, and what
  each handshake carries.
-/
module

public import proofs.«01_k».proof.Proof.Pass
public import proofs.«01_k».proof.Proof.Meet
public import Idealize.ShloMosaic.Lib.SparseCore.Quiescent
public import Idealize.ShloMosaic.Lib.ShareLeaves
public import Idealize.ShloMosaic.Lib.Pipeline.Kit
public import proofs.«01_k».proof.Proof.Gen.KernelIdeal

@[expose] public section

noncomputable section

namespace Cert.Setup

open Cert.KernelIdeal Cert.Body Cert.Value Cert.Parts
open Cert.KernelIdeal.Gen (facts₀)
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the whole program. -/
abbrev ΛP : Labels := Pipeline.Sig Λ₀ (Fin 0) fun p => (pcfgs (F := F) p).Adm
/-- The one call, on all vector subcores. -/
abbrev K : SparseCore.Cfg τ sig (ΛP (F := F)) 1 := sc (F := F)
/-- The bodies. -/
abbrev D [FloatOps F] : Defs nD τ sig (Elt F) (ΛP (F := F)) := Pipeline.defs pcfgs defs₀
/-- No loop of the program needs a bound. -/
abbrev 𝒱₀ : Variants := Variants.none
@[inherit_doc 𝒱₀] abbrev 𝒱 : Variants := 𝒱₀.lift
/-- The bound of a thread's start. -/
abbrev v₀ : 𝒱.V := Sum.inl none

/-- What the launch needs of the semaphores and shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The call has three stages, one for each meeting of the tiles. -/
@[reducible] def blocks : SparseCore.Cfg.Blocks 1 3 where
  first _ := 0
  last _ := 2
  fst k := min (3 * k) 3
  blk _ ι := ι ≠ none
  first_le_last _ := by decide
  fst_val q := by rw [Subsingleton.elim q 0]; rfl
  fst_le k q h := by rw [Subsingleton.elim q 0] at h; rw [Nat.le_zero.mp h]; rfl
  last_lt_fst q := by rw [Subsingleton.elim q 0]; decide
  blk_iff _ ι := by
    constructor
    · intro h
      obtain ⟨j, rfl⟩ := Option.ne_none_iff_exists'.mp h
      exact ⟨j, Fin.zero_le j, Fin.le_last j, rfl⟩
    · rintro ⟨j, -, -, rfl⟩; exact Option.some_ne_none j

attribute [local instance] blocks

/-! ## The records -/

/-- The handshakes' records. -/
abbrev UH : Type := URounds (GSem nD τ sig) ℕ
/-- The meetings' records. -/
abbrev UB : Type := URounds (Meet.Key nD τ) (Fin (grid0.bound 1))
/-- All records, with the counters of the copies. -/
abbrev UU : Type := UH × (UB × Counters)

local notation "𝕄" => MT nD τ sig (HIx 3) (Elt F) ℕ UU ℕ

/-- Where the handshakes' records lie. -/
abbrev EH : Emb UH (MT nD τ sig (HIx 3) (Elt F) ℕ UU ℕ) := embL
/-- Where the meetings' records lie. -/
def ER : Emb UB (MT nD τ sig (HIx 3) (Elt F) ℕ UU ℕ) :=
  ((Emb.inl : Emb UB (UB × Counters)).trans (Emb.inr : Emb (UB × Counters) UU)).trans
    (uEmb (nD := nD) (sig := sig) (Ix := HIx 3) (Val := Elt F) (Name := ℕ) (U := UU) (Lvl := ℕ)).toEmb

instance ER_lands : (ER (F := F)).LandsIn (upEmb : UEmb _ 𝕄) := by unfold ER; infer_instance

/-! ## The buffers -/

/-- The flattened table. -/
abbrev tLoc (d : Dev nD) : Loc nD τ sig := (SparseCore.T d).loc main_v0
/-- The indices. -/
abbrev iLoc (d : Dev nD) : Loc nD τ sig := (SparseCore.T d).loc main_v7
/-- The masks. -/
abbrev kLoc (d : Dev nD) : Loc nD τ sig := (SparseCore.T d).loc main_v8
/-- The result. -/
abbrev oLoc (d : Dev nD) : Loc nD τ sig := (SparseCore.T d).loc main_v9
/-- A SparseCore's shared buffer. -/
abbrev shRef (c : Fin τ.nSC) : DevRef τ sig := ⟨.shared, ⟨0, by decide⟩, c⟩
@[inherit_doc shRef] abbrev shLoc (d : Dev nD) (c : Fin τ.nSC) : Loc nD τ sig := (d, shRef c)

/-- A tile's barrier semaphore. -/
abbrev bcell (d : Dev nD) (c : Fin τ.nSC) (j : Fin τ.nSub) : GSem nD τ sig := (V d c j, .reg sc_bar0)

/-- The barrier semaphore is not the one tasks are started by. -/
theorem bar_ne_go : (sc_bar0 : Sem sig) ≠ sc_go := by decide

/-- Tile `i`'s share of a buffer all tiles of a SparseCore read. -/
def sh16 (i : Fin 16) : PosShare TreeShare := ShareLeaves.leaf 4 fullShare i
/-- A tile's share of a buffer all tiles read. -/
def sh32 (c : Fin 2) (i : Fin 16) : PosShare TreeShare := ShareLeaves.leaf 5 fullShare (finProdFinEquiv (m := 2) (n := 16) (c, i))

/-- What the program works on: the table, the indices, the masks, and what the result's buffer holds at first. -/
structure Inp (F : FTy → Type) where
  /-- The table. -/
  T : Dev nD → S32768x128.Idx → F .f32
  /-- The indices. -/
  I : Dev nD → S262144.Idx → BitVec 32
  /-- The masks. -/
  M : Dev nD → S262144.Idx → BitVec 32
  /-- The result's buffer before. -/
  O : Dev nD → S8192x128.Idx → F .f32

variable [FloatOps F] (X : Inp F)

/-- What the program comes to. -/
def Inp.out (d : Dev nD) : S8192x128.Idx → F .f32 := result (X.T d) (X.I d) (X.M d)

/-- What a SparseCore's shared buffer holds in a pass. -/
abbrev Inp.held (d : Dev nD) (c : Fin τ.nSC) (r : ℕ) : Buf (Elt F) (shLoc d c) := (Parts.held (X.T d) c.val r : S8192x128.Idx → F .f32)

/-! ## What the tiles hand one another -/

/-- At a meeting: the rows a tile has filled, to all; or, at the meeting between the passes, all rows back to the tiles that fill them. -/
def pl (d : Dev nD) (c : Fin τ.nSC) (k : ℕ) (i j : Fin (grid0.bound 1)) : sProp 𝕄 :=
  if k = 1 then (shLoc d c ↦[chunk j]{sh16 i} X.held d c (k / 2) : sProp 𝕄) else (shLoc d c ↦[chunk i]{sh16 j} X.held d c (k / 2) : sProp 𝕄)

instance pl_storable (d : Dev nD) (c : Fin τ.nSC) (k : ℕ) (i j : Fin (grid0.bound 1)) : BI.Storable (upEmb : UEmb _ 𝕄) (pl X d c k i j) := by
  unfold pl; split <;> infer_instance

/-- A tile's arrivals at meeting `k`, still due: a unit to every tile of its SparseCore. -/
def arrivals (d : Dev nD) (c : Fin τ.nSC) (k : Fin 3) : CellTallies nD τ sig (HIx 3) := ∑ j : Fin (grid0.bound 1), tallyAt (bcell d c (j.castLE Gen.hsub0)) (some k) 1

/-- All its arrivals, the last first. -/
def dues (d : Dev nD) (c : Fin τ.nSC) : CellTallies nD τ sig (HIx 3) := arrivals d c 2 + arrivals d c 1 + arrivals d c 0

theorem arrivals_none (d : Dev nD) (c : Fin τ.nSC) (k : Fin 3) (g : GSem nD τ sig) : arrivals d c k g none = 0 := by
  unfold arrivals
  rw [Finset.sum_apply, Finsupp.finsetSum_apply]
  exact Finset.sum_eq_zero fun j _ => by rw [tallyAt_apply, if_neg (fun e => nomatch e.2)]

/-- An arrival is at a tile's barrier semaphore, at the meeting's stage. -/
theorem arrivals_pos {d : Dev nD} {c : Fin τ.nSC} {k : Fin 3} {g : GSem nD τ sig} {ι : HIx 3} (h : 0 < arrivals d c k g ι) :
    (K (F := F)).lev g ι = 8 * k.val + 3 := by
  unfold arrivals at h
  rw [Finset.sum_apply, Finsupp.finsetSum_apply] at h
  obtain ⟨j, -, hj⟩ := Finset.exists_ne_zero_of_sum_ne_zero (Nat.pos_iff_ne_zero.mp h)
  rw [tallyAt_apply] at hj
  by_cases e : g = bcell d c (j.castLE Gen.hsub0) ∧ ι = some k
  · rw [e.1, e.2]; exact (K (F := F)).lev_V_reg d c _ bar_ne_go k
  · rw [if_neg e] at hj; exact absurd rfl hj

theorem dues_none (d : Dev nD) (c : Fin τ.nSC) (g : GSem nD τ sig) : dues d c g none = 0 := by
  unfold dues
  rw [Pi.add_apply, Finsupp.add_apply, Pi.add_apply, Finsupp.add_apply, arrivals_none, arrivals_none, arrivals_none]

theorem dues_pos {d : Dev nD} {c : Fin τ.nSC} {g : GSem nD τ sig} {ι : HIx 3} (h : 0 < dues d c g ι) : ∃ k : Fin 3, (K (F := F)).lev g ι = 8 * k.val + 3 := by
  unfold dues at h
  rw [Pi.add_apply, Finsupp.add_apply, Pi.add_apply, Finsupp.add_apply] at h
  by_cases h2 : 0 < arrivals d c 2 g ι; · exact ⟨2, arrivals_pos h2⟩
  by_cases h1 : 0 < arrivals d c 1 g ι; · exact ⟨1, arrivals_pos h1⟩
  exact ⟨0, arrivals_pos (show 0 < arrivals d c 0 g ι by omega)⟩

/-! ## What the launch deals a tile -/

/-- A tile's right to hand over and to arrive at meeting `k`, and its claim on the sixteen arrivals at its own semaphore. -/
def turn (d : Dev nD) (c : Fin τ.nSC) (i : Fin (grid0.bound 1)) (k : Fin 3) : sProp 𝕄 :=
  iprop((bigSep Finset.univ fun j : Fin (grid0.bound 1) => dutyTok (ER (F := F)) (false, Meet.tile Gen.hsub0 d c j) k.val i)
    ∗ (bigSep Finset.univ fun j : Fin (grid0.bound 1) => dutyTok (ER (F := F)) (true, Meet.tile Gen.hsub0 d c j) k.val i)
    ∗ cred (tallyAt (bcell d c (i.castLE Gen.hsub0)) (some k) (grid0.bound 1)))

/-- The meetings' invariants of one SparseCore, under the names `κ`. -/
def boards (d : Dev nD) (c : Fin τ.nSC) (κ : Meet.Key nD τ → ℕ) : sProp 𝕄 :=
  iprop((bigSep Finset.univ fun j : Fin (grid0.bound 1) => inv (κ (true, Meet.tile Gen.hsub0 d c j)) (Meet.box (ER (F := F)) Gen.hsub0 d c (pl X d c) j))
    ∗ bigSep Finset.univ fun j : Fin (grid0.bound 1) => inv (κ (false, Meet.tile Gen.hsub0 d c j)) (Meet.cell (ER (F := F)) Gen.hsub0 d c sc_bar0 3 j))

instance boards_persistent (d : Dev nD) (c : Fin τ.nSC) (κ : Meet.Key nD τ → ℕ) : BI.Persistent (boards X d c κ) := by unfold boards; infer_instance

/-- All that a tile needs for its meetings. -/
def kit (d : Dev nD) (c : Fin τ.nSC) (i : Fin (grid0.bound 1)) : sProp 𝕄 :=
  iprop((∃ κ : Meet.Key nD τ → ℕ, boards X d c κ) ∗ Meet.before (ER (F := F)) Gen.hsub0 d c 0
    ∗ atPos (ER (F := F)) (true, Meet.tile Gen.hsub0 d c i) 0 ∅ 0 ∗ atPos (ER (F := F)) (false, Meet.tile Gen.hsub0 d c i) 0 ∅ 0
    ∗ turn (F := F) d c i 0 ∗ turn (F := F) d c i 1 ∗ turn (F := F) d c i 2)

/-! ## What the handshakes carry -/

/-- A tile's part of the buffers in main memory, its blocks of the result holding `f`. -/
def given (d : Dev nD) (c : Fin 2) (i : Fin 16) (f : S8192x128.Idx → F .f32) : sProp 𝕄 :=
  iprop((tLoc d ↦{sh32 c i} (X.T d : Buf (Elt F) (tLoc d))) ∗ (iLoc d ↦{sh32 c i} (X.I d : Buf (Elt F) (iLoc d))) ∗ (kLoc d ↦{sh32 c i} (X.M d : Buf (Elt F) (kLoc d)))
    ∗ (oLoc d ↦[block (blockNo c 0 i)]{fullShare} (f : Buf (Elt F) (oLoc d))) ∗ (oLoc d ↦[block (blockNo c 1 i)]{fullShare} (f : Buf (Elt F) (oLoc d))))

/-- What it brings back of them, with its barrier semaphore at rest. -/
def back (d : Dev nD) (c : Fin 2) (i : Fin 16) : sProp 𝕄 :=
  iprop(given X d c i (X.out d) ∗ semVal (bcell d c i) 0)

/-- What it is handed of the shared buffer, -/
def shIn (d : Dev nD) (c : Fin 2) (i : Fin 16) : sProp 𝕄 := iprop(∃ f : Buf (Elt F) (shLoc d c), shLoc d c ↦[chunk i]{fullShare} f)
/-- and what it brings back of it. -/
def shOut (d : Dev nD) (c : Fin 2) (i : Fin 16) : sProp 𝕄 := shLoc d c ↦{sh16 i} X.held d c 1

instance given_storable (d : Dev nD) (c : Fin 2) (i : Fin 16) (f : S8192x128.Idx → F .f32) : BI.Storable (upEmb : UEmb _ 𝕄) (given X d c i f) := by
  unfold given; infer_instance
instance back_storable (d : Dev nD) (c : Fin 2) (i : Fin 16) : BI.Storable (upEmb : UEmb _ 𝕄) (back X d c i) := by unfold back; infer_instance
instance shIn_storable (d : Dev nD) (c : Fin 2) (i : Fin 16) : BI.Storable (upEmb : UEmb _ 𝕄) (shIn (F := F) d c i) := by unfold shIn; infer_instance
instance shOut_storable (d : Dev nD) (c : Fin 2) (i : Fin 16) : BI.Storable (upEmb : UEmb _ 𝕄) (shOut X d c i) := by unfold shOut; infer_instance

set_option backward.proofsInPublic true in
/-- The call takes each tile's part of the buffers and brings it back, the result's blocks worked out. -/
def P : (K (F := F)).Pay (N := 3) (nD := nD) (Val := Elt F) (Name := ℕ) (U := UU) where
  st := fun q d c => match q with | 0 => bigSep Finset.univ fun i : Fin 16 => given X d c i (X.O d)
  dn := fun q d c => match q with | 0 => bigSep Finset.univ fun i : Fin 16 => back X d c i
  go := fun q d c i => match q with | 0 => iprop(given X d c i (X.O d) ∗ shIn (F := F) d c i)
  td := fun q d c i => match q with | 0 => iprop(back X d c i ∗ shOut X d c i)
  x := fun _ t => match t with
    | (d, .scVector c i) => kit X d c i
    | _ => iprop(emp)
  ox := fun _ t => match t with
    | (d, .scVector c _) => dues d c
    | _ => 0
  ox_band := by
    intro q t g ι h
    obtain rfl : q = 0 := Subsingleton.elim _ _
    rcases t with ⟨d, _ | c | ⟨c, i⟩⟩
    · exact absurd h (lt_irrefl 0)
    · exact absurd h (lt_irrefl 0)
    · obtain ⟨k, hk⟩ := dues_pos (F := F) h
      rw [hk]
      have := k.isLt
      exact ⟨by show 8 * 0 + 3 ≤ _; omega, by show _ ≤ 8 * 2 + 5; omega⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P X).IsStorable where
  st q d c := match q with
    | 0 => (inferInstance : BI.Storable (upEmb : UEmb _ 𝕄) (bigSep Finset.univ fun i : Fin 16 => given X d c i (X.O d)))
  dn q d c := match q with
    | 0 => (inferInstance : BI.Storable (upEmb : UEmb _ 𝕄) (bigSep Finset.univ fun i : Fin 16 => back X d c i))
  go q d c i := match q with
    | 0 => (inferInstance : BI.Storable (upEmb : UEmb _ 𝕄) iprop(given X d c i (X.O d) ∗ shIn (F := F) d c i))
  td q d c i := match q with
    | 0 => (inferInstance : BI.Storable (upEmb : UEmb _ 𝕄) iprop(back X d c i ∗ shOut X d c i))

/-! ## Handing over -/

/-- A buffer is its parts, if they fill it and do not overlap. -/
theorem of_parts {ℓ : Loc nD τ sig} {n : ℕ} (A : Fin n → Finset (Idx ℓ)) (hd : ∀ i ∈ (Finset.univ : Finset (Fin n)), ∀ j ∈ (Finset.univ : Finset (Fin n)), i ≠ j → Disjoint (A i) (A j))
    (hc : (Finset.univ : Finset (Fin n)).biUnion A = Finset.univ) (q : PosShare TreeShare) (f : Buf (Elt F) ℓ) :
    (ℓ ↦{q} f : sProp 𝕄) = bigSep Finset.univ fun j : Fin n => ℓ ↦[A j]{q} f := by
  rw [← pointsTo_biUnion Finset.univ A hd, hc]

set_option maxRecDepth 16384 in
/-- The shared buffer is its sixteen chunks. -/
theorem chunks (d : Dev nD) (c : Fin τ.nSC) (q : PosShare TreeShare) (f : Buf (Elt F) (shLoc d c)) :
    (shLoc d c ↦{q} f : sProp 𝕄) = bigSep Finset.univ fun j : Fin 16 => shLoc d c ↦[chunk j]{q} f :=
  of_parts (ℓ := shLoc d c) (n := 16) chunk chunk_disjoint chunk_cover q f

/-- A tile's rows, cut into sixteen shares for the others, -/
theorem deal_out (d : Dev nD) (c : Fin τ.nSC) (i : Fin (grid0.bound 1)) {k r : ℕ} (hk : k ≠ 1) (hr : k / 2 = r) :
    (shLoc d c ↦[chunk i]{fullShare} X.held d c r : sProp 𝕄) ⊢ bigSep Finset.univ fun j : Fin (grid0.bound 1) => pl X d c k i j := by
  subst hr
  unfold pl sh16; simp only [if_neg hk]
  exact Entails.of_eq (ShareLeaves.pointsTo_leaves _ _ 4 fullShare)

/-- and sixteen such shares of others put together. -/
theorem take_in (d : Dev nD) (c : Fin τ.nSC) (i : Fin (grid0.bound 1)) {k r : ℕ} (hk : k ≠ 1) (hr : k / 2 = r) :
    (bigSep Finset.univ fun j : Fin (grid0.bound 1) => pl X d c k j i : sProp 𝕄) ⊢ (shLoc d c ↦{sh16 i} X.held d c r) := by
  subst hr
  unfold pl; simp only [if_neg hk]
  exact Entails.of_eq (chunks d c (sh16 i) _).symm

/-- Between the passes a tile hands the rows back to those that filled them, -/
theorem deal_back (d : Dev nD) (c : Fin τ.nSC) (i : Fin (grid0.bound 1)) :
    (shLoc d c ↦{sh16 i} X.held d c 0 : sProp 𝕄) ⊢ bigSep Finset.univ fun j : Fin (grid0.bound 1) => pl X d c 1 i j := by
  unfold pl; simp only [if_true]
  exact Entails.of_eq (chunks d c (sh16 i) _)

/-- and has its own rows whole again. -/
theorem take_back (d : Dev nD) (c : Fin τ.nSC) (i : Fin (grid0.bound 1)) :
    (bigSep Finset.univ fun j : Fin (grid0.bound 1) => pl X d c 1 j i : sProp 𝕄) ⊢ shLoc d c ↦[chunk i]{fullShare} X.held d c 0 := by
  unfold pl sh16; simp only [if_true]
  exact Entails.of_eq (ShareLeaves.pointsTo_leaves _ _ 4 fullShare).symm

end Cert.Setup
-- ==== Proof.Same.lean ====
/-
  The printed task IS the folded one.

  The printed text is cut in windows by count, so the two are compared operation by operation: same
  head, then the rest for every answer. Three stretches of the task are compared so, and the whole
  is their sequence.
-/
module

public import proofs.«01_k».proof.Proof.Body

@[expose] public section

set_option maxRecDepth 100000

noncomputable section

universe v

namespace Cert.Body

open Cert.KernelIdeal
open Cert.KernelIdeal.Facts₀ Cert.KernelIdeal.Facts
open Idealize.ShloMosaic Idealize.SL.Sem

section
variable {E : Type → Type v} {α β : Type}

/-- Two sequences are equal when their parts are. -/
theorem bindEq {p p' : Prog E α} {f f' : α → Prog E β} (h : p = p') (h' : ∀ x, f x = f' x) : (p >>= f) = (p' >>= f') := by
  rw [h, funext h']

/-- Two loops are equal when their trips are. -/
theorem forEq {l : Scf.Loop 32} {ok : l.OK} {a : α} {f f' : Fin l.trips → α → Prog E α} (h : ∀ t x, f t x = f' t x) :
    Scf.Loop.for l ok a f = Scf.Loop.for l ok a f' := by
  rw [show f = f' from funext fun t => funext fun x => h t x]

/-- Two guarded steps before a common rest are equal when the steps and the rests are. -/
theorem diteEq {P : Prop} [Decidable P] {a a' : P → Prog E α} {j j' : Prog E β} (ha : ∀ h, a h = a' h) (hj : j = j') :
    (if h : P then a h >>= fun _ => j else j) = (if h : P then a' h >>= fun _ => j' else j') := by
  subst hj
  rw [funext ha]
end

variable {F : FTy → Type} [FloatOps F] [Facts]

variable (i : grid0.Coords) (arg2 : Memref sig .scVector .hbm S32768x128 .f32) (harg2 : arg2.IsWhole) (arg3 : Memref sig .scVector .hbm S262144 .i32) (harg3 : arg3.IsWhole)
  (arg4 : Memref sig .scVector .hbm S262144 .i32) (harg4 : arg4.IsWhole) (arg5 : Memref sig .scVector .hbm S8192x128 .f32) (harg5 : arg5.IsWhole)
  (arg6 : Memref sig .scVector .shared S8192x128 .f32) (harg6 : arg6.IsWhole) (arg7 : Memref sig .scVector .vmem S4096 .i32) (harg7 : arg7.IsWhole)
  (arg8 : Memref sig .scVector .vmem S4096 .i32) (harg8 : arg8.IsWhole) (arg9 : Memref sig .scVector .vmem S128x128 .f32) (harg9 : arg9.IsWhole)
  (arg10 : Memref sig .scVector .vmem S128x128 .f32) (harg10 : arg10.IsWhole) (arg11 : Memref sig .scVector .vmem S128x128 .f32) (harg11 : arg11.IsWhole)
  (arg12 arg13 v0 v1 v2 v3 v4 v5 v6 v7 : DmaSems sig S_)

/-- Up to the first meeting. -/
def fore : TP F (cc i) (ss i) (Σ' (_ : BitVec 32), BitVec 32) := do
  takeTbl i 0 v0 arg2 arg6
  takeWords i 0 v1 arg3 arg7 harg7
  takeWords i 0 v2 arg4 arg8 harg8
  localise (cc i) (ss i) arg7 (rowBase i 0)
  meet i
  pure ⟨BitVec.ofNat 32 (i 0).val, BitVec.ofNat 32 (i 1).val⟩

/-- From the first meeting into the second pass. -/
def mid (a : BitVec 32) : TP F (cc i) (ss i) (BitVec 32) := do
  fetch (cc i) (ss i) arg6 arg7 arg9 arg12 ![0] inb_S4096_S128_0
  trips i arg6 arg7 arg8 arg9 harg9 arg10 harg10 arg11 arg12 arg13
  give i 0 v3 arg5 arg11 harg11
  meet i
  takeTbl i 1 v4 arg2 arg6
  takeWords i 1 v5 arg3 arg7 harg7
  pure (Scalar.muli (Scalar.addi (Scalar.muli a 2#32) 1#32) 8192#32)

/-- From the second pass's masks on. -/
def rear (b : BitVec 32) : TP F (cc i) (ss i) PUnit := do
  takeWords i 1 v6 arg4 arg8 harg8
  localise (cc i) (ss i) arg7 b
  meet i
  fetch (cc i) (ss i) arg6 arg7 arg9 arg12 ![0] inb_S4096_S128_0
  trips i arg6 arg7 arg8 arg9 harg9 arg10 harg10 arg11 arg12 arg13
  give i 1 v7 arg5 arg11 harg11
  pure ⟨⟩

/-- The first window of the task. -/
theorem fore_same : k0_part165 (F := F) i arg2 harg2 arg3 harg3 arg4 harg4 arg5 harg5 arg6 harg6 arg7 harg7 arg8 harg8 arg9 harg9 arg10 harg10 arg11 harg11 arg12 arg13 v0 v1 v2 v3 v4 v5 v6 v7
    = fore i arg2 arg3 arg4 arg6 arg7 harg7 arg8 harg8 v0 v1 v2 := by
  unfold k0_part165
  conv_rhs => simp only [fore, takeTbl, takeWords, Prog.bind_assoc]
  iterate 6 refine bindEq (by rfl) fun _ => ?_
  refine bindEq (forEq fun t _ => ?_) fun _ => ?_
  · rfl
  · rfl

set_option maxHeartbeats 4000000 in
/-- The second window of the task. -/
theorem mid_same (a b : BitVec 32) :
    k0_part166 (F := F) i arg2 harg2 arg3 harg3 arg4 harg4 arg5 harg5 arg6 harg6 arg7 harg7 arg8 harg8 arg9 harg9 arg10 harg10 arg11 harg11 arg12 arg13 v0 v1 v2 v3 v4 v5 v6 v7 a b
    = mid i arg2 arg3 arg5 arg6 arg7 harg7 arg8 arg9 harg9 arg10 harg10 arg11 harg11 arg12 arg13 v3 v4 v5 a := by
  unfold k0_part166 mid
  refine bindEq ?_ fun _ => ?_
  · rfl
  refine bindEq (forEq fun T _ => ?_) fun _ => ?_
  · refine bindEq ?_ fun _ => ?_
    · rfl
    refine bindEq ?_ fun _ => ?_
    · rfl
    refine bindEq (forEq fun t _ => ?_) fun _ => ?_
    · iterate 274 refine congrArg (Prog.op _) (funext fun x => ?_)
      rfl
    refine diteEq (fun h => ?_) ?_
    · rfl
    refine bindEq ?_ fun _ => ?_
    · rfl
    refine bindEq (forEq fun t _ => ?_) fun _ => ?_
    · iterate 274 refine congrArg (Prog.op _) (funext fun x => ?_)
      rfl
    rfl
  · rfl

set_option maxHeartbeats 4000000 in
/-- The whole task, its windows replaced. -/
theorem body_windows :
    cc0__body (F := F) i arg2 harg2 arg3 harg3 arg4 harg4 arg5 harg5 arg6 harg6 arg7 harg7 arg8 harg8 arg9 harg9 arg10 harg10 arg11 harg11 arg12 arg13 v0 v1 v2 v3 v4 v5 v6 v7
    = (fore i arg2 arg3 arg4 arg6 arg7 harg7 arg8 harg8 v0 v1 v2 >>= fun a =>
      mid i arg2 arg3 arg5 arg6 arg7 harg7 arg8 arg9 harg9 arg10 harg10 arg11 harg11 arg12 arg13 v3 v4 v5 a.1 >>= fun b =>
      rear i arg4 arg5 arg6 arg7 arg8 harg8 arg9 harg9 arg10 harg10 arg11 harg11 arg12 arg13 v6 v7 b) := by
  unfold cc0__body
  refine bindEq (fore_same ..) fun a => ?_
  obtain ⟨a, a'⟩ := a
  refine bindEq (mid_same ..) fun b => ?_
  conv_rhs => simp only [rear, takeWords, Prog.bind_assoc]
  iterate 2 refine bindEq (by rfl) fun _ => ?_
  refine bindEq (forEq fun t _ => ?_) fun _ => ?_
  · rfl
  refine bindEq ?_ fun _ => ?_
  · rfl
  refine bindEq ?_ fun _ => ?_
  · rfl
  refine bindEq (forEq fun T _ => ?_) fun _ => ?_
  · refine bindEq ?_ fun _ => ?_
    · rfl
    refine bindEq ?_ fun _ => ?_
    · rfl
    refine bindEq (forEq fun t _ => ?_) fun _ => ?_
    · iterate 274 refine congrArg (Prog.op _) (funext fun x => ?_)
      rfl
    refine diteEq (fun h => ?_) ?_
    · rfl
    refine bindEq ?_ fun _ => ?_
    · rfl
    refine bindEq (forEq fun t _ => ?_) fun _ => ?_
    · iterate 274 refine congrArg (Prog.op _) (funext fun x => ?_)
      rfl
    rfl
  · rfl

/-- The printed task is the folded one. -/
theorem body_same :
    cc0__body (F := F) i arg2 harg2 arg3 harg3 arg4 harg4 arg5 harg5 arg6 harg6 arg7 harg7 arg8 harg8 arg9 harg9 arg10 harg10 arg11 harg11 arg12 arg13 v0 v1 v2 v3 v4 v5 v6 v7
    = task i arg2 arg3 arg4 arg5 arg6 arg7 harg7 arg8 harg8 arg9 harg9 arg10 harg10 arg11 harg11 arg12 arg13 v0 v1 v2 v3 v4 v5 v6 v7 := by
  rw [body_windows]
  simp only [fore, mid, rear, task, pass, work, Prog.bind_assoc, pure_bind, bind_pure]
  rfl

end Cert.Body
-- ==== Proof.Task.lean ====
/-
  The whole task of a tile: two passes, with the meetings in and between them.
-/
module

public import proofs.«01_k».proof.Proof.Setup
public import proofs.«01_k».proof.Proof.Same

@[expose] public section

noncomputable section

namespace Cert.Task

open Cert.KernelIdeal Cert.Body Cert.Value Cert.Trip Cert.Parts Cert.Setup
open Cert.KernelIdeal.Gen (facts₀)
open Idealize.ShloMosaic Idealize.ShloMosaic.SparseCore Idealize.ShloMosaic.Transfers
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Setup.blocks

variable {F : FTy → Type} [FloatOps F] (X : Inp F)
variable (d : Dev nD) (i : grid0.Coords) (r : Fin 2)

local notation "𝕄" => MT nD τ sig (HIx 3) (Elt F) ℕ UU ℕ
local notation "me" => (V d (cc i) (ss i) : Thread nD τ)
local notation "run" => wp frame (wpE (defs₀ (F := F)) 𝒱₀ (V d (cc i) (ss i)) none) Set.univ

local notation "tblV" => (Memref.whole Cert.KernelIdeal.main_v0_scv : Memref Cert.KernelIdeal.sig Kind.scVector Space.hbm Cert.KernelIdeal.S32768x128 EltTy.f32)
local notation "idxV" => (Memref.whole Cert.KernelIdeal.main_v7_scv : Memref Cert.KernelIdeal.sig Kind.scVector Space.hbm Cert.KernelIdeal.S262144 EltTy.i32)
local notation "mskV" => (Memref.whole Cert.KernelIdeal.main_v8_scv : Memref Cert.KernelIdeal.sig Kind.scVector Space.hbm Cert.KernelIdeal.S262144 EltTy.i32)
local notation "resV" => (Memref.whole Cert.KernelIdeal.main_v9_scv : Memref Cert.KernelIdeal.sig Kind.scVector Space.hbm Cert.KernelIdeal.S8192x128 EltTy.f32)
local notation "spmV" => (Memref.whole Cert.KernelIdeal.cc0_scratch0 : Memref Cert.KernelIdeal.sig Kind.scVector Space.shared Cert.KernelIdeal.S8192x128 EltTy.f32)
local notation "iV" => (Memref.whole Cert.KernelIdeal.cc0_scratch1 : Memref Cert.KernelIdeal.sig Kind.scVector Space.vmem Cert.KernelIdeal.S4096 EltTy.i32)
local notation "mV" => (Memref.whole Cert.KernelIdeal.cc0_scratch2 : Memref Cert.KernelIdeal.sig Kind.scVector Space.vmem Cert.KernelIdeal.S4096 EltTy.i32)
local notation "aV" => (Memref.whole Cert.KernelIdeal.cc0_scratch3 : Memref Cert.KernelIdeal.sig Kind.scVector Space.vmem Cert.KernelIdeal.S128x128 EltTy.f32)
local notation "bV" => (Memref.whole Cert.KernelIdeal.cc0_scratch4 : Memref Cert.KernelIdeal.sig Kind.scVector Space.vmem Cert.KernelIdeal.S128x128 EltTy.f32)
local notation "oV" => (Memref.whole Cert.KernelIdeal.cc0_scratch5 : Memref Cert.KernelIdeal.sig Kind.scVector Space.vmem Cert.KernelIdeal.S128x128 EltTy.f32)

/-- A tile's own buffers, whatever they hold. -/
def room : sProp 𝕄 :=
  iprop((∃ Y, owns me iV fullShare Y) ∗ (∃ Y, owns me mV fullShare Y) ∗ (∃ Y, owns me aV fullShare Y) ∗ (∃ Y, owns me bV fullShare Y) ∗ (∃ Y, owns me oV fullShare Y))

/-- The counter of one of a tile's copies, at rest. -/
abbrev rest (s : DmaSems sig S_) : sProp 𝕄 := semVal (me, SemLoc.dma s.sem) 0

/-- A tile's shares of the table, the indices and the masks. -/
def reads : sProp 𝕄 :=
  iprop(owns me tblV (sh32 (coreNo i) (tileNo i)) (X.T d) ∗ owns me idxV (sh32 (coreNo i) (tileNo i)) (X.I d) ∗ owns me mskV (sh32 (coreNo i) (tileNo i)) (X.M d))

/-- A tile's standing before meeting `k`. -/
def standing (k : ℕ) : sProp 𝕄 :=
  iprop(Meet.before (ER (F := F)) Gen.hsub0 d (cc i) k ∗ atPos (ER (F := F)) (true, Meet.tile Gen.hsub0 d (cc i) (i 1)) k ∅ 0
    ∗ atPos (ER (F := F)) (false, Meet.tile Gen.hsub0 d (cc i) (i 1)) k ∅ 0)

/-- Meeting `k`: what a tile brings for its siblings it leaves, and takes what they brought for it. -/
theorem meet_run (k : Fin 3) (κ : Meet.Key nD τ → ℕ) (O : CellTallies nD τ sig (HIx 3)) (W : Waits sig (HIx 3))
    (hO : ∀ g ι, 0 < O g ι → 8 * k.val + 3 < (K (F := F)).lev g ι) {α : Type} {kk : PUnit → TP F (cc i) (ss i) α} {Q : α → sProp 𝕄} :
    iprop(levAts (K (F := F)).L (K (F := F)).lev ∗ boards X d (cc i) κ ∗ standing (F := F) d i k.val ∗ turn (F := F) d (cc i) (i 1) k
        ∗ (bigSep Finset.univ fun j : Fin (grid0.bound 1) => pl X d (cc i) k.val (i 1) j) ∗ owes me (O + arrivals d (cc i) k) W)
      ⊢ (iprop((iprop(standing (F := F) d i (k.val + 1) ∗ (bigSep Finset.univ fun j : Fin (grid0.bound 1) => pl X d (cc i) k.val j (i 1))
            ∗ ∃ W', owes me O W') -∗ run (kk ⟨⟩) Q) -∗ run (meet i >>= kk) Q) : sProp 𝕄) := by
  unfold boards standing turn
  iintro ⟨#Hlv, ⟨#Hb, #Hc⟩, ⟨Hbef, Hatb, Hatc⟩, ⟨Hd, Ht, Hcr⟩, Hpl, HO⟩ Hk
  iapply (Meet.wp_meet 𝒱₀ none (ER (F := F)) Gen.hsub0 d (cc i) sc_bar0 3 (pl X d (cc i)) (i 1) (s := ss i) rfl k.val k.isLt
    (fun j => κ (true, Meet.tile Gen.hsub0 d (cc i) j)) (fun j => κ (false, Meet.tile Gen.hsub0 d (cc i) j)) (some k) O W) $$ [Hbef Hatb Hatc Hd Ht Hcr Hpl HO]
  · isplitr; · iexact Hb
    isplitr; · iexact Hc
    isplitl [HO]; · iexact HO
    isplitl [Hatb]; · iexact Hatb
    isplitl [Hpl]; · iexact Hpl
    isplitl [Hbef]; · iexact Hbef
    isplitl [Hd]; · iexact Hd
    isplitl [Ht]; · iexact Ht
    isplitl [Hcr]; · iexact Hcr
    isplitl [Hatc]; · iexact Hatc
    iapply ((K (F := F)).mayOwe_of_bound (thr := me) (8 * k.val + 3) (fun p hp => by
        rw [Finset.mem_singleton] at hp; subst hp
        exact le_of_eq ((K (F := F)).lev_V_reg d _ _ bar_ne_go k)) hO)
    iexact Hlv
  iintro ⟨HO, Hatb, Hatc, Hbef, Hpl⟩
  iapply Hk
  isplitl [Hatb Hatc Hbef]
  · isplitl [Hbef]; · iexact Hbef
    isplitl [Hatb]; · iexact Hatb
    iexact Hatc
  isplitl [Hpl]; · iexact Hpl
  iexists _; iexact HO

/-- One pass, with its meeting. -/
theorem pass_run (hI : Sorted (X.I d)) (k : Fin 3) (hk : k.val = 2 * r.val) (κ : Meet.Key nD τ → ℕ) (O : CellTallies nD τ sig (HIx 3)) (W : Waits sig (HIx 3))
    (hn : ∀ g, O g none = 0) (hO : ∀ g ι, 0 < O g ι → 8 * k.val + 3 < (K (F := F)).lev g ι)
    (va vb vc vd : DmaSems sig S_) (f : S8192x128.Idx → F .f32) {kk : PUnit → TP F (cc i) (ss i) PUnit} {Q : PUnit → sProp 𝕄} :
    iprop(levAts (K (F := F)).L (K (F := F)).lev ∗ boards X d (cc i) κ ∗ standing (F := F) d i k.val ∗ turn (F := F) d (cc i) (i 1) k
        ∗ reads X d i ∗ shIn (F := F) d (coreNo i) (tileNo i) ∗ room (F := F) d i
        ∗ (rest (F := F) d i va ∗ rest (F := F) d i vb ∗ rest (F := F) d i vc ∗ rest (F := F) d i vd)
        ∗ (rest (F := F) d i cc0_scratch6 ∗ rest (F := F) d i cc0_scratch7)
        ∗ (oLoc d ↦[block (blockNo (coreNo i) r (tileNo i))]{fullShare} (f : Buf (Elt F) (oLoc d))) ∗ owes me (O + arrivals d (cc i) k) W)
      ⊢ (iprop((iprop(standing (F := F) d i (k.val + 1) ∗ reads X d i ∗ (shLoc d (cc i) ↦{sh16 (i 1)} X.held d (cc i) r.val) ∗ room (F := F) d i
            ∗ (rest (F := F) d i va ∗ rest (F := F) d i vb ∗ rest (F := F) d i vc ∗ rest (F := F) d i vd)
            ∗ (rest (F := F) d i cc0_scratch6 ∗ rest (F := F) d i cc0_scratch7)
            ∗ (oLoc d ↦[block (blockNo (coreNo i) r (tileNo i))]{fullShare} (X.out d : Buf (Elt F) (oLoc d))) ∗ ∃ W', owes me O W') -∗ run (kk ⟨⟩) Q)
          -∗ run (pass i tblV idxV mskV resV spmV iV (Memref.isWhole_whole _) mV (Memref.isWhole_whole _) aV (Memref.isWhole_whole _)
              bV (Memref.isWhole_whole _) oV (Memref.isWhole_whole _) cc0_scratch6 cc0_scratch7 r va vb vc vd >>= kk) Q) : sProp 𝕄) := by
  have hk1 : k.val ≠ 1 := by omega
  have hr : k.val / 2 = r.val := by omega
  unfold pass reads room shIn
  simp only [Prog.bind_assoc]
  iintro ⟨#Hlv, #Hinv, Hst, Htn, ⟨Ht, Hi, Hm⟩, Hch, ⟨Hbi, Hbm, Hba, Hbb, Hbo⟩, ⟨Ha, Hb, Hc, Hd⟩, ⟨H6, H7⟩, Hout, HO⟩ Hk
  have hn' : ∀ g, (O + arrivals d (cc i) k) g none = 0 := fun g => by rw [Pi.add_apply, Finsupp.add_apply, hn g, arrivals_none]
  ihave #Hw1 := ((K (F := F)).mayWaits_none (thr := me) hn') $$ Hlv
  ihave #Hw2 := ((K (F := F)).mayWaits_none (thr := me) hn) $$ Hlv
  iapply (Pass.load_run 𝒱₀ none d i r (sh32 (coreNo i) (tileNo i)) (X.T d) (X.I d) (X.M d) none (O + arrivals d (cc i) k) W va vb vc) $$ [Ht Hi Hm Hch Hbi Hbm Ha Hb Hc HO]
  · isplitl [Ht]; · iexact Ht
    isplitl [Hi]; · iexact Hi
    isplitl [Hm]; · iexact Hm
    isplitl [Hch]; · iexact Hch
    isplitl [Hbi]; · iexact Hbi
    isplitl [Hbm]; · iexact Hbm
    isplitl [Ha Hb Hc]
    · isplitl [Ha]; · iexact Ha
      isplitl [Hb]; · iexact Hb
      iexact Hc
    isplitl [HO]
    · unfold Owing; iexists W; isplitr
      · ipureintro; exact fun p hp => .inl hp
      · iexact HO
    iexact Hw1
  iintro ⟨Ht, Hi, Hm, Hch, Hbi, Hbm, ⟨Ha, Hb, Hc⟩, HO⟩
  unfold Owing
  icases HO with ⟨%W1, -, HO⟩
  ihave Hpl := (show ((me).loc cc0_scratch0 ↦[chunk (tileNo i)]{fullShare} (held (X.T d) (i 0).val r.val : S8192x128.Idx → F .f32) : sProp 𝕄) ⊢ _ from
    deal_out X d (cc i) (i 1) hk1 hr) $$ Hch
  iapply (meet_run X d i k κ O W1 hO) $$ [Hst Htn Hpl HO]
  · isplitr; · iexact Hlv
    isplitr; · iexact Hinv
    isplitl [Hst]; · iexact Hst
    isplitl [Htn]; · iexact Htn
    isplitl [Hpl]; · iexact Hpl
    iexact HO
  iintro ⟨Hst, Hpl, ⟨%W2, HO⟩⟩
  ihave Hsh := (take_in X d (cc i) (i 1) hk1 hr) $$ Hpl
  iapply (Pass.serve_run 𝒱₀ none d i r (X.T d) (X.I d) (X.M d) none O W2 hI (sh16 (i 1)) f cc0_scratch6 cc0_scratch7 vd) $$ [Hsh Hbi Hbm Hba Hbb Hbo H6 H7 Hd Hout HO]
  · isplitl [Hsh]
    · iapply (Entails.of_eq (owns_whole me cc0_scratch0 (sh16 (i 1)) (X.held d (cc i) r.val)).symm); iexact Hsh
    isplitl [Hbi]; · iexact Hbi
    isplitl [Hbm]; · iexact Hbm
    isplitl [Hba Hbb Hbo]
    · isplitl [Hba]; · iexact Hba
      isplitl [Hbb]; · iexact Hbb
      iexact Hbo
    isplitl [H6 H7 Hd]
    · isplitl [H6]; · iexact H6
      isplitl [H7]; · iexact H7
      iexact Hd
    isplitl [Hout]; · iexact Hout
    isplitl [HO]
    · unfold Owing; iexists W2; isplitr
      · ipureintro; exact fun p hp => .inl hp
      · iexact HO
    iexact Hw2
  iintro ⟨Hsh, Hbi, Hbm, ⟨Hba, Hbb, Hbo⟩, ⟨H6, H7, Hd⟩, Hout, HO⟩
  unfold Owing
  icases HO with ⟨%W3, -, HO⟩
  iapply Hk
  isplitl [Hst]; · iexact Hst
  isplitl [Ht Hi Hm]
  · isplitl [Ht]; · iexact Ht
    isplitl [Hi]; · iexact Hi
    iexact Hm
  isplitl [Hsh]
  · iapply (Entails.of_eq (owns_whole me cc0_scratch0 (sh16 (i 1)) (X.held d (cc i) r.val))); iexact Hsh
  isplitl [Hbi Hbm Hba Hbb Hbo]
  · isplitl [Hbi]; · iexact Hbi
    isplitl [Hbm]; · iexact Hbm
    isplitl [Hba]; · iexact Hba
    isplitl [Hbb]; · iexact Hbb
    iexact Hbo
  isplitl [Ha Hb Hc Hd]
  · isplitl [Ha]; · iexact Ha
    isplitl [Hb]; · iexact Hb
    isplitl [Hc]; · iexact Hc
    iexact Hd
  isplitl [H6 H7]
  · isplitl [H6]; · iexact H6
    iexact H7
  isplitl [Hout]; · iexact Hout
  iexists W3; iexact HO

end Cert.Task
-- ==== Proof.Tile.lean ====
/-
  What the call asks of every tile, and how the shared buffer is dealt to the tiles and collected.
-/
module

public import proofs.«01_k».proof.Proof.Task

@[expose] public section

noncomputable section

namespace Cert.Tile

open Cert.KernelIdeal Cert.Body Cert.Value Cert.Trip Cert.Parts Cert.Setup Cert.Task
open Cert.KernelIdeal.Gen (facts₀)
open Idealize.ShloMosaic Idealize.ShloMosaic.SparseCore Idealize.ShloMosaic.Transfers
open Idealize.ShloMosaic.SparseCore.Cfg (HIx ownCells ownRefs ownBufs ownSems0 mem_ownCells mem_ownRefs_of_owner mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Setup.blocks

variable {F : FTy → Type} [FloatOps F] (X : Inp F)
variable (d : Dev nD) (i : grid0.Coords)

local notation "𝕄" => MT nD τ sig (HIx 3) (Elt F) ℕ UU ℕ
local notation "me" => (V d (cc i) (ss i) : Thread nD τ)

local notation "tblV" => (Memref.whole Cert.KernelIdeal.main_v0_scv : Memref Cert.KernelIdeal.sig Kind.scVector Space.hbm Cert.KernelIdeal.S32768x128 EltTy.f32)
local notation "idxV" => (Memref.whole Cert.KernelIdeal.main_v7_scv : Memref Cert.KernelIdeal.sig Kind.scVector Space.hbm Cert.KernelIdeal.S262144 EltTy.i32)
local notation "mskV" => (Memref.whole Cert.KernelIdeal.main_v8_scv : Memref Cert.KernelIdeal.sig Kind.scVector Space.hbm Cert.KernelIdeal.S262144 EltTy.i32)
local notation "resV" => (Memref.whole Cert.KernelIdeal.main_v9_scv : Memref Cert.KernelIdeal.sig Kind.scVector Space.hbm Cert.KernelIdeal.S8192x128 EltTy.f32)
local notation "spmV" => (Memref.whole Cert.KernelIdeal.cc0_scratch0 : Memref Cert.KernelIdeal.sig Kind.scVector Space.shared Cert.KernelIdeal.S8192x128 EltTy.f32)
local notation "iV" => (Memref.whole Cert.KernelIdeal.cc0_scratch1 : Memref Cert.KernelIdeal.sig Kind.scVector Space.vmem Cert.KernelIdeal.S4096 EltTy.i32)
local notation "mV" => (Memref.whole Cert.KernelIdeal.cc0_scratch2 : Memref Cert.KernelIdeal.sig Kind.scVector Space.vmem Cert.KernelIdeal.S4096 EltTy.i32)
local notation "aV" => (Memref.whole Cert.KernelIdeal.cc0_scratch3 : Memref Cert.KernelIdeal.sig Kind.scVector Space.vmem Cert.KernelIdeal.S128x128 EltTy.f32)
local notation "bV" => (Memref.whole Cert.KernelIdeal.cc0_scratch4 : Memref Cert.KernelIdeal.sig Kind.scVector Space.vmem Cert.KernelIdeal.S128x128 EltTy.f32)
local notation "oV" => (Memref.whole Cert.KernelIdeal.cc0_scratch5 : Memref Cert.KernelIdeal.sig Kind.scVector Space.vmem Cert.KernelIdeal.S128x128 EltTy.f32)

/-- Some members of a set, named by `f`, apart from the others. -/
theorem pick {A : Type} [DecidableEq A] {n : ℕ} (s : Finset A) (f : Fin n → A) (hf : Function.Injective f) (hs : ∀ k, f k ∈ s) (Φ : A → sProp 𝕄) :
    bigSep s Φ = iprop((bigSep Finset.univ fun k => Φ (f k)) ∗ bigSep (s \ Finset.univ.image f) Φ) := by
  rw [SparseCore.bigSep_sdiff_split' (t := Finset.univ.image f) (fun a ha => by obtain ⟨k, -, rfl⟩ := Finset.mem_image.mp ha; exact hs k),
    SparseCore.bigSep_image_of_injOn hf.injOn]

/-- The counters a tile's copies use. -/
def counter : Fin 10 → DmaSems sig S_ :=
  ![cc0_scoped0, cc0_scoped1, cc0_scoped2, cc0_scoped3, cc0_scoped4, cc0_scoped5, cc0_scoped6, cc0_scoped7, cc0_scratch6, cc0_scratch7]

/-- A tile's own buffers. -/
def ownRef : Fin 5 → Ref sig .scVector := ![cc0_scratch1, cc0_scratch2, cc0_scratch3, cc0_scratch4, cc0_scratch5]

theorem counter_inj : ∀ a b : Fin 10, (SemLoc.dma (counter a).sem : SemLoc sig) = SemLoc.dma (counter b).sem → a = b := by decide
theorem ownRef_inj : ∀ a b : Fin 5, ownRef a = ownRef b → a = b := by decide

/-- Ten things, one by one, -/
theorem ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
/-- and five. -/
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The counters among a tile's semaphores. -/
theorem sems_out :
    (scopedSems0 me : sProp 𝕄) ⊢ iprop((rest (F := F) d i cc0_scoped0 ∗ rest (F := F) d i cc0_scoped1 ∗ rest (F := F) d i cc0_scoped2 ∗ rest (F := F) d i cc0_scoped3)
      ∗ (rest (F := F) d i cc0_scoped4 ∗ rest (F := F) d i cc0_scoped5 ∗ rest (F := F) d i cc0_scoped6 ∗ rest (F := F) d i cc0_scoped7)
      ∗ (rest (F := F) d i cc0_scratch6 ∗ rest (F := F) d i cc0_scratch7)
      ∗ (iprop((rest (F := F) d i cc0_scoped0 ∗ rest (F := F) d i cc0_scoped1 ∗ rest (F := F) d i cc0_scoped2 ∗ rest (F := F) d i cc0_scoped3)
        ∗ (rest (F := F) d i cc0_scoped4 ∗ rest (F := F) d i cc0_scoped5 ∗ rest (F := F) d i cc0_scoped6 ∗ rest (F := F) d i cc0_scoped7)
        ∗ (rest (F := F) d i cc0_scratch6 ∗ rest (F := F) d i cc0_scratch7)) -∗ scopedSems0 me)) := by
  rw [SparseCore.Cfg.scopedSems0_V (Val := Elt F) d (cc i) (ss i)]
  unfold ownSems0
  rw [pick (ownCells me) (fun k : Fin 10 => ((me, SemLoc.dma (counter k).sem) : GSem nD τ sig))
    (fun a b h => counter_inj a b (congrArg Prod.snd h))
    (fun k => mem_ownCells.mpr ⟨rfl, by show (SemLoc.dma (counter k).sem : SemLoc sig).isScoped .scVector = true; revert k; decide⟩),
    ten]
  iintro ⟨⟨H0, H1, H2, H3, H4, H5, H6, H7, H8, H9⟩, Hr⟩
  isplitl [H0 H1 H2 H3]
  · isplitl [H0]; · iexact H0
    isplitl [H1]; · iexact H1
    isplitl [H2]; · iexact H2
    iexact H3
  isplitl [H4 H5 H6 H7]
  · isplitl [H4]; · iexact H4
    isplitl [H5]; · iexact H5
    isplitl [H6]; · iexact H6
    iexact H7
  isplitl [H8 H9]
  · isplitl [H8]; · iexact H8
    iexact H9
  iintro ⟨⟨H0, H1, H2, H3⟩, ⟨H4, H5, H6, H7⟩, ⟨H8, H9⟩⟩
  isplitr [Hr]; swap; · iexact Hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The buffers among a tile's own. -/
theorem room_out (hF : (K (F := F)).Facts) : (scopedBufs me : sProp 𝕄) ⊢ iprop(room (F := F) d i ∗ (room (F := F) d i -∗ scopedBufs me)) := by
  rw [(K (F := F)).scopedBufs_V hF d (cc i) (ss i)]
  unfold ownBufs room
  rw [pick (ownRefs (τ := τ) (.scVector (cc i) (ss i))) (fun k : Fin 5 => (Proc.scVector (cc i) (ss i)).devRef (ownRef k))
    (fun a b h => ownRef_inj a b (Proc.devRef_injective _ h))
    (fun k => mem_ownRefs_of_owner (p := Proc.scVector (cc i) (ss i)) (by fin_cases k <;> rfl)),
    five]
  simp only [owns_whole]
  iintro ⟨⟨H0, H1, H2, H3, H4⟩, Hr⟩
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitr [Hr]; swap; · iexact Hr
  isplitl [H0]; · iexact H0
  isplitl [H1]; · iexact H1
  isplitl [H2]; · iexact H2
  isplitl [H3]; · iexact H3
  iexact H4

/-- The whole task of a tile. -/
theorem tile_run (hF : (K (F := F)).Facts) (hI : Sorted (X.I d)) (O : CellTallies nD τ sig (HIx 3)) (W : Waits sig (HIx 3))
    (hn : ∀ g, O g none = 0) (hO : ∀ g ι, 0 < O g ι → 22 ≤ (K (F := F)).lev g ι) :
    iprop(levAts (K (F := F)).L (K (F := F)).lev ∗ kit X d (cc i) (i 1) ∗ (given X d (coreNo i) (tileNo i) (X.O d) ∗ shIn (F := F) d (coreNo i) (tileNo i))
        ∗ scopedBufs me ∗ scopedSems0 me ∗ owes me (O + dues d (cc i)) W)
      ⊢ (wp frame (wpE (defs₀ (F := F)) 𝒱₀ me none) Set.univ
          (cc0__body i tblV (Memref.isWhole_whole _) idxV (Memref.isWhole_whole _) mskV (Memref.isWhole_whole _) resV (Memref.isWhole_whole _) spmV (Memref.isWhole_whole _)
            iV (Memref.isWhole_whole _) mV (Memref.isWhole_whole _) aV (Memref.isWhole_whole _) bV (Memref.isWhole_whole _) oV (Memref.isWhole_whole _)
            cc0_scratch6 cc0_scratch7 cc0_scoped0 cc0_scoped1 cc0_scoped2 cc0_scoped3 cc0_scoped4 cc0_scoped5 cc0_scoped6 cc0_scoped7)
          fun _ => iprop((back X d (coreNo i) (tileNo i) ∗ shOut X d (coreNo i) (tileNo i)) ∗ scopedBufs me ∗ scopedSems0 me
            ∗ ∃ W', ⌜∀ p ∈ W', p ∈ W ∨ p.2 = none ∨ p.2 ≠ none⌝ ∗ owes me O W') : sProp 𝕄) := by
  have h2 : ∀ g ι, 0 < O g ι → 8 * (2 : Fin 3).val + 3 < (K (F := F)).lev g ι := fun g ι h => lt_of_lt_of_le (by decide) (hO g ι h)
  have n2 : ∀ g, (O + arrivals d (cc i) 2) g none = 0 := fun g => by rw [Pi.add_apply, Finsupp.add_apply, hn g, arrivals_none]
  have h1 : ∀ g ι, 0 < (O + arrivals d (cc i) 2) g ι → 8 * (1 : Fin 3).val + 3 < (K (F := F)).lev g ι := fun g ι h => by
    rw [Pi.add_apply, Finsupp.add_apply] at h
    by_cases e : 0 < O g ι; · exact lt_of_lt_of_le (by decide) (hO g ι e)
    rw [arrivals_pos (F := F) (show 0 < arrivals d (cc i) 2 g ι by omega)]; decide
  have n1 : ∀ g, (O + arrivals d (cc i) 2 + arrivals d (cc i) 1) g none = 0 := fun g => by rw [Pi.add_apply, Finsupp.add_apply, n2 g, arrivals_none]
  have h0 : ∀ g ι, 0 < (O + arrivals d (cc i) 2 + arrivals d (cc i) 1) g ι → 8 * (0 : Fin 3).val + 3 < (K (F := F)).lev g ι := fun g ι h => by
    rw [Pi.add_apply, Finsupp.add_apply] at h
    by_cases e : 0 < (O + arrivals d (cc i) 2) g ι; · exact lt_trans (by decide) (h1 g ι e)
    rw [arrivals_pos (F := F) (show 0 < arrivals d (cc i) 1 g ι by omega)]; decide
  rw [body_same]
  unfold task kit given
  rw [← Prog.bind_pure (pass i tblV idxV mskV resV spmV iV _ mV _ aV _ bV _ oV _ cc0_scratch6 cc0_scratch7 1 cc0_scoped4 cc0_scoped5 cc0_scoped6 cc0_scoped7)]
  rw [show O + dues d (cc i) = O + arrivals d (cc i) 2 + arrivals d (cc i) 1 + arrivals d (cc i) 0 from by unfold Setup.dues; rw [← add_assoc, ← add_assoc]]
  iintro ⟨#Hlv, ⟨⟨%κ, #Hinv⟩, Hbef, Hatb, Hatc, Ht0, Ht1, Ht2⟩, ⟨⟨Ht, Hi, Hm, Ho0, Ho1⟩, Hsh⟩, Hbufs, Hsems, HO⟩
  ihave Hbufs := (room_out d i hF) $$ Hbufs
  icases Hbufs with ⟨Hroom, Hbufs⟩
  ihave Hsems := (sems_out (F := F) d i) $$ Hsems
  icases Hsems with ⟨Hsa, Hsb, Hsc, Hsems⟩
  iapply (pass_run X d i 0 hI 0 rfl κ (O + arrivals d (cc i) 2 + arrivals d (cc i) 1) W n1 h0 cc0_scoped0 cc0_scoped1 cc0_scoped2 cc0_scoped3 (X.O d)) $$ [Hbef Hatb Hatc Ht0 Ht Hi Hm Hsh Hroom Hsa Hsc Ho0 HO]
  · isplitr; · iexact Hlv
    isplitr; · iexact Hinv
    isplitl [Hbef Hatb Hatc]
    · unfold standing
      isplitl [Hbef]; · iexact Hbef
      isplitl [Hatb]; · iexact Hatb
      iexact Hatc
    isplitl [Ht0]; · iexact Ht0
    isplitl [Ht Hi Hm]
    · unfold reads; simp only [owns_whole]
      isplitl [Ht]; · iexact Ht
      isplitl [Hi]; · iexact Hi
      iexact Hm
    isplitl [Hsh]; · iexact Hsh
    isplitl [Hroom]; · iexact Hroom
    isplitl [Hsa]; · iexact Hsa
    isplitl [Hsc]; · iexact Hsc
    isplitl [Ho0]; · iexact Ho0
    iexact HO
  iintro ⟨Hst, Hrd, Hsh, Hroom, Hsa, Hsc, Ho0, %W1, HO⟩
  ihave Hpl := (show (shLoc d (cc i) ↦{sh16 (i 1)} X.held d (cc i) ((0 : Fin 2).val) : sProp 𝕄) ⊢ _ from deal_back X d (cc i) (i 1)) $$ Hsh
  iapply (meet_run X d i 1 κ (O + arrivals d (cc i) 2) W1 h1) $$ [Hst Ht1 Hpl HO]
  · isplitr; · iexact Hlv
    isplitr; · iexact Hinv
    isplitl [Hst]; · iexact Hst
    isplitl [Ht1]; · iexact Ht1
    isplitl [Hpl]; · iexact Hpl
    iexact HO
  iintro ⟨Hst, Hpl, %W2, HO⟩
  ihave Hsh := (show (bigSep Finset.univ fun j : Fin (grid0.bound 1) => pl X d (cc i) ((1 : Fin 3).val) j (i 1) : sProp 𝕄) ⊢ _ from take_back X d (cc i) (i 1)) $$ Hpl
  iapply (pass_run X d i 1 hI 2 rfl κ O W2 hn h2 cc0_scoped4 cc0_scoped5 cc0_scoped6 cc0_scoped7 (X.O d)) $$ [Hst Ht2 Hrd Hsh Hroom Hsb Hsc Ho1 HO]
  · isplitr; · iexact Hlv
    isplitr; · iexact Hinv
    isplitl [Hst]; · iexact Hst
    isplitl [Ht2]; · iexact Ht2
    isplitl [Hrd]; · iexact Hrd
    isplitl [Hsh]; · unfold shIn; iexists _; iexact Hsh
    isplitl [Hroom]; · iexact Hroom
    isplitl [Hsb]; · iexact Hsb
    isplitl [Hsc]; · iexact Hsc
    isplitl [Ho1]; · iexact Ho1
    iexact HO
  iintro ⟨Hst, Hrd, Hsh, Hroom, Hsb, Hsc, Ho1, %W3, HO⟩
  unfold standing boards
  icases Hst with ⟨-, -, Hatc⟩
  icases Hinv with ⟨-, Hcells⟩
  ihave #Hcell := (SparseCore.ent (bigSep_elim (Φ := fun j : Fin (grid0.bound 1) =>
    (inv (κ (false, Meet.tile Gen.hsub0 d (cc i) j)) (Meet.cell (ER (F := F)) Gen.hsub0 d (cc i) sc_bar0 3 j) : sProp 𝕄)) (Finset.mem_univ (i 1)))) $$ Hcells
  rw [wp_pure]
  imod (Meet.all_left (ER (F := F)) Gen.hsub0 d (cc i) sc_bar0 3 (i 1) (κ (false, Meet.tile Gen.hsub0 d (cc i) (i 1)))) $$ [Hatc] with Hbar
  · isplitr; · iexact Hcell
    iexact Hatc
  imodintro
  isplitl [Hrd Ho0 Ho1 Hbar Hsh]
  · isplitr [Hsh]; swap
    · unfold shOut; iexact Hsh
    unfold back given reads; simp only [owns_whole]
    icases Hrd with ⟨Ht, Hi, Hm⟩
    isplitr [Hbar]; swap; · iexact Hbar
    isplitl [Ht]; · iexact Ht
    isplitl [Hi]; · iexact Hi
    isplitl [Hm]; · iexact Hm
    isplitl [Ho0]; · iexact Ho0
    iexact Ho1
  isplitl [Hbufs Hroom]; · iapply Hbufs; iexact Hroom
  isplitl [Hsems Hsa Hsb Hsc]
  · iapply Hsems
    isplitl [Hsa]; · iexact Hsa
    isplitl [Hsb]; · iexact Hsb
    iexact Hsc
  iexists W3; isplitr
  · ipureintro; exact fun p _ => .inr (em _)
  · iexact HO

end Cert.Tile
-- ==== Proof.Deal.lean ====
/-
  The obligations of the call, and the records the launch makes for the meetings and deals to the
  tiles.
-/
module

public import proofs.«01_k».proof.Proof.Tile

@[expose] public section

noncomputable section

namespace Cert.Deal

open Cert.KernelIdeal Cert.Body Cert.Value Cert.Parts Cert.Setup
open Cert.KernelIdeal.Gen (facts₀)
open Idealize.ShloMosaic Idealize.ShloMosaic.SparseCore
open Idealize.ShloMosaic.SparseCore.Cfg (HIx ownBufs ownRefs mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Setup.blocks

variable {F : FTy → Type} [FloatOps F] (X : Inp F)

local notation "𝕄" => MT nD τ sig (HIx 3) (Elt F) ℕ UU ℕ

/-! ## The tile's obligation -/

/-- A tile's place in the grid. -/
def place (c : Fin (grid0.bound 0)) (s : Fin (grid0.bound 1)) : grid0.Coords :=
  fun | 0 => c | 1 => s | ⟨_ + 2, h⟩ => absurd h (Nat.not_lt.2 (Nat.le_add_left _ _))

/-- The program of the call on a tile. -/
theorem defs₀_tile (c : Fin τ.nSC) (s : Fin τ.nSub) :
    defs₀ (F := F) (.scVector c s) 0 ()
      = SparseCore.onTile Gen.hcore0 Gen.hsub0 (fun c s => cc0__body (place c s)
          (Memref.whole main_v0_scv) (Memref.isWhole_whole _) (Memref.whole main_v7_scv) (Memref.isWhole_whole _) (Memref.whole main_v8_scv) (Memref.isWhole_whole _)
          (Memref.whole main_v9_scv) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _)
          (Memref.whole cc0_scratch5) (Memref.isWhole_whole _) cc0_scratch6 cc0_scratch7
          cc0_scoped0 cc0_scoped1 cc0_scoped2 cc0_scoped3 cc0_scoped4 cc0_scoped5 cc0_scoped6 cc0_scoped7) ⟨⟩ c s := rfl

set_option maxRecDepth 16384 in
/-- Every tile runs its task. -/
theorem tileObl (hI : ∀ d, Sorted (X.I d)) : (K (F := F)).TileObl (D (F := F)) 𝒱 (P X) v₀ 0 := by
  intro d c i O W hn hO _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact Tile.tile_run X d (place ⟨_, hci.1⟩ ⟨_, hci.2⟩) facts (hI d) O W hn hO

/-! ## The shared buffer -/

/-- The shared buffer is among what the sequencer holds. -/
theorem shared_out (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  have h : shRef c ∈ ownRefs (τ := τ) (sig := sig) (.scScalar c) := (mem_ownRefs (p := Proc.scScalar c) (b := shRef c)).mpr rfl
  exact SparseCore.bigSep_erase' h

/-- Each tile is handed its chunk of it, -/
theorem shared_deal (d : Dev nD) (c : Fin 2) :
    (iprop(∃ f : Buf (Elt F) (shLoc d c), shLoc d c ↦{fullShare} f) : sProp 𝕄) ⊢ bigSep Finset.univ fun i : Fin 16 => shIn (F := F) d c i := by
  iintro ⟨%f, H⟩
  ihave H := (Entails.of_eq (chunks d c fullShare f)) $$ H
  iapply (SparseCore.ent (bigSep_mono (Φ := fun i : Fin 16 => (shLoc d c ↦[chunk i]{fullShare} f : sProp 𝕄)) (Ψ := fun i => shIn (F := F) d c i)
    fun i _ => BI.BIClass.exists_intro (Φ := fun f : Buf (Elt F) (shLoc d c) => (shLoc d c ↦[chunk i]{fullShare} f : sProp 𝕄)) f))
  iexact H

/-- and brings back a share of the whole. -/
theorem shared_back (d : Dev nD) (c : Fin 2) :
    (bigSep Finset.univ fun i : Fin 16 => shOut X d c i : sProp 𝕄) ⊢ iprop(∃ f : Buf (Elt F) (shLoc d c), shLoc d c ↦{fullShare} f) := by
  unfold shOut sh16
  iintro H
  iexists (X.held d c 1)
  iapply (Entails.of_eq (ShareLeaves.pointsTo_leaves (ℓ := shLoc d c) Finset.univ (X.held d c 1) 4 fullShare).symm)
  iexact H

/-- The call's operands are dealt to the tiles and its results collected from them. -/
theorem vecSplit : (K (F := F)).VecSplit (P X) 0 := by
  intro d c
  show iprop((bigSep Finset.univ fun i : Fin 16 => given X d c i (X.O d)) ∗ ownBufs (S d ((K (F := F)).core 0 c))) ⊢ |={Set.univ}=> iprop(
      (bigSep Finset.univ fun i : Fin 16 => iprop(given X d c i (X.O d) ∗ shIn (F := F) d c i))
      ∗ ((bigSep Finset.univ fun i : Fin 16 => iprop(back X d c i ∗ shOut X d c i)) -∗ iprop((bigSep Finset.univ fun i : Fin 16 => back X d c i) ∗ ownBufs (S d ((K (F := F)).core 0 c)))))
  rw [bigSep_sep', bigSep_sep', shared_out]
  iintro ⟨Hg, Hsh, Hr⟩
  imodintro
  isplitl [Hg Hsh]
  · isplitl [Hg]; · iexact Hg
    iapply (shared_deal (F := F) d c); iexact Hsh
  iintro ⟨Hb, Hs⟩
  isplitl [Hb]; · iexact Hb
  isplitr [Hr]; swap; · iexact Hr
  iapply (shared_back X d c); iexact Hs

/-! ## The records of the meetings -/

/-- The tiles. -/
abbrev Who : Type := Dev nD × Fin τ.nSC × Fin (grid0.bound 1)
/-- A tile's thread. -/
abbrev at_ (x : Who) : Thread nD τ := Meet.tile Gen.hsub0 x.1 x.2.1 x.2.2

theorem at_inj : Function.Injective at_ := fun a b e => by
  obtain ⟨h1, h2⟩ := Prod.mk.inj e
  obtain ⟨h3, h4⟩ := Proc.scVector.inj h2
  exact Prod.ext h1 (Prod.ext h3 (Fin.ext (congrArg Fin.val h4)))

/-- Every tile keeps two records, -/
def keyOf (x : Who × Bool) : Meet.Key nD τ := (x.2, at_ x.1)
/-- and has a turn at each record of its SparseCore in each meeting. -/
def tokOf (x : Who × Bool × Fin 3 × Fin (grid0.bound 1)) : Meet.Key nD τ × ℕ × Fin (grid0.bound 1) :=
  ((x.2.1, Meet.tile Gen.hsub0 x.1.1 x.1.2.1 x.2.2.2), x.2.2.1.val, x.1.2.2)

theorem keyOf_inj : Function.Injective keyOf := fun a b e => by
  obtain ⟨h1, h2⟩ := Prod.mk.inj e
  exact Prod.ext (at_inj h2) h1

theorem tokOf_inj : Function.Injective tokOf := fun ⟨⟨d, c, i⟩, b, k, j⟩ ⟨⟨d', c', i'⟩, b', k', j'⟩ e => by
  obtain ⟨h1, h2⟩ := Prod.mk.inj e
  obtain ⟨h3, h4⟩ := Prod.mk.inj h1
  obtain ⟨h5, h6⟩ := Prod.mk.inj h2
  have h7 := at_inj (a₁ := (d, c, j)) (a₂ := (d', c', j')) h4
  obtain ⟨rfl, h8⟩ := Prod.mk.inj h7
  obtain ⟨rfl, rfl⟩ := Prod.mk.inj h8
  exact Prod.ext (Prod.ext rfl (Prod.ext rfl h6)) (Prod.ext h3 (Prod.ext (Fin.ext h5) rfl))

/-- The records at the start. -/
def u₀ : UU := (initOf (K (F := F)).hsCells (K (F := F)).hsToks, (initOf (Finset.univ.image keyOf) (Finset.univ.image tokOf), 1))

/-- The barrier semaphores. -/
def bars : Finset (GSem nD τ sig) := Finset.univ.image fun x : Who => ((at_ x, .reg sc_bar0) : GSem nD τ sig)

theorem ownU_split (a : UH) (b : UB) : (ownU ((a, (b, 1)) : UU) : sProp 𝕄) ⊢ iprop(BI.own (EH a) ∗ BI.own (ER (F := F) b)) :=
  BI.own_op_elim ((uEmb (nD := nD) (sig := sig) (Ix := HIx 3) (Val := Elt F) (Name := ℕ) (U := UU) (Lvl := ℕ)).toEmb.op_of_mem
    (Prod.mk_mem_op (URA.mem_op_one a) (URA.mem_one_op (b, (1 : Counters)))))

/-- All records and turns, tile by tile. -/
theorem records : (BI.own (ER (F := F) (initOf (Finset.univ.image keyOf) (Finset.univ.image tokOf))) : sProp 𝕄)
    ⊢ |==> iprop((bigSep Finset.univ fun x : Who × Bool => initState (ER (F := F)) (keyOf x)) ∗ (bigSep Finset.univ fun x : Who × Bool => reached (ER (F := F)) (keyOf x) 0)
      ∗ (bigSep Finset.univ fun x : Who × Bool => atPos (ER (F := F)) (keyOf x) 0 ∅ 0)
      ∗ bigSep Finset.univ fun x : Who × Bool × Fin 3 × Fin (grid0.bound 1) => dutyTok (ER (F := F)) (tokOf x).1 (tokOf x).2.1 (tokOf x).2.2) := by
  have h := fund_init (ER (F := F)) (Finset.univ.image keyOf) (Finset.univ.image tokOf)
  rw [SparseCore.bigSep_image_of_injOn keyOf_inj.injOn, SparseCore.bigSep_image_of_injOn keyOf_inj.injOn, SparseCore.bigSep_image_of_injOn keyOf_inj.injOn,
    SparseCore.bigSep_image_of_injOn tokOf_inj.injOn] at h
  exact h

/-- Two things, of the two kinds of record. -/
theorem both (Φ : Bool → sProp 𝕄) : bigSep Finset.univ Φ = iprop(Φ true ∗ Φ false) :=
  bigSep_univ_eq_bigSepL [true, false] (by decide) (by decide) Φ

/-- Every barrier semaphore is free at the start. -/
theorem sems_free : ((K (F := F)).freeOn (· ∈ bars) : sProp 𝕄) ⊢ bigSep Finset.univ fun x : Who => semVal (at_ x, .reg sc_bar0) 0 := by
  unfold SparseCore.Cfg.freeOn
  refine sep_elim_right.trans (bigSep_mono fun x _ => ?_)
  exact bigSep_elim (Φ := fun sm : SemLoc sig => (semVal (V x.1 x.2.1 x.2.2, sm) 0 : sProp 𝕄)) (i := SemLoc.reg sc_bar0) (Finset.mem_filter.mpr
      ⟨Finset.mem_erase.mpr ⟨fun h => bar_ne_go (SemLoc.reg.inj h), Finset.mem_filter.mpr ⟨Finset.mem_univ _, by decide⟩⟩,
        Finset.mem_image_of_mem (fun x : Who => ((at_ x, .reg sc_bar0) : GSem nD τ sig)) (Finset.mem_univ x)⟩)

/-- The records' invariants. -/
theorem boards_new :
    iprop((bigSep Finset.univ fun x : Who => (semVal (at_ x, .reg sc_bar0) 0 : sProp 𝕄)) ∗ bigSep Finset.univ fun x : Who × Bool => initState (ER (F := F)) (keyOf x))
      ⊢ |={Set.univ}=> iprop(∃ κ : Who × Bool → ℕ, (bigSep Finset.univ fun x : Who => inv (κ (x, true)) (Meet.box (ER (F := F)) Gen.hsub0 x.1 x.2.1 (pl X x.1 x.2.1) x.2.2))
        ∗ bigSep Finset.univ fun x : Who => inv (κ (x, false)) (Meet.cell (ER (F := F)) Gen.hsub0 x.1 x.2.1 sc_bar0 3 x.2.2)) := by
  rw [bigSep_univ_prod (fun x : Who × Bool => initState (ER (F := F)) (keyOf x)), ← bigSep_sep']
  have h (x : Who) : iprop((semVal (at_ x, .reg sc_bar0) 0 : sProp 𝕄) ∗ bigSep Finset.univ fun b : Bool => initState (ER (F := F)) (keyOf (x, b)))
      ⊢ iprop(Meet.box (ER (F := F)) Gen.hsub0 x.1 x.2.1 (pl X x.1 x.2.1) x.2.2 ∗ Meet.cell (ER (F := F)) Gen.hsub0 x.1 x.2.1 sc_bar0 3 x.2.2) := by
    rw [both]
    unfold initState keyOf
    iintro ⟨Hs, ⟨Hb, -⟩, ⟨Hc, -⟩⟩
    isplitl [Hb]; · iapply (Meet.box_new (ER (F := F)) Gen.hsub0 x.1 x.2.1 (pl X x.1 x.2.1) x.2.2); iexact Hb
    iapply (Meet.cell_new (ER (F := F)) Gen.hsub0 x.1 x.2.1 sc_bar0 3 x.2.2)
    isplitl [Hs]; · iexact Hs
    iexact Hc
  have h' := bigSep_mono (s := (Finset.univ : Finset Who)) fun x _ => h x
  rw [bigSep_sep' Finset.univ (fun x : Who => Meet.box (ER (F := F)) Gen.hsub0 x.1 x.2.1 (pl X x.1 x.2.1) x.2.2)] at h'
  iintro H
  ihave ⟨Hb, Hc⟩ := (SparseCore.ent h') $$ H
  imod (inv_alloc_family Finset.univ (fun x : Who => Meet.box (ER (F := F)) Gen.hsub0 x.1 x.2.1 (pl X x.1 x.2.1) x.2.2) ∅ (E := Set.univ)) $$ Hb with ⟨%κb, -, Hb⟩
  imod (inv_alloc_family Finset.univ (fun x : Who => Meet.cell (ER (F := F)) Gen.hsub0 x.1 x.2.1 sc_bar0 3 x.2.2) ∅ (E := Set.univ)) $$ Hc with ⟨%κc, -, Hc⟩
  imodintro
  iexists (fun x : Who × Bool => if x.2 then κb x.1 else κc x.1)
  isplitl [Hb]; · iexact Hb
  iexact Hc

/-- Sixteen single units are a claim on sixteen. -/
theorem units (g : GSem nD τ sig) (ι : HIx 3) : ∀ n : ℕ, ∑ _ : Fin n, tallyAt g ι 1 = (tallyAt g ι n : CellTallies nD τ sig (HIx 3))
  | 0 => by rw [tallyAt_zero]; rfl
  | n + 1 => by rw [Fin.sum_univ_castSucc, units g ι n, tallyAt_add]

/-- What all tiles of a SparseCore owe for one meeting is what they may each claim at it. -/
theorem claims_eq (d : Dev nD) (c : Fin τ.nSC) (k : Fin 3) :
    (bigSep Finset.univ fun _ : Fin (grid0.bound 1) => (cred (arrivals d c k) : sProp 𝕄))
      = bigSep Finset.univ fun i : Fin (grid0.bound 1) => cred (tallyAt (bcell d c (i.castLE Gen.hsub0)) (some k) (grid0.bound 1)) := by
  unfold arrivals
  simp only [SparseCore.Cfg.cred_finsum]
  rw [bigSep_univ_comm]
  refine bigSep_congr fun j _ => ?_
  rw [← SparseCore.Cfg.cred_finsum, units]

/-- Three things, the other way round. -/
theorem turn_round (A B C : sProp 𝕄) : iprop((A ∗ B) ∗ C) ⊢ iprop(C ∗ B ∗ A) := by
  iintro ⟨⟨H2, H1⟩, H0⟩
  isplitl [H0]; · iexact H0
  isplitl [H1]; · iexact H1
  iexact H2

/-- The claims of all tiles on the arrivals of all meetings. -/
theorem claims : ((P X).oxCred : sProp 𝕄) ⊢ bigSep Finset.univ fun x : Who =>
    iprop(cred (tallyAt (bcell x.1 x.2.1 (x.2.2.castLE Gen.hsub0)) (some 0) (grid0.bound 1)) ∗ cred (tallyAt (bcell x.1 x.2.1 (x.2.2.castLE Gen.hsub0)) (some 1) (grid0.bound 1))
      ∗ cred (tallyAt (bcell x.1 x.2.1 (x.2.2.castLE Gen.hsub0)) (some 2) (grid0.bound 1))) := by
  unfold SparseCore.Cfg.Pay.oxCred
  rw [SparseCore.Cfg.bigSep_threads (fun t : Thread nD τ => (cred ((P X).oxFrom 0 t) : sProp 𝕄))]
  refine sep_elim_right.trans (sep_elim_right.trans ?_)
  rw [bigSep_univ_prod, bigSep_univ_prod]
  refine bigSep_mono fun d _ => ?_
  rw [bigSep_univ_prod, bigSep_univ_prod]
  refine bigSep_mono fun c _ => ?_
  have h (i : Fin τ.nSub) : (P X).oxFrom 0 (V d c i) = dues d c := by
    rw [show (0 : ℕ) = (0 : Fin 1).val from rfl, (P X).oxFrom_step, (P X).oxFrom_end _ (n := (0 : Fin 1).val + 1) le_rfl, add_zero]; rfl
  simp only [h, dues, SparseCore.Cfg.cred_add_eq]
  rw [bigSep_sep', bigSep_sep', bigSep_sep', bigSep_sep', ← claims_eq, ← claims_eq, ← claims_eq]
  exact turn_round _ _ _

/-! ## Dealing the kits -/

/-- The names of the invariants, by record. -/
def names (κ : Who × Bool → ℕ) : Meet.Key nD τ → ℕ
  | (b, (d, .scVector c i)) => κ ((d, c, i), b)
  | _ => 0

/-- What a tile alone holds at the start. -/
def own_ (x : Who) : sProp 𝕄 :=
  iprop((atPos (ER (F := F)) (true, at_ x) 0 ∅ 0 ∗ atPos (ER (F := F)) (false, at_ x) 0 ∅ 0)
    ∗ (bigSep Finset.univ fun y : Bool × Fin 3 × Fin (grid0.bound 1) => dutyTok (ER (F := F)) (y.1, Meet.tile Gen.hsub0 x.1 x.2.1 y.2.2) y.2.1.val x.2.2)
    ∗ cred (tallyAt (bcell x.1 x.2.1 (x.2.2.castLE Gen.hsub0)) (some 0) (grid0.bound 1)) ∗ cred (tallyAt (bcell x.1 x.2.1 (x.2.2.castLE Gen.hsub0)) (some 1) (grid0.bound 1))
      ∗ cred (tallyAt (bcell x.1 x.2.1 (x.2.2.castLE Gen.hsub0)) (some 2) (grid0.bound 1)))

/-- What all tiles share at the start. -/
def common : sProp 𝕄 :=
  iprop(∃ κ : Who × Bool → ℕ, ((bigSep Finset.univ fun x : Who => inv (κ (x, true)) (Meet.box (ER (F := F)) Gen.hsub0 x.1 x.2.1 (pl X x.1 x.2.1) x.2.2))
        ∗ bigSep Finset.univ fun x : Who => inv (κ (x, false)) (Meet.cell (ER (F := F)) Gen.hsub0 x.1 x.2.1 sc_bar0 3 x.2.2))
      ∗ bigSep Finset.univ fun x : Who × Bool => reached (ER (F := F)) (keyOf x) 0)

instance common_persistent : BI.Persistent (common X) := by unfold common; infer_instance

/-- Of a family of things that stay, over all tiles, those of one SparseCore. -/
theorem of_core (Φ : Who → sProp 𝕄) [∀ x, BI.Persistent (Φ x)] (d : Dev nD) (c : Fin τ.nSC) :
    bigSep Finset.univ Φ ⊢ bigSep Finset.univ fun j : Fin (grid0.bound 1) => Φ (d, c, j) :=
  (bigSep_of_persistent Finset.univ (bigSep Finset.univ Φ)).trans (bigSep_mono fun j _ => bigSep_elim (Φ := Φ) (i := (d, c, j)) (Finset.mem_univ _))

/-- The turns of a tile at the records, told apart by kind and by meeting. -/
theorem turns (x : Who) : (bigSep Finset.univ fun y : Bool × Fin 3 × Fin (grid0.bound 1) => (dutyTok (ER (F := F)) (y.1, Meet.tile Gen.hsub0 x.1 x.2.1 y.2.2) y.2.1.val x.2.2 : sProp 𝕄))
    = iprop((bigSep Finset.univ fun k : Fin 3 => bigSep Finset.univ fun j : Fin (grid0.bound 1) => dutyTok (ER (F := F)) (true, Meet.tile Gen.hsub0 x.1 x.2.1 j) k.val x.2.2)
      ∗ bigSep Finset.univ fun k : Fin 3 => bigSep Finset.univ fun j : Fin (grid0.bound 1) => dutyTok (ER (F := F)) (false, Meet.tile Gen.hsub0 x.1 x.2.1 j) k.val x.2.2) := by
  rw [bigSep_univ_prod, both, bigSep_univ_prod, bigSep_univ_prod]

/-- Three things, of the three meetings. -/
theorem three (Φ : Fin 3 → sProp 𝕄) : bigSep Finset.univ Φ = iprop(Φ 0 ∗ Φ 1 ∗ Φ 2) :=
  bigSep_univ_eq_bigSepL [0, 1, 2] (by decide) (by decide) Φ

/-- A tile's kit. -/
theorem kit_of (x : Who) : iprop(common X ∗ own_ (F := F) x) ⊢ kit X x.1 x.2.1 x.2.2 := by
  unfold common own_
  rw [turns, three, three]
  unfold kit turn boards Meet.before
  iintro ⟨⟨%κ, ⟨#Hb, #Hc⟩, #Hr⟩, ⟨Hat, Haf⟩, ⟨⟨Ht0, Ht1, Ht2⟩, Hf0, Hf1, Hf2⟩, Hc0, Hc1, Hc2⟩
  isplitr
  · iexists (names κ)
    isplit
    · iapply (of_core (fun x : Who => (inv (κ (x, true)) (Meet.box (ER (F := F)) Gen.hsub0 x.1 x.2.1 (pl X x.1 x.2.1) x.2.2) : sProp 𝕄)) x.1 x.2.1)
      iexact Hb
    · iapply (of_core (fun x : Who => (inv (κ (x, false)) (Meet.cell (ER (F := F)) Gen.hsub0 x.1 x.2.1 sc_bar0 3 x.2.2) : sProp 𝕄)) x.1 x.2.1)
      iexact Hc
  isplitr
  · iapply ((bigSep_of_persistent Finset.univ (bigSep Finset.univ fun x : Who × Bool => (reached (ER (F := F)) (keyOf x) 0 : sProp 𝕄))).trans
      (bigSep_mono fun j _ => bigSep_elim (Φ := fun x : Who × Bool => (reached (ER (F := F)) (keyOf x) 0 : sProp 𝕄)) (i := ((x.1, x.2.1, j), true)) (Finset.mem_univ _)))
    iexact Hr
  isplitl [Hat]; · iexact Hat
  isplitl [Haf]; · iexact Haf
  isplitl [Ht0 Hf0 Hc0]
  · isplitl [Hf0]; · iexact Hf0
    isplitl [Ht0]; · iexact Ht0
    iexact Hc0
  isplitl [Ht1 Hf1 Hc1]
  · isplitl [Hf1]; · iexact Hf1
    isplitl [Ht1]; · iexact Ht1
    iexact Hc1
  · isplitl [Hf2]; · iexact Hf2
    isplitl [Ht2]; · iexact Ht2
    iexact Hc2

/-- What each tile alone holds, gathered by kind. -/
theorem own_deal :
    iprop((bigSep Finset.univ fun x : Who × Bool => atPos (ER (F := F)) (keyOf x) 0 ∅ 0)
      ∗ (bigSep Finset.univ fun x : Who × Bool × Fin 3 × Fin (grid0.bound 1) => dutyTok (ER (F := F)) (tokOf x).1 (tokOf x).2.1 (tokOf x).2.2)
      ∗ (P X).oxCred : sProp 𝕄) ⊢ bigSep Finset.univ fun x : Who => own_ (F := F) x := by
  unfold own_
  rw [bigSep_sep', bigSep_sep' Finset.univ (fun x : Who => bigSep Finset.univ fun y : Bool × Fin 3 × Fin (grid0.bound 1) => dutyTok (ER (F := F)) (y.1, Meet.tile Gen.hsub0 x.1 x.2.1 y.2.2) y.2.1.val x.2.2),
    bigSep_univ_prod (fun x : Who × Bool => atPos (ER (F := F)) (keyOf x) 0 ∅ 0),
    bigSep_univ_prod (fun x : Who × Bool × Fin 3 × Fin (grid0.bound 1) => dutyTok (ER (F := F)) (tokOf x).1 (tokOf x).2.1 (tokOf x).2.2)]
  iintro ⟨Ha, Ht, Hc⟩
  isplitl [Ha]
  · iapply (SparseCore.ent (bigSep_mono (s := (Finset.univ : Finset Who)) fun x _ => Entails.of_eq (both fun b : Bool => (atPos (ER (F := F)) (keyOf (x, b)) 0 ∅ 0 : sProp 𝕄))))
    iexact Ha
  isplitl [Ht]; · iexact Ht
  iapply (claims X); iexact Hc

/-- Nothing, over any family, is nothing. -/
theorem nothing {J : Type} (S : Finset J) : (bigSep S fun _ => iprop(emp)) = (iprop(emp) : sProp 𝕄) := BI.bigSep_emp_const S

/-- The kits of all tiles make up what the threads are handed at the start. -/
theorem kits_all : (bigSep Finset.univ fun x : Who => kit X x.1 x.2.1 x.2.2 : sProp 𝕄)
    ⊢ bigSep Finset.univ fun thr : Thread nD τ => bigSep Finset.univ fun q : Fin 1 => (P X).x q thr := by
  rw [SparseCore.Cfg.bigSep_threads (fun thr : Thread nD τ => (bigSep Finset.univ fun q : Fin 1 => (P X).x q thr : sProp 𝕄))]
  have h1 (d : Dev nD) : (bigSep Finset.univ fun q : Fin 1 => (P X).x q (T d) : sProp 𝕄) = iprop(emp) := bigSep_univ_of_subsingleton (0 : Fin 1)
  have h2 (d : Dev nD) (c : Fin τ.nSC) : (bigSep Finset.univ fun q : Fin 1 => (P X).x q (S d c) : sProp 𝕄) = iprop(emp) := bigSep_univ_of_subsingleton (0 : Fin 1)
  have h3 (d : Dev nD) (c : Fin τ.nSC) (i : Fin τ.nSub) : (bigSep Finset.univ fun q : Fin 1 => (P X).x q (V d c i) : sProp 𝕄) = kit X d c i := bigSep_univ_of_subsingleton (0 : Fin 1)
  simp only [h1, h2, h3]
  rw [nothing, nothing]
  iintro H
  isplitr; · iempintro
  isplitr; · iempintro
  iexact H

theorem start :
    iprop(ownU (u₀ (F := F)) ∗ (P X).oxCred ∗ (K (F := F)).freeOn (· ∈ bars))
      ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P X).x q thr) : sProp 𝕄) := by
  unfold u₀
  iintro ⟨Hu, Hcred, Hfree⟩
  ihave ⟨HH, HB⟩ := (ownU_split (F := F) _ _) $$ Hu
  imod (records (F := F)) $$ HB with ⟨Hst, #Hr, Hat, Htok⟩
  ihave Hs := (sems_free (F := F)) $$ Hfree
  imod (boards_new X) $$ [Hs Hst] with ⟨%κ, #Hb, #Hc⟩
  · isplitl [Hs] <;> iassumption
  ihave Ho := (own_deal X) $$ [Hat Htok Hcred]
  · isplitl [Hat]; · iexact Hat
    isplitl [Htok] <;> iassumption
  imodintro
  isplitl [HH]; · iexact HH
  isplitr; · rw [nothing]; iempintro
  iapply (kits_all X)
  iapply (bigSep_with_persistent (R := common X) (Φ := fun x : Who => own_ (F := F) x) (Ψ := fun x : Who => kit X x.1 x.2.1 x.2.2) fun x _ => kit_of X x)
  isplitr
  · unfold common
    iexists κ
    isplit
    · isplit; · iexact Hb
      iexact Hc
    iexact Hr
  iexact Ho

end Cert.Deal
-- ==== Proof.Launch.lean ====
/-
  The whole program: the host's operations before and after the call, the call, and the run.
-/
module

public import proofs.«01_k».proof.Proof.Deal
public import Idealize.ShloMosaic.Lib.StableHlo.Run

@[expose] public section

noncomputable section

namespace Cert.Launch

open Cert.KernelIdeal Cert.Body Cert.Value Cert.Setup Cert.Deal
open Cert.Parts (block blockNo block_disjoint block_cover Sorted)
open Cert.KernelIdeal.Gen (facts₀)
open Cert.KernelIdeal.Facts₀
open Idealize.ShloMosaic Idealize.ShloMosaic.SparseCore
open Idealize.ShloMosaic.SparseCore.Cfg (HIx)
open Idealize.ShloMosaic.StableHlo (held after seq)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Setup.blocks

variable {F : FTy → Type} [FloatOps F]

local notation "𝕄" => MT nD τ sig (HIx 3) (Elt F) ℕ UU ℕ

/-! ## Sharing the buffers out -/

/-- A buffer is the thirty-two shares of it. -/
theorem leaves (ℓ : Loc nD τ sig) (f : Buf (Elt F) ℓ) :
    (ℓ ↦{fullShare} f : sProp 𝕄) = bigSep Finset.univ fun c : Fin 2 => bigSep Finset.univ fun i : Fin 16 => ℓ ↦{sh32 c i} f := by
  have h := ShareLeaves.pointsTo_leaves (Ix := HIx 3) (Name := ℕ) (U := UU) (Lvl := ℕ) (ℓ := ℓ) Finset.univ f 5 fullShare
  refine h.trans ?_
  refine (bigSep_univ_equiv (finProdFinEquiv (m := 2) (n := 16)) fun x : Fin 32 => (ℓ ↦{ShareLeaves.leaf 5 fullShare x} f : sProp 𝕄)).trans ?_
  rw [bigSep_univ_prod]; rfl

/-- The blocks of the result, numbered by SparseCore, pass and tile. -/
def numbered : Fin 2 × Fin 2 × Fin 16 ≃ Fin 64 :=
  ((Equiv.refl (Fin 2)).prodCongr (finProdFinEquiv (m := 2) (n := 16))).trans (finProdFinEquiv (m := 2) (n := 32))

theorem numbered_eq (c r : Fin 2) (i : Fin 16) : numbered (c, r, i) = blockNo c r i := Fin.ext (by
  show (i.val + 16 * r.val) + 32 * c.val = 32 * c.val + 16 * r.val + i.val
  omega)

/-- Two things, of the two numbers. -/
theorem pair (Φ : Fin 2 → sProp 𝕄) : bigSep Finset.univ Φ = iprop(Φ 0 ∗ Φ 1) :=
  bigSep_univ_eq_bigSepL [0, 1] (by decide) (by decide) Φ

/-- The result is the tiles' blocks of it. -/
theorem blocks64 (d : Dev nD) (f : Buf (Elt F) (oLoc d)) :
    (oLoc d ↦{fullShare} f : sProp 𝕄) = bigSep Finset.univ fun c : Fin 2 => bigSep Finset.univ fun i : Fin 16 =>
      iprop((oLoc d ↦[block (blockNo c 0 i)]{fullShare} f) ∗ (oLoc d ↦[block (blockNo c 1 i)]{fullShare} f)) := by
  refine (of_parts (ℓ := oLoc d) (n := 64) block block_disjoint block_cover fullShare f).trans ?_
  rw [bigSep_univ_equiv numbered, bigSep_univ_prod]
  refine bigSep_congr fun c _ => ?_
  rw [bigSep_univ_prod, pair, bigSep_sep']
  simp only [numbered_eq]

variable (X : Inp F)

/-- What all tiles are given is the four buffers. -/
theorem givens (d : Dev nD) (f : S8192x128.Idx → F .f32) :
    (bigSep Finset.univ fun c : Fin 2 => bigSep Finset.univ fun i : Fin 16 => given X d c i f : sProp 𝕄)
      = iprop((tLoc d ↦{fullShare} (X.T d : Buf (Elt F) (tLoc d))) ∗ (iLoc d ↦{fullShare} (X.I d : Buf (Elt F) (iLoc d))) ∗ (kLoc d ↦{fullShare} (X.M d : Buf (Elt F) (kLoc d)))
        ∗ (oLoc d ↦{fullShare} (f : Buf (Elt F) (oLoc d)))) := by
  rw [leaves (tLoc d), leaves (iLoc d), leaves (kLoc d), blocks64 d]
  unfold given
  simp only [bigSep_sep']

/-- All barrier semaphores of a device, at rest. -/
def rested (d : Dev nD) : sProp 𝕄 := bigSep Finset.univ fun c : Fin 2 => bigSep Finset.univ fun i : Fin 16 => semVal (bcell d c i) 0

theorem st_eq (d : Dev nD) : (bigSep Finset.univ fun c : Fin ((K (F := F)).nCore 0) => (P X).st 0 d c)
    = iprop((tLoc d ↦{fullShare} (X.T d : Buf (Elt F) (tLoc d))) ∗ (iLoc d ↦{fullShare} (X.I d : Buf (Elt F) (iLoc d))) ∗ (kLoc d ↦{fullShare} (X.M d : Buf (Elt F) (kLoc d)))
        ∗ (oLoc d ↦{fullShare} (X.O d : Buf (Elt F) (oLoc d)))) := givens X d (X.O d)

theorem dn_eq (d : Dev nD) : (bigSep Finset.univ fun c : Fin ((K (F := F)).nCore 0) => (P X).dn 0 d c)
    = iprop(((tLoc d ↦{fullShare} (X.T d : Buf (Elt F) (tLoc d))) ∗ (iLoc d ↦{fullShare} (X.I d : Buf (Elt F) (iLoc d))) ∗ (kLoc d ↦{fullShare} (X.M d : Buf (Elt F) (kLoc d)))
        ∗ (oLoc d ↦{fullShare} (X.out d : Buf (Elt F) (oLoc d)))) ∗ rested (F := F) d) := by
  rw [← givens X d (X.out d)]
  show (bigSep Finset.univ fun c : Fin 2 => bigSep Finset.univ fun i : Fin 16 => back X d c i) = _
  unfold back rested
  simp only [bigSep_sep']

/-! ## The host's operations -/

/-- The operations before the call. -/
def lead : List (HloOp τ sig (Elt F)) := [
  StableHlo.reshape main_arg0 main_v0 (rfl : (.f32 : EltTy) = .f32) shapeCasts_S8x4096x128_S32768x128,
  StableHlo.nullary main_v1 (iotaInDim S8 32 0),
  StableHlo.nullary main_c (constantI S_ 32 4096#32),
  StableHlo.unary main_c main_v2 (broadcastInDim S8 ![] bcast_S_S8 : (⟨S_, .i32⟩ : BufTy).Contents (Elt F) → (⟨S8, .i32⟩ : BufTy).Contents (Elt F)),
  StableHlo.binary main_v1 main_v2 main_v3 (muli : (⟨S8, .i32⟩ : BufTy).Contents (Elt F) → (⟨S8, .i32⟩ : BufTy).Contents (Elt F) → (⟨S8, .i32⟩ : BufTy).Contents (Elt F)),
  StableHlo.unary main_v3 main_v4 (broadcastInDim S8x1x1 ![0] bcast_S8_S8x1x1_0 : (⟨S8, .i32⟩ : BufTy).Contents (Elt F) → (⟨S8x1x1, .i32⟩ : BufTy).Contents (Elt F)),
  StableHlo.unary main_v4 main_v5 (broadcastInDim S8x1024x32 ![0, 1, 2] bcast_S8x1x1_S8x1024x32_0_1_2 : (⟨S8x1x1, .i32⟩ : BufTy).Contents (Elt F) → (⟨S8x1024x32, .i32⟩ : BufTy).Contents (Elt F)),
  StableHlo.binary main_arg1 main_v5 main_v6 (addi : (⟨S8x1024x32, .i32⟩ : BufTy).Contents (Elt F) → (⟨S8x1024x32, .i32⟩ : BufTy).Contents (Elt F) → (⟨S8x1024x32, .i32⟩ : BufTy).Contents (Elt F)),
  StableHlo.reshape main_v6 main_v7 (rfl : (.i32 : EltTy) = .i32) shapeCasts_S8x1024x32_S262144,
  StableHlo.reshape main_arg2 main_v8 (rfl : (.i32 : EltTy) = .i32) shapeCasts_S8x1024x32_S262144]

/-- The operation after it. -/
def trail : List (HloOp τ sig (Elt F)) := [StableHlo.reshape main_v9 main_v10 (rfl : (.f32 : EltTy) = .f32) shapeCasts_S8192x128_S8x1024x128]

/-- The program: the operations before, the call, the operation after. -/
theorem main_split (d : Dev nD) : main (F := F) d = seq lead >>= fun _ => sc.run d 0 >>= fun _ => seq trail >>= fun _ => pure ⟨⟩ := by
  rw [StableHlo.seq_bind_seqK, StableHlo.seq_bind_seqK]; rfl

/-- The host's buffers. -/
def bufs : Finset (DevRef τ sig) := (Finset.univ.filter fun b : Ref sig .tc => ¬ b.isScoped).image (Proc.devRef .tc)

theorem mem_bufs {b : Ref sig .tc} (h : ¬ b.isScoped) : (Proc.devRef .tc b : DevRef τ sig) ∈ bufs :=
  Finset.mem_image_of_mem _ (Finset.mem_filter.mpr ⟨Finset.mem_univ b, h⟩)

theorem lead_bufs : ∀ op ∈ lead (F := F), op.bufs ⊆ bufs := by
  refine List.forall_iff_forall_mem.mp ?_
  have h0 := mem_bufs (b := main_arg0) (by decide)
  have h1 := mem_bufs (b := main_arg1) (by decide)
  have h2 := mem_bufs (b := main_arg2) (by decide)
  have a0 := mem_bufs (b := main_v0) (by decide)
  have a1 := mem_bufs (b := main_v1) (by decide)
  have a2 := mem_bufs (b := main_v2) (by decide)
  have a3 := mem_bufs (b := main_v3) (by decide)
  have a4 := mem_bufs (b := main_v4) (by decide)
  have a5 := mem_bufs (b := main_v5) (by decide)
  have a6 := mem_bufs (b := main_v6) (by decide)
  have a7 := mem_bufs (b := main_v7) (by decide)
  have a8 := mem_bufs (b := main_v8) (by decide)
  have ac := mem_bufs (b := main_c) (by decide)
  simp only [lead, List.Forall, StableHlo.nullary_bufs, StableHlo.unary_bufs, StableHlo.binary_bufs, StableHlo.reshape_bufs, Finset.insert_subset_iff, Finset.singleton_subset_iff]
  simp only [h0, h1, h2, a0, a1, a2, a3, a4, a5, a6, a7, a8, ac, and_self]
theorem trail_bufs : ∀ op ∈ trail (F := F), op.bufs ⊆ bufs := by
  refine List.forall_iff_forall_mem.mp ?_
  have a9 := mem_bufs (b := main_v9) (by decide)
  have a10 := mem_bufs (b := main_v10) (by decide)
  simp only [trail, List.Forall, StableHlo.reshape_bufs, Finset.insert_subset_iff, Finset.singleton_subset_iff]
  exact ⟨a9, a10⟩
theorem lead_fresh : ∀ op ∈ lead (F := F), op.fresh = ∅ := List.forall_iff_forall_mem.mp ⟨rfl, rfl, rfl, rfl, rfl, rfl, rfl, rfl, rfl, rfl⟩
theorem trail_fresh : ∀ op ∈ trail (F := F), op.fresh = ∅ := List.forall_iff_forall_mem.mp rfl

/-! ## What the buffers hold -/

variable (m : (ℓ : Loc nD τ sig) → Buf (Elt F) ℓ) (ρ : Dev nD → PrngReg)

/-- A host's buffer, as the device's. -/
abbrev dev (b : Ref sig .tc) : DevRef τ sig := Proc.devRef .tc b

/-- At the start, -/
def V0 (d : Dev nD) : Valuation τ sig (Elt F) := fun b => m (d, b)
/-- before the call, -/
def V1 (d : Dev nD) : Valuation τ sig (Elt F) := after lead (V0 m d)

/-- What the call works on. -/
def inp : Inp F where
  T d := V1 m d (dev main_v0)
  I d := V1 m d (dev main_v7)
  M d := V1 m d (dev main_v8)
  O d := V1 m d (dev main_v9)

/-- after the call, -/
def V2 (d : Dev nD) : Valuation τ sig (Elt F) := Function.update (V1 m d) (dev main_v9) ((inp m).out d)
/-- and at the end. -/
def V3 (d : Dev nD) : Valuation τ sig (Elt F) := after trail (V2 m d)

theorem unscoped_held (d : Dev nD) : (unscopedBufs d (fun b => m ((SparseCore.T d).loc b)) : sProp 𝕄) = held (SparseCore.T d) bufs (V0 m d) := by
  unfold unscopedBufs held bufs
  rw [SparseCore.bigSep_image_of_injOn (Proc.devRef_injective _).injOn]; rfl

/-- The call's buffers. -/
def used : Finset (DevRef τ sig) := {dev main_v0, dev main_v7, dev main_v8, dev main_v9}
/-- The buffers the claims speak of. -/
def told : Finset (DevRef τ sig) := {dev main_arg0, dev main_arg1, dev main_arg2, dev main_v10}

theorem used_sub : used ⊆ bufs := by
  unfold used
  simp only [Finset.insert_subset_iff, Finset.singleton_subset_iff]
  exact ⟨mem_bufs (by decide), mem_bufs (by decide), mem_bufs (by decide), mem_bufs (by decide)⟩
theorem told_sub : told ⊆ bufs := by
  unfold told
  simp only [Finset.insert_subset_iff, Finset.singleton_subset_iff]
  exact ⟨mem_bufs (by decide), mem_bufs (by decide), mem_bufs (by decide), mem_bufs (by decide)⟩

theorem held_used (d : Dev nD) (W : Valuation τ sig (Elt F)) : (held (SparseCore.T d) used W : sProp 𝕄)
    = iprop((tLoc d ↦{fullShare} W (dev main_v0)) ∗ (iLoc d ↦{fullShare} W (dev main_v7)) ∗ (kLoc d ↦{fullShare} W (dev main_v8)) ∗ (oLoc d ↦{fullShare} W (dev main_v9))) := by
  unfold held used
  rw [SparseCore.bigSep_insert' (by decide), SparseCore.bigSep_insert' (by decide), SparseCore.bigSep_insert' (by decide), bigSep_singleton]
theorem held_told (d : Dev nD) (W : Valuation τ sig (Elt F)) : (held (SparseCore.T d) told W : sProp 𝕄)
    = iprop(((SparseCore.T d).loc main_arg0 ↦{fullShare} W (dev main_arg0)) ∗ ((SparseCore.T d).loc main_arg1 ↦{fullShare} W (dev main_arg1))
      ∗ ((SparseCore.T d).loc main_arg2 ↦{fullShare} W (dev main_arg2)) ∗ ((SparseCore.T d).loc main_v10 ↦{fullShare} W (dev main_v10))) := by
  unfold held told
  rw [SparseCore.bigSep_insert' (by decide), SparseCore.bigSep_insert' (by decide), SparseCore.bigSep_insert' (by decide), bigSep_singleton]

/-- Before the call: its buffers and the rest. -/
theorem before_call (d : Dev nD) : (held (SparseCore.T d) bufs (V1 m d) : sProp 𝕄)
    = iprop(((tLoc d ↦{fullShare} ((inp m).T d : Buf (Elt F) (tLoc d))) ∗ (iLoc d ↦{fullShare} ((inp m).I d : Buf (Elt F) (iLoc d))) ∗ (kLoc d ↦{fullShare} ((inp m).M d : Buf (Elt F) (kLoc d)))
        ∗ (oLoc d ↦{fullShare} ((inp m).O d : Buf (Elt F) (oLoc d)))) ∗ held (SparseCore.T d) (bufs \ used) (V1 m d)) := by
  rw [StableHlo.held_sub_split (SparseCore.T d) used_sub, held_used]; rfl

/-- After it: the result in its buffer. -/
theorem after_call (d : Dev nD) : (held (SparseCore.T d) bufs (V2 m d) : sProp 𝕄)
    = iprop(((tLoc d ↦{fullShare} ((inp m).T d : Buf (Elt F) (tLoc d))) ∗ (iLoc d ↦{fullShare} ((inp m).I d : Buf (Elt F) (iLoc d))) ∗ (kLoc d ↦{fullShare} ((inp m).M d : Buf (Elt F) (kLoc d)))
        ∗ (oLoc d ↦{fullShare} ((inp m).out d : Buf (Elt F) (oLoc d)))) ∗ held (SparseCore.T d) (bufs \ used) (V1 m d)) := by
  rw [StableHlo.held_sub_split (SparseCore.T d) used_sub, held_used]
  have h0 : V2 m d (dev main_v0) = V1 m d (dev main_v0) := Function.update_of_ne (StableHlo.devRef_ne_of_ne (by decide)) _ _
  have h7 : V2 m d (dev main_v7) = V1 m d (dev main_v7) := Function.update_of_ne (StableHlo.devRef_ne_of_ne (by decide)) _ _
  have h8 : V2 m d (dev main_v8) = V1 m d (dev main_v8) := Function.update_of_ne (StableHlo.devRef_ne_of_ne (by decide)) _ _
  have h9 : V2 m d (dev main_v9) = (inp m).out d := Function.update_self _ _ _
  have hr : (held (SparseCore.T d) (bufs \ used) (V2 m d) : sProp 𝕄) = held (SparseCore.T d) (bufs \ used) (V1 m d) :=
    StableHlo.held_congr _ fun b hb => Function.update_of_ne (fun e => (Finset.mem_sdiff.mp hb).2 (by subst e; unfold used; simp)) _ _
  rw [h0, h7, h8, h9, hr]; rfl

/-- What the claims speak of: the arguments and the result, and the barrier semaphores at rest. -/
def FIN (d : Dev nD) : sProp 𝕄 := iprop(held (SparseCore.T d) told (V3 m d) ∗ rested (F := F) d)

theorem hmain (κ : GSem nD τ sig → ℕ) (d : Dev nD) :
    iprop((K (F := F)).ctx EH (P (inp m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [unscoped_held, main_split]
  iintro ⟨#Hctx, Hst, ⟨Hb, Hheld, Hts, -⟩, -⟩
  iapply (StableHlo.wp_seq 𝒱 none Set.univ d bufs _ lead lead_bufs lead_fresh (V0 m d)) $$ [Hb Hheld]
  · isplitl [Hb] <;> iassumption
  iintro ⟨Hb, Hheld⟩
  ihave ⟨Hin, Hrest⟩ := (show (held (d.tc : Thread nD τ) bufs (after lead (V0 m d)) : sProp 𝕄) ⊢ _ from Entails.of_eq (before_call m d)) $$ Hheld
  rw [wp_bind]
  iapply ((K (F := F)).wp_run (D (F := F)) 𝒱 (EH := EH) (P := P (inp m)) κ d 0) $$ [Hst Hin Hb Hrest Hts]
  isplitr; · iexact Hctx
  isplitl [Hst]; · iexact Hst
  isplitl [Hin]; · rw [st_eq]; iexact Hin
  iintro ⟨Hst, Hdn⟩
  ihave ⟨Hout, Hbars⟩ := (Entails.of_eq (dn_eq (inp m) d)) $$ Hdn
  ihave Hheld := (Entails.of_eq (after_call m d).symm) $$ [Hout Hrest]
  · isplitl [Hout] <;> iassumption
  iapply (StableHlo.wp_seq 𝒱 none Set.univ d bufs _ trail trail_bufs trail_fresh (V2 m d)) $$ [Hb Hheld]
  · isplitl [Hb] <;> iassumption
  iintro ⟨Hb, Hheld⟩
  ihave ⟨Hfin, -⟩ := (show (held (d.tc : Thread nD τ) bufs (after trail (V2 m d)) : sProp 𝕄) ⊢ _ from Entails.of_eq (StableHlo.held_sub_split (SparseCore.T d) told_sub (V3 m d))) $$ Hheld
  rw [wp_pure]
  imodintro
  isplitl [Hst]; · iexact Hst
  isplitl [Hfin Hbars]
  · isplitl [Hfin] <;> iassumption
  isplitl [Hb] <;> iassumption

/-! ## The run -/

/-- What a final state shows: what the arguments and the result hold, and the barrier semaphores at rest. -/
def fq (d : Dev nD) (s' : Phys nD τ sig (Elt F)) : Prop :=
  (∀ b ∈ told, s'.mem.mem (d, b) = V3 m d b) ∧ ∀ (c : Fin 2) (i : Fin 16), s'.mem.sem (bcell d c i) = 0

/-- A whole buffer holds what is said of it. -/
theorem read_buf (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := fun x hx =>
  ⟨fun b hb => ((sep_mono_left (sep_elim_left.trans (SparseCore.ent (bigSep_elim (Φ := fun b => (((d, b) : Loc nD τ sig) ↦{fullShare} V3 m d b : sProp 𝕄)) hb)))).trans (read_buf (d, b) (V3 m d b) s')) x hx,
    fun c i => ((sep_mono_left (sep_elim_right.trans ((SparseCore.ent (bigSep_elim (Φ := fun c : Fin 2 => (bigSep Finset.univ fun i : Fin 16 => semVal (bcell d c i) 0 : sProp 𝕄)) (Finset.mem_univ c))).trans
      (SparseCore.ent (bigSep_elim (Φ := fun i : Fin 16 => (semVal (bcell d c i) 0 : sProp 𝕄)) (Finset.mem_univ i)))))).trans (SparseCore.Cfg.semVal_zero_read _ s')) x hx⟩

/-- The barrier semaphores end at rest. -/
theorem hA (s' : Phys nD τ sig (Elt F)) (h : ∀ d, fq m d s') (g : GSem nD τ sig) (hg : g ∈ bars) : s'.mem.sem g = 0 := by
  obtain ⟨x, -, rfl⟩ := Finset.mem_image.mp hg
  exact (h x.1).2 x.2.1 x.2.2

/-- The end of a run: the buffers told of at their contents, every semaphore at rest. -/
def QC : PUnit × MemSt nD τ sig (Elt F) → Prop := fun r => (∀ d : Dev nD, ∀ b ∈ told, r.2.mem (d, b) = V3 m d b) ∧ r.2.sem = fun _ => 0

/-- The program runs to its end, the buffers told of at their contents. -/
theorem run_main [∀ e, Nonempty (Elt F e)] (hI : ∀ d, Sorted ((inp m).I d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (inp m)) (hA := hA m) facts v₀
    (fun q hq => match q with | 0 => nomatch hq)
    (fun q _ => match q with | 0 => tileObl (inp m) hI)
    (fun q _ => match q with | 0 => vecSplit (inp m))
    m ρ main (fun _ => iprop(emp)) (FIN m) (u₀ (F := F)) (start (inp m)) (hmain m ρ) (fq m) (hfin m) (QC m) (fun _ h hz => ⟨fun d => (h d).1, hz⟩)

end Cert.Launch
-- ==== Proof.Host.lean ====
/-
  What the host's operations make: the table, the row numbers and the masks that the call works on, read
  place by place from the arguments, and the result read place by place from what the call leaves.
-/
module

public import proofs.«01_k».proof.Proof.Launch
public import proofs.«01_k».proof.Proof.Gen.Pre_in_range
public import Idealize.ShloMosaic.Lib.ReduceAll
public import Idealize.ShloMosaic.Lib.Pipeline.Value
public import Idealize.ShloMosaic.Lib.Pointwise.Index

@[expose] public section

noncomputable section

namespace Cert.Host

open Cert.KernelIdeal Cert.Body Cert.Value Cert.Launch
open Cert.Parts (Sorted)
open Cert.KernelIdeal.Gen (facts₀)
open Cert.KernelIdeal.Facts₀
open Idealize.ShloMosaic Idealize.ShloMosaic.StableHlo

variable {F : FTy → Type} [FloatOps F]
variable (m : (ℓ : Loc nD τ sig) → Buf (Elt F) ℓ)

/-! ## The buffers at the end -/

/-- The operation after the call writes the result alone. -/
theorem end_of (d : Dev nD) (b : Ref sig .tc) (h : b ≠ main_v10) (h9 : b ≠ main_v9) : V3 m d (dev b) = V1 m d (dev b) := by
  refine (?_ : _ = V2 m d (dev b)).trans (Function.update_of_ne (devRef_ne_of_ne h9) _ _)
  exact after_of_writes_sub (W := [main_v10]) trail _ (by simp [trail, List.Forall]) (by simpa using h)

theorem end_arg0 (d : Dev nD) : V3 m d (dev main_arg0) = m (d, dev main_arg0) :=
  (end_of m d main_arg0 (by decide) (by decide)).trans (by unfold V1 lead; after_results_simp <;> rfl)
theorem end_arg1 (d : Dev nD) : V3 m d (dev main_arg1) = m (d, dev main_arg1) :=
  (end_of m d main_arg1 (by decide) (by decide)).trans (by unfold V1 lead; after_results_simp <;> rfl)
theorem end_arg2 (d : Dev nD) : V3 m d (dev main_arg2) = m (d, dev main_arg2) :=
  (end_of m d main_arg2 (by decide) (by decide)).trans (by unfold V1 lead; after_results_simp <;> rfl)

/-- The result is the call's, its rows taken apart by batch. -/
theorem end_v10 (d : Dev nD) : V3 m d (dev main_v10) = shapeCast S8x1024x128 ((inp m).out d) shapeCasts_S8192x128_S8x1024x128 := by
  have h9 : V2 m d (dev main_v9) = (inp m).out d := Function.update_self _ _ _
  rw [← h9]; unfold V3 trail; after_results_simp <;> rfl

/-- The three arguments, as arrays. -/
abbrev arg0 (d : Dev nD) : FVec F S8x4096x128 .f32 := m (d, dev main_arg0)
abbrev arg1 (d : Dev nD) : IVec S8x1024x32 32 := m (d, dev main_arg1)
abbrev arg2 (d : Dev nD) : IVec S8x1024x32 32 := m (d, dev main_arg2)

theorem table_eq (d : Dev nD) : (inp m).T d = shapeCast S32768x128 (arg0 m d) shapeCasts_S8x4096x128_S32768x128 := by
  show V1 m d (dev main_v0) = _
  unfold V1 lead; after_results_simp <;> rfl
theorem rows_eq (d : Dev nD) : (inp m).I d = shapeCast S262144 (addi (arg1 m d)
    (broadcastInDim S8x1024x32 ![0, 1, 2] bcast_S8x1x1_S8x1024x32_0_1_2 (broadcastInDim S8x1x1 ![0] bcast_S8_S8x1x1_0
      (muli (iotaInDim S8 32 0) (broadcastInDim S8 ![] bcast_S_S8 (constantI S_ 32 4096#32)))))) shapeCasts_S8x1024x32_S262144 := by
  show V1 m d (dev main_v7) = _
  unfold V1 lead; after_results_simp <;> rfl
theorem masks_eq (d : Dev nD) : (inp m).M d = shapeCast S262144 (arg2 m d) shapeCasts_S8x1024x32_S262144 := by
  show V1 m d (dev main_v8) = _
  unfold V1 lead; after_results_simp <;> rfl

/-! ## Place by place -/

/-- Row `4096 b + r` of the table is row `r` of batch `b`. -/
theorem table_at (d : Dev nD) (x : S32768x128.Idx) (i : S8x4096x128.Idx) (h : (i 0).val * 4096 + (i 1).val = (x 0).val) (h2 : (i 2).val = (x 1).val) :
    (inp m).T d x = arg0 m d i := by
  rw [table_eq]
  refine shapeCast_apply _ _ _ _ ?_
  rw [Shape.rowMajor_val_two, Shape.rowMajor_val_three]
  show ((i 0).val * 4096 + (i 1).val) * 128 + (i 2).val = (x 0).val * 128 + (x 1).val
  rw [h, h2]

/-- The masks are listed in order. -/
theorem masks_at (d : Dev nD) (x : S262144.Idx) (i : S8x1024x32.Idx) (h : ((i 0).val * 1024 + (i 1).val) * 32 + (i 2).val = (x 0).val) :
    (inp m).M d x = arg2 m d i := by
  rw [masks_eq]
  refine shapeCast_apply _ _ _ _ ?_
  rw [Shape.rowMajor_val_one, Shape.rowMajor_val_three]
  exact h

/-- The row numbers are listed in order, those of batch `b` raised by `4096 b`. -/
theorem rows_at (d : Dev nD) (x : S262144.Idx) (i : S8x1024x32.Idx) (h : ((i 0).val * 1024 + (i 1).val) * 32 + (i 2).val = (x 0).val) :
    (inp m).I d x = arg1 m d i + BitVec.ofNat 32 (i 0).val * 4096#32 := by
  rw [rows_eq]
  refine (shapeCast_apply _ _ _ i ?_).trans ?_
  · rw [Shape.rowMajor_val_one, Shape.rowMajor_val_three]
    exact h
  · refine congrArg (arg1 m d i + ·) ?_
    refine (broadcastInDim_apply _ _ _ _ (ix3 (i 0) (0 : Fin 1) (0 : Fin 1)) ?_).trans ?_
    · intro a; match a with | ⟨0, _⟩ => rfl | ⟨1, _⟩ => rfl | ⟨2, _⟩ => rfl
    · exact broadcastInDim_apply _ _ _ _ (ix1 (i 0)) (fun a => match a with | ⟨0, _⟩ => rfl)

/-- Row `e` of batch `b` of the result is row `1024 b + e` of what the call leaves. -/
theorem result_at (d : Dev nD) (i : S8x1024x128.Idx) (y : S8192x128.Idx) (h : (i 0).val * 1024 + (i 1).val = (y 0).val) (h2 : (i 2).val = (y 1).val) :
    (V3 m d (dev main_v10) : FVec F S8x1024x128 .f32) i = (inp m).out d y := by
  rw [end_v10]
  refine shapeCast_apply _ _ _ _ ?_
  rw [Shape.rowMajor_val_two, Shape.rowMajor_val_three]
  show (y 0).val * 128 + (y 1).val = ((i 0).val * 1024 + (i 1).val) * 128 + (i 2).val
  rw [h, h2]

/-! ## The precondition -/

/-- A word that is nonnegative and less than 4096 as a signed number is a number below 4096. -/
theorem small_word (w : BitVec 32) (h : IntOp.andi (IntOp.cmpi .sge w 0#32) (IntOp.cmpi .slt w 4096#32) = 1#1) : w.toNat < 4096 := by
  have hb : ∀ a b : Bool, IntOp.andi (BitVec.ofBool a) (BitVec.ofBool b) = 1#1 → a = true ∧ b = true := by decide
  obtain ⟨h1, h2⟩ := hb _ _ h
  have h1 : (0 : Int) ≤ w.toInt := by simpa [BitVec.sle] using h1
  have h2 : w.toInt < 4096 := by simpa [BitVec.slt] using h2
  rw [BitVec.toInt_eq_toNat_cond] at h1 h2
  split at h1 <;> omega

/-- Under the precondition every row number is below 4096. -/
theorem small [Cert.Pre_in_range.Facts] (a0 : FVec F S8x4096x128 .f32) (a1 a2 : IVec S8x1024x32 32)
    (h : Cert.Pre_in_range.fn a0 a1 a2 = fun _ => 1#1) (i : S8x1024x32.Idx) : (a1 i).toNat < 4096 := by
  have e := congrFun h ix0
  unfold Cert.Pre_in_range.fn at e
  exact small_word _ (Host.reduce_andi_all _ _ _ _ _ e i)

/-- So the rows that the call gathers for a batch are rows of that batch. -/
theorem sorted (d : Dev nD) (h : ∀ i, (arg1 m d i).toNat < 4096) : Sorted ((inp m).I d) := by
  intro x
  have hx := (x 0).isLt
  have hx : (x 0).val < 262144 := hx
  have hi := rows_at m d x (ix3 ⟨(x 0).val / 32768, by omega⟩ ⟨(x 0).val / 32 % 1024, by omega⟩ ⟨(x 0).val % 32, by omega⟩) (by
    show ((x 0).val / 32768 * 1024 + (x 0).val / 32 % 1024) * 32 + (x 0).val % 32 = _
    omega)
  have hs := h (ix3 ⟨(x 0).val / 32768, by omega⟩ ⟨(x 0).val / 32 % 1024, by omega⟩ ⟨(x 0).val % 32, by omega⟩)
  rw [hi]
  rw [BitVec.toNat_add, BitVec.toNat_mul, BitVec.toNat_ofNat]
  show _ ∧ _
  simp only [ix3_0]
  generalize BitVec.toNat (arg1 m d _) = n at hs ⊢
  show 4096 * ((x 0).val / 32768) ≤ (n + (x 0).val / 32768 % 2 ^ 32 * 4096 % 2 ^ 32) % 2 ^ 32 ∧ (n + (x 0).val / 32768 % 2 ^ 32 * 4096 % 2 ^ 32) % 2 ^ 32 < 4096 * ((x 0).val / 32768) + 4096
  omega

end Cert.Host

end
-- ==== Proof.Ref.lean ====
/-
  What the reference computes, place by place: the rows gathered by batch and row number, the masks' weights,
  and the maximum over the members.
-/
module

public import proofs.«01_k».proof.Proof.Host
public import proofs.«01_k».proof.Proof.Gen.ReferenceIdeal.Run
public import Idealize.ShloMosaic.Lib.Pointwise.Reduce
public import Idealize.ShloMosaic.PureOps.Ideal.Laws
public import Idealize.ShloMosaic.PureOps.Reduce

@[expose] public section

noncomputable section

namespace Cert.Ref

open Cert.ReferenceIdeal Cert.ReferenceIdeal.Gen
open Idealize.ShloMosaic Idealize.ShloMosaic.StableHlo Idealize.SL.Sem
open Cert.Value (top weigh)

/-! ## The gathered rows -/

/-- The place among the pairs of batch and row number. -/
abbrev pairIx (b : Fin 8) (e : Fin 1024) (k : Fin 32) (c : Fin 2) : S8x1024x32x2.Idx := ix4 b e k c

/-- The reference's gather. -/
abbrev G : GatherDims S8x4096x128 S8x1024x32x2 S8x1024x32x128 := gather_S8x4096x128_S8x1024x32x2_S8x1024x32x128_3_01_n_n_01_3_11128

/-- At a place, the gather reads its two coordinates of the start at the pair of that place. -/
theorem pair_place (b : Fin 8) (e : Fin 1024) (k : Fin 32) (j : Fin 128) (c : Fin 2) : G.siIdx (ix4 b e k j) c = pairIx b e k c := by
  funext a
  match a with
  | ⟨0, _⟩ => rfl
  | ⟨1, _⟩ => rfl
  | ⟨2, _⟩ => rfl
  | ⟨3, _⟩ => rfl

/-- The gather, read at a place: the table at the batch and the row that the pair there names, when they are in
    range. -/
theorem gather_at {α : Type} (x : S8x4096x128.Idx → α) (ix : IVec S8x1024x32x2 32) (b : Fin 8) (e : Fin 1024) (k : Fin 32) (j : Fin 128)
    (p : Fin 8) (q : Fin 4096) (hp : (ix (pairIx b e k 0)).toInt.toNat = p.val) (hq : (ix (pairIx b e k 1)).toInt.toNat = q.val) :
    Host.gather G x ix (ix4 b e k j) = x (ix3 p q j) := by
  refine congrArg x (funext fun a => Fin.ext ?_)
  show G.start (ix4 b e k j) ix a + G.batchCoord (ix4 b e k j) a + G.offCoord (ix4 b e k j) a = _
  rw [G.batchCoord_eq_zero _ _ (show a ∉ ([] : List (Fin 3)) from List.not_mem_nil)]
  match a with
  | ⟨0, _⟩ =>
    have h0 : G.start (ix4 b e k j) ix 0 = min (ix (G.siIdx (ix4 b e k j) (0 : Fin 2))).toInt.toNat 7 := rfl
    have h1 : G.offCoord (ix4 b e k j) 0 = 0 := rfl
    show G.start (ix4 b e k j) ix 0 + 0 + G.offCoord (ix4 b e k j) 0 = p.val
    rw [h0, h1, pair_place, hp]; omega
  | ⟨1, _⟩ =>
    have h0 : G.start (ix4 b e k j) ix 1 = min (ix (G.siIdx (ix4 b e k j) (1 : Fin 2))).toInt.toNat 4095 := rfl
    have h1 : G.offCoord (ix4 b e k j) 1 = 0 := rfl
    show G.start (ix4 b e k j) ix 1 + 0 + G.offCoord (ix4 b e k j) 1 = q.val
    rw [h0, h1, pair_place, hq]; omega
  | ⟨2, _⟩ =>
    have h0 : G.start (ix4 b e k j) ix 2 = 0 := rfl
    have h1 : G.offCoord (ix4 b e k j) 2 = j.val := rfl
    show G.start (ix4 b e k j) ix 2 + 0 + G.offCoord (ix4 b e k j) 2 = j.val
    rw [h0, h1]; omega

/-! ## The reference's arrays -/

/-- The batch numbers, one for each member; a negative one would count from the end. -/
def batches : IVec S8x1024x32 32 :=
  broadcastInDim S8x1024x32 ![0, 1, 2] bcast_S8x1x1_S8x1024x32_0_1_2 (select
    (cmpi .slt (broadcastInDim S8x1x1 ![0] bcast_S8_S8x1x1_0 (iotaInDim S8 32 0)) (broadcastInDim S8x1x1 ![] bcast_S_S8x1x1 (constantI S_ 32 0#32)))
    (addi (broadcastInDim S8x1x1 ![0] bcast_S8_S8x1x1_0 (iotaInDim S8 32 0)) (broadcastInDim S8x1x1 ![] bcast_S_S8x1x1 (constantI S_ 32 8#32)))
    (broadcastInDim S8x1x1 ![0] bcast_S8_S8x1x1_0 (iotaInDim S8 32 0)))

/-- The row numbers; a negative one would count from the end. -/
def rows (a1 : IVec S8x1024x32 32) : IVec S8x1024x32 32 :=
  select (cmpi .slt a1 (broadcastInDim S8x1024x32 ![] bcast_S_S8x1024x32 (constantI S_ 32 0#32)))
    (addi a1 (broadcastInDim S8x1024x32 ![] bcast_S_S8x1024x32 (constantI S_ 32 4096#32))) a1

/-- Batch and row number, side by side. -/
def pairs (a1 : IVec S8x1024x32 32) : IVec S8x1024x32x2 32 :=
  concatenate S8x1024x32x2 3 [⟨S8x1024x32x1, broadcastInDim S8x1024x32x1 ![0, 1, 2] bcast_S8x1024x32_S8x1024x32x1_0_1_2 batches⟩,
    ⟨S8x1024x32x1, broadcastInDim S8x1024x32x1 ![0, 1, 2] bcast_S8x1024x32_S8x1024x32x1_0_1_2 (rows a1)⟩] concatenates_S8x1024x32x1_S8x1024x32x1_S8x1024x32x2_d3

/-- The numbers that the masks add. -/
def weights (a2 : IVec S8x1024x32 32) : FVec Ideal S8x1024x32x1 .f32 :=
  mulf (uitofp .f32 (cmpi .eq (broadcastInDim S8x1024x32x1 ![0, 1, 2] bcast_S8x1024x32_S8x1024x32x1_0_1_2 a2)
      (broadcastInDim S8x1024x32x1 ![] bcast_S_S8x1024x32x1 (constantI S_ 32 0#32))))
    (broadcastInDim S8x1024x32x1 ![] bcast_S_S8x1024x32x1 (constant S_ .f32 0xF149F2CA#32))

/-- The reference's result. -/
def outcome (a0 : FVec Ideal S8x4096x128 .f32) (a1 a2 : IVec S8x1024x32 32) : FVec Ideal S8x1024x128 .f32 :=
  Host.reduce FloatOps.maximumf (addf (Host.gather G a0 (pairs a1)) (broadcastInDim S8x1024x32x128 ![0, 1, 2, 3] bcast_S8x1024x32x1_S8x1024x32x128_0_1_2_3 (weights a2)))
    (constant S_ .f32 0xFF800000#32) reducesTo_S8x1024x32x128_S8x1024x128_d2 h_S_

/-! ## Place by place -/

/-- A batch number is its own. -/
theorem batches_at (b : Fin 8) (e : Fin 1024) (k : Fin 32) : batches (ix3 b e k) = BitVec.ofNat 32 b.val := by
  unfold batches
  refine (broadcastInDim_apply _ _ _ _ (ix3 b (0 : Fin 1) (0 : Fin 1)) (fun a => match a with | ⟨0, _⟩ => rfl | ⟨1, _⟩ => rfl | ⟨2, _⟩ => rfl)).trans ?_
  have hi : broadcastInDim S8x1x1 ![0] bcast_S8_S8x1x1_0 (iotaInDim S8 32 0) (ix3 b (0 : Fin 1) (0 : Fin 1)) = BitVec.ofNat 32 b.val :=
    broadcastInDim_apply _ _ _ _ (ix1 b) (fun a => match a with | ⟨0, _⟩ => rfl)
  show Scalar.select (IntOp.cmpi .slt (broadcastInDim S8x1x1 ![0] bcast_S8_S8x1x1_0 (iotaInDim S8 32 0) (ix3 b (0 : Fin 1) (0 : Fin 1))) 0#32)
    (IntOp.addi (broadcastInDim S8x1x1 ![0] bcast_S8_S8x1x1_0 (iotaInDim S8 32 0) (ix3 b (0 : Fin 1) (0 : Fin 1))) 8#32)
    (broadcastInDim S8x1x1 ![0] bcast_S8_S8x1x1_0 (iotaInDim S8 32 0) (ix3 b (0 : Fin 1) (0 : Fin 1))) = _
  rw [hi]
  revert b; decide

/-- A number below 4096 is not negative. -/
theorem not_negative (w : BitVec 32) (h : w.toNat < 4096) : IntOp.cmpi .slt w 0#32 = 0#1 := by
  have hw : w.toInt = w.toNat := by rw [BitVec.toInt_eq_toNat_cond]; split <;> omega
  have : w.slt 0#32 = false := by
    rw [BitVec.slt, hw]; simp
  show BitVec.ofBool (w.slt 0#32) = _
  rw [this]; rfl

/-- A row number below 4096 is its own. -/
theorem rows_at (a1 : IVec S8x1024x32 32) (i : S8x1024x32.Idx) (h : (a1 i).toNat < 4096) : rows a1 i = a1 i := by
  show Scalar.select (IntOp.cmpi .slt (a1 i) 0#32) (IntOp.addi (a1 i) 4096#32) (a1 i) = _
  rw [not_negative _ h]; rfl

/-- A batch number, as a word, is the number. -/
theorem batch_number : ∀ b : Fin 8, (BitVec.ofNat 32 b.val).toInt.toNat = b.val := by decide

/-- The first of a pair is the batch. -/
theorem pairs_batch (a1 : IVec S8x1024x32 32) (b : Fin 8) (e : Fin 1024) (k : Fin 32) : pairs a1 (pairIx b e k 0) = BitVec.ofNat 32 b.val := by
  unfold pairs
  refine (concatenate_pair_apply_left (t := S8x1024x32x2) (s₁ := S8x1024x32x1) (s₂ := S8x1024x32x1) 3 _ _ _ (pairIx b e k 0) rfl (ix4 b e k (0 : Fin 1))
    (fun a => match a with | ⟨0, _⟩ => rfl | ⟨1, _⟩ => rfl | ⟨2, _⟩ => rfl | ⟨3, _⟩ => rfl)).trans ?_
  exact (broadcastInDim_apply _ _ _ _ (ix3 b e k) (fun a => match a with | ⟨0, _⟩ => rfl | ⟨1, _⟩ => rfl | ⟨2, _⟩ => rfl)).trans (batches_at b e k)

/-- The second of a pair is the row number. -/
theorem pairs_row (a1 : IVec S8x1024x32 32) (b : Fin 8) (e : Fin 1024) (k : Fin 32) (h : (a1 (ix3 b e k)).toNat < 4096) :
    pairs a1 (pairIx b e k 1) = a1 (ix3 b e k) := by
  unfold pairs
  refine (concatenate_pair_apply_right (t := S8x1024x32x2) (s₁ := S8x1024x32x1) (s₂ := S8x1024x32x1) 3 _ _ _ (pairIx b e k 1) rfl rfl (ix4 b e k (0 : Fin 1))
    (fun a ha => match a, ha with | ⟨0, _⟩, _ => rfl | ⟨1, _⟩, _ => rfl | ⟨2, _⟩, _ => rfl | ⟨3, _⟩, ha => absurd rfl ha) rfl).trans ?_
  exact (broadcastInDim_apply _ _ _ _ (ix3 b e k) (fun a => match a with | ⟨0, _⟩ => rfl | ⟨1, _⟩ => rfl | ⟨2, _⟩ => rfl)).trans (rows_at a1 _ h)

/-- Zero or one times the large number is what the kernel selects. -/
theorem weights_at (a2 : IVec S8x1024x32 32) (b : Fin 8) (e : Fin 1024) (k : Fin 32) : weights a2 (ix4 b e k (0 : Fin 1)) = weigh Ideal (a2 (ix3 b e k)) := by
  have hm : broadcastInDim S8x1024x32x1 ![0, 1, 2] bcast_S8x1024x32_S8x1024x32x1_0_1_2 a2 (ix4 b e k (0 : Fin 1)) = a2 (ix3 b e k) :=
    broadcastInDim_apply _ _ _ _ (ix3 b e k) (fun a => match a with | ⟨0, _⟩ => rfl | ⟨1, _⟩ => rfl | ⟨2, _⟩ => rfl)
  show FloatOps.mulf (FloatOps.uitofp (F := Ideal) .f32 (IntOp.cmpi .eq (broadcastInDim S8x1024x32x1 ![0, 1, 2] bcast_S8x1024x32_S8x1024x32x1_0_1_2 a2 (ix4 b e k (0 : Fin 1))) 0#32))
    (FloatOps.ofBits .f32 0xF149F2CA#32) = _
  rw [hm]
  unfold weigh
  have hb : ∀ c : BitVec 1, c = 0#1 ∨ c = 1#1 := by decide
  rcases hb (IntOp.cmpi .eq (a2 (ix3 b e k)) 0#32) with h | h <;> rw [h]
  · show ((((0#1).toNat : ℝ) : EReal)) * Ideal.ofBits .f32 0xF149F2CA#32 = Ideal.ofBits .f32 0x00000000#32
    simp
  · show ((((1#1).toNat : ℝ) : EReal)) * Ideal.ofBits .f32 0xF149F2CA#32 = Ideal.ofBits .f32 0xF149F2CA#32
    simp

/-- The maximum of finitely many numbers, and of the least of all, is the running maximum of them. -/
theorem fold_top (x : ℕ → Ideal .f32) : ∀ n : ℕ, (Finset.univ : Finset (Fin (n + 1))).fold FloatOps.maximumf (⊥ : EReal) (fun k => x k.val) = top x n
  | 0 => by
    rw [Fin.univ_castSuccEmb, Finset.fold_cons]
    show max (x 0) (Finset.fold _ ⊥ _ (Finset.map _ Finset.univ)) = x 0
    simp
  | n + 1 => by
    rw [Fin.univ_castSuccEmb, Finset.fold_cons, Finset.fold_map]
    show max (x (n + 1)) ((Finset.univ : Finset (Fin (n + 1))).fold FloatOps.maximumf ⊥ (fun k => x k.val)) = max (top x n) (x (n + 1))
    rw [fold_top x n, max_comm]

/-- The member numbered `k`, the number taken modulo 32. -/
abbrev mem (b : Fin 8) (e : Fin 1024) (k : ℕ) : S8x1024x32.Idx := ix3 b e (Fin.ofNat 32 k)

/-- The reference's result, at a place: the maximum over the members of the row each names in the place's batch, its
    mask's number added. -/
theorem outcome_at (a0 : FVec Ideal S8x4096x128 .f32) (a1 a2 : IVec S8x1024x32 32) (h : ∀ i, (a1 i).toNat < 4096) (b : Fin 8) (e : Fin 1024) (j : Fin 128) :
    outcome a0 a1 a2 (ix3 b e j) = top (fun k => FloatOps.addf (a0 (ix3 b ⟨(a1 (mem b e k)).toNat, h _⟩ j)) (weigh Ideal (a2 (mem b e k)))) 31 := by
  unfold outcome
  rw [Host.reduce_eq_fold, Shape.ReducesTo.fold_fiber_r4_a2, ← fold_top]
  have hbot : (constant S_ .f32 0xFF800000#32 : FVec Ideal S_ .f32) (Shape.Idx.first h_S_) = (⊥ : EReal) := by
    show Ideal.ofBits .f32 0xFF800000#32 = ⊥
    simp [Ideal.ofBits, Ideal.ieee]
  rw [hbot]
  refine congrArg (fun f => Finset.fold (FloatOps.maximumf (F := Ideal) (φ := .f32)) (⊥ : EReal) f Finset.univ) (funext fun k => ?_)
  have hk : (Fin.ofNat 32 k.val) = k := Fin.ext (Nat.mod_eq_of_lt k.isLt)
  show FloatOps.addf (Host.gather G a0 (pairs a1) (ix4 b e k j)) (broadcastInDim S8x1024x32x128 ![0, 1, 2, 3] bcast_S8x1024x32x1_S8x1024x32x128_0_1_2_3 (weights a2) (ix4 b e k j)) = _
  have hs := h (ix3 b e k)
  rw [gather_at a0 (pairs a1) b e k j b ⟨(a1 (ix3 b e k)).toNat, hs⟩ (by rw [pairs_batch]; exact batch_number b) (by
      rw [pairs_row _ _ _ _ hs, BitVec.toInt_eq_toNat_cond]; show _ = (a1 (ix3 b e k)).toNat; split <;> omega)]
  rw [broadcastInDim_apply _ _ (weights a2) (ix4 b e k j) (ix4 b e k (0 : Fin 1)) (fun a => match a with | ⟨0, _⟩ => rfl | ⟨1, _⟩ => rfl | ⟨2, _⟩ => rfl | ⟨3, _⟩ => rfl), weights_at]
  simp only [mem, hk]

/-! ## The run -/

/-- The reference runs to its end, its result as described and its arguments unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = outcome (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Ref

end
-- ==== Proof.Equal.lean ====
/-
  The equation: what the kernel leaves in its result is what the reference computes.
-/
module

public import proofs.«01_k».proof.Proof.Ref

@[expose] public section

noncomputable section

namespace Cert.Equal

open Cert.KernelIdeal Cert.Value Cert.Launch Cert.Host
open Idealize.ShloMosaic

variable (m : (ℓ : Loc nD τ sig) → Buf (Elt Ideal) ℓ)

/-- The kernel's result, at a place: the maximum over the members of the row each names in the place's batch, its
    mask's number added. -/
theorem kernel_at (d : Dev nD) (h : ∀ i, (arg1 m d i).toNat < 4096) (b : Fin 8) (e : Fin 1024) (j : Fin 128) :
    (V3 m d (dev main_v10) : FVec Ideal S8x1024x128 .f32) (ix3 b e j)
      = top (fun k => FloatOps.addf (arg0 m d (ix3 b ⟨(arg1 m d (Ref.mem b e k)).toNat, h _⟩ j)) (weigh Ideal (arg2 m d (Ref.mem b e k)))) 31 := by
  have hb := b.isLt
  have he := e.isLt
  have hj := j.isLt
  have hy : b.val * 1024 + e.val < 8192 := by omega
  rw [result_at m d (ix3 b e j) (pt2 (b.val * 1024 + e.val) j.val) (pt2_row (a := 8192) hy).symm (pt2_col (b := 128) hj).symm]
  unfold Setup.Inp.out result
  refine top_congr fun k hk => ?_
  rw [pt2_row (a := 8192) hy, pt2_col (b := 128) hj]
  have hx : 32 * (b.val * 1024 + e.val) + k < 262144 := by omega
  have hm : (Fin.ofNat 32 k).val = k := Nat.mod_eq_of_lt (by omega)
  have hp : (b.val * 1024 + e.val) * 32 + (Fin.ofNat 32 k).val = ((pt1 (32 * (b.val * 1024 + e.val) + k) : S262144.Idx) 0).val := by
    rw [pt1_val (a := 262144) hx, hm]; omega
  rw [Host.rows_at m d _ (Ref.mem b e k) hp, masks_at m d _ (Ref.mem b e k) hp]
  have hs := h (Ref.mem b e k)
  have hn : (arg1 m d (Ref.mem b e k) + BitVec.ofNat 32 b.val * 4096#32).toNat = b.val * 4096 + (arg1 m d (Ref.mem b e k)).toNat := by
    rw [BitVec.toNat_add, BitVec.toNat_mul, BitVec.toNat_ofNat]
    show ((arg1 m d (Ref.mem b e k)).toNat + b.val % 2 ^ 32 * 4096 % 2 ^ 32) % 2 ^ 32 = _
    omega
  refine congrArg (FloatOps.addf · _) ?_
  refine table_at m d _ _ ?_ ?_
  · show b.val * 4096 + (arg1 m d (Ref.mem b e k)).toNat = ((pt2 (arg1 m d (Ref.mem b e k) + BitVec.ofNat 32 b.val * 4096#32).toNat j.val : S32768x128.Idx) 0).val
    rw [hn, pt2_row (a := 32768) (by omega)]
  · exact (pt2_col (b := 128) hj).symm

/-- The two results are the same array. -/
theorem equal (d : Dev nD) (h : ∀ i, (arg1 m d i).toNat < 4096) :
    (V3 m d (dev main_v10) : FVec Ideal S8x1024x128 .f32) = Ref.outcome (arg0 m d) (arg1 m d) (arg2 m d) := by
  funext i
  rw [eq_ix3 i]
  exact (kernel_at m d h _ _ _).trans (Ref.outcome_at _ _ _ h _ _ _).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Equal
public import Idealize.ShloMosaic.Adequacy
public import Idealize.ShloMosaic.Init

@[expose] public section

noncomputable section

namespace Cert.Proof

open Idealize.ShloMosaic Idealize.SL.Sem

/-- The kernel, over any float values: it runs to its end from row numbers in range, its arguments unchanged, its
    result the one described, every counter at zero. -/
theorem run_kernel {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : ∀ (d : Dev Cert.KernelIdeal.nD) i, (Host.arg1 m d i).toNat < 4096) :
    θ_run (Cert.KernelIdeal.defs (F := F)) (Cert.KernelIdeal.threads (F := F)) ⟨m, fun _ => 0, ρ⟩ fun r =>
      (∀ d : Dev Cert.KernelIdeal.nD, r.2.mem (d, Launch.dev Cert.KernelIdeal.main_v10) = Launch.V3 m d (Launch.dev Cert.KernelIdeal.main_v10)
        ∧ r.2.mem (d, Launch.dev Cert.KernelIdeal.main_arg0) = m (d, Launch.dev Cert.KernelIdeal.main_arg0)
        ∧ r.2.mem (d, Launch.dev Cert.KernelIdeal.main_arg1) = m (d, Launch.dev Cert.KernelIdeal.main_arg1)
        ∧ r.2.mem (d, Launch.dev Cert.KernelIdeal.main_arg2) = m (d, Launch.dev Cert.KernelIdeal.main_arg2))
      ∧ r.2.sem = fun _ => 0 :=
  (θ_run Cert.KernelIdeal.defs _ _).mono
    (fun _ q => ⟨fun d => ⟨q.1 d _ (by unfold Launch.told; simp), (q.1 d _ (by unfold Launch.told; simp)).trans (Host.end_arg0 m d),
      (q.1 d _ (by unfold Launch.told; simp)).trans (Host.end_arg1 m d), (q.1 d _ (by unfold Launch.told; simp)).trans (Host.end_arg2 m d)⟩, q.2⟩)
    (Launch.run_main m ρ fun d => Host.sorted m d (h d))

/-- The kernel's frame. -/
theorem frame_kernel [Cert.Pre_in_range.Facts] : Cert.quiescent_Kernel := fun m ρ hp =>
  (θ_run Cert.KernelIdeal.defs _ _).mono (fun _ q => ⟨fun c => (q.1 c).2, q.2⟩)
    (run_kernel (F := Bits) m ρ fun c => Host.small _ _ _ (hp c))

/-- The ideal kernel's frame. -/
theorem frame_ideal [Cert.Pre_in_range.Facts] : Cert.quiescent_KernelIdeal := fun m ρ hp =>
  (θ_run Cert.KernelIdeal.defs _ _).mono (fun _ q => ⟨fun c => (q.1 c).2, q.2⟩)
    (run_kernel (F := Ideal) m ρ fun c => Host.small _ _ _ (hp c))

/-- The reference's frame: it has no counters. -/
theorem frame_ref : Cert.quiescent_ReferenceIdeal := fun m ρ _ =>
  (θ_run Cert.ReferenceIdeal.defs _ _).mono (fun r q => ⟨fun c => (q c).2, sem_eq_zero_of_no_sems (by decide) r.2⟩) (Ref.run_ref m ρ)

/-- The same frame, of row numbers in range. -/
theorem frame_ref_range [Cert.Pre_in_range.Facts] : Cert.quiescent_ReferenceIdeal_pre_in_range := fun m ρ _ => frame_ref m ρ trivial

/-- Kernel and reference compute the same array over the extended reals. -/
theorem same_value [Cert.Pre_in_range.Facts] : Cert.algebraic_KernelIdeal_ReferenceIdeal := by
  intro m ρ m' ρ' hp ha
  have h : ∀ (d : Dev Cert.KernelIdeal.nD) i, (Host.arg1 m d i).toNat < 4096 := fun c => Host.small _ _ _ (hp c)
  refine ⟨fun c => Launch.V3 m c (Launch.dev Cert.KernelIdeal.main_v10), (θ_run Cert.KernelIdeal.defs _ _).mono (fun _ q => q.1) (run_kernel m ρ h), ?_⟩
  refine (θ_run Cert.ReferenceIdeal.defs _ _).mono (fun _ q c => ⟨(q c).1.trans ?_, (q c).2⟩) (Ref.run_ref m' ρ')
  rw [(ha c).1, (ha c).2.1, (ha c).2.2]
  exact (Equal.equal m c (h c)).symm

/-- All that is claimed. -/
theorem claim : Cert.Claim := ⟨Cert.Kernel.Gen.facts, Cert.KernelIdeal.Gen.facts, Cert.ReferenceIdeal.Gen.facts, Cert.Pre_in_range.Gen.facts,
  frame_kernel, frame_ideal, frame_ref, frame_ref_range, trivial, same_value⟩

end Cert.Proof

end
